-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_perm_permutes [hPre_perm_permutes : Cert.Pre_perm_permutes.Facts] (m : (ℓ : Loc Cert.KernelIdeal.nD Cert.KernelIdeal.τ Cert.KernelIdeal.sig) → Buf (Elt Ideal) ℓ) : Prop :=
  ∀ c : Dev Cert.KernelIdeal.nD,
    (Cert.Pre_perm_permutes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_perm_permutes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_permutes [hPre_perm_permutes : Cert.Pre_perm_permutes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_permutes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_perm_permutes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_perm_permutes [hKernelIdeal : Cert.KernelIdeal.Facts] [hPre_perm_permutes : Cert.Pre_perm_permutes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_permutes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_perm_permutes [hReferenceIdeal : Cert.ReferenceIdeal.Facts] [hPre_perm_permutes : Cert.Pre_perm_permutes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_permutes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x3BCCCCCD#32 ((1 / 160 : ℝ) : EReal)
  ∧ IdealRules.named_const.Statement Cert.KernelIdeal.κ "scale_log2e" .f32 0x3DE995B3#32 (((Real.sqrt 160)⁻¹ * (Real.log 2)⁻¹ : ℝ) : EReal)
  ∧ IdealRules.named_const.Statement Cert.KernelIdeal.κ "bucket_mask" .f32 0xCEABFB8F#32 (((-1000000000) * (Real.log 2)⁻¹ : ℝ) : EReal)
  ∧ IdealRules.named_const.Statement Cert.KernelIdeal.κ "self_mask" .f32 0xC80CE360#32 (((-100000) * (Real.log 2)⁻¹ : ℝ) : EReal)

def algebraic_KernelIdeal_ReferenceIdeal_pre_perm_permutes [hKernelIdeal : Cert.KernelIdeal.Facts] [hReferenceIdeal : Cert.ReferenceIdeal.Facts] [hPre_perm_permutes : Cert.Pre_perm_permutes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_permutes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_perm_permutes : Cert.Pre_perm_permutes.Facts),
    quiescent_Kernel (hKernel := hKernel)
    ∧ quiescent_KernelIdeal (hKernelIdeal := hKernelIdeal)
    ∧ quiescent_KernelIdeal_pre_perm_permutes (hKernelIdeal := hKernelIdeal) (hPre_perm_permutes := hPre_perm_permutes)
    ∧ quiescent_ReferenceIdeal (hReferenceIdeal := hReferenceIdeal)
    ∧ quiescent_ReferenceIdeal_pre_perm_permutes (hReferenceIdeal := hReferenceIdeal) (hPre_perm_permutes := hPre_perm_permutes)
    ∧ preserves_Kernel_KernelIdeal
    ∧ algebraic_KernelIdeal_ReferenceIdeal_pre_perm_permutes (hKernelIdeal := hKernelIdeal) (hReferenceIdeal := hReferenceIdeal) (hPre_perm_permutes := hPre_perm_permutes)
-- ==== Pre_perm_permutes.lean ====
abbrev S2x1024x28x160 : Shape := ⟨4, ![2, 1024, 28, 160]⟩
abbrev S2x1024x28 : Shape := ⟨3, ![2, 1024, 28]⟩
abbrev S2x28x1024 : Shape := ⟨3, ![2, 28, 1024]⟩
abbrev S2x28x1024x1024 : Shape := ⟨4, ![2, 28, 1024, 1024]⟩
abbrev S2x28x1024x1 : Shape := ⟨4, ![2, 28, 1024, 1]⟩
abbrev S2x28x1x1024 : Shape := ⟨4, ![2, 28, 1, 1024]⟩
abbrev S_ : Shape := ⟨0, ![]⟩

class Facts : Prop where
  bcast_S2x28x1024_S2x28x1024x1_0_1_2 : S2x28x1024.BroadcastsInDim S2x28x1024x1 (![0, 1, 2] : Fin 3 → Fin S2x28x1024x1.rank)
  bcast_S2x28x1024_S2x28x1x1024_0_1_3 : S2x28x1024.BroadcastsInDim S2x28x1x1024 (![0, 1, 3] : Fin 3 → Fin S2x28x1x1024.rank)
  bcast_S2x28x1024x1_S2x28x1024x1024_0_1_2_3 : S2x28x1024x1.BroadcastsInDim S2x28x1024x1024 (![0, 1, 2, 3] : Fin 4 → Fin S2x28x1024x1024.rank)
  bcast_S2x28x1x1024_S2x28x1024x1024_0_1_2_3 : S2x28x1x1024.BroadcastsInDim S2x28x1024x1024 (![0, 1, 2, 3] : Fin 4 → Fin S2x28x1024x1024.rank)
  bcast_S_S2x28x1024 : S_.BroadcastsInDim S2x28x1024 (![] : Fin 0 → Fin S2x28x1024.rank)

variable [Facts]

def fn {F : FTy → Type} [FloatOps F] (main_arg0 : FVec F S2x1024x28x160 .fp8e4m3) (main_arg1 : FVec F S2x1024x28 .f32) (main_arg2 : FVec F S2x1024x28x160 .fp8e4m3) (main_arg3 : FVec F S2x1024x28 .f32) (main_arg4 : IVec S2x28x1024 32) (main_arg5 : IVec S2x28x1024 32) : IVec S2x28x1024 1 × IVec S2x28x1024x1024 1 :=
  let main_v0 : IVec S2x28x1024x1024 32 := iotaInDim S2x28x1024x1024 32 2
  let main_v1 : IVec S2x28x1024x1024 32 := iotaInDim S2x28x1024x1024 32 3
  let main_v2 : IVec S2x28x1024x1 32 := broadcastInDim S2x28x1024x1 ![0, 1, 2] bcast_S2x28x1024_S2x28x1024x1_0_1_2 main_arg5
  let main_v3 : IVec S2x28x1x1024 32 := broadcastInDim S2x28x1x1024 ![0, 1, 3] bcast_S2x28x1024_S2x28x1x1024_0_1_3 main_arg5
  let main_v4 : IVec S2x28x1024x1024 32 := broadcastInDim S2x28x1024x1024 ![0, 1, 2, 3] bcast_S2x28x1024x1_S2x28x1024x1024_0_1_2_3 main_v2
  let main_v5 : IVec S2x28x1024x1024 32 := broadcastInDim S2x28x1024x1024 ![0, 1, 2, 3] bcast_S2x28x1x1024_S2x28x1024x1024_0_1_2_3 main_v3
  let main_v6 : IVec S2x28x1024x1024 1 := cmpi .ne main_v4 main_v5
  let main_v7 : IVec S2x28x1024x1024 1 := cmpi .eq main_v0 main_v1
  let main_v8 : IVec S2x28x1024x1024 1 := ori main_v6 main_v7
  let main_c : IVec S_ 32 := constantI S_ 32 0#32
  let main_v9 : IVec S2x28x1024 32 := broadcastInDim S2x28x1024 ![] bcast_S_S2x28x1024 main_c
  let main_v10 : IVec S2x28x1024 1 := cmpi .sge main_arg5 main_v9
  let main_c_0 : IVec S_ 32 := constantI S_ 32 1024#32
  let main_v11 : IVec S2x28x1024 32 := broadcastInDim S2x28x1024 ![] bcast_S_S2x28x1024 main_c_0
  let main_v12 : IVec S2x28x1024 1 := cmpi .slt main_arg5 main_v11
  let main_v13 : IVec S2x28x1024 1 := andi main_v10 main_v12
  (main_v13, main_v8)
-- ==== Kernel.lean ====
abbrev S2x1024x28x160 : Shape := ⟨4, ![2, 1024, 28, 160]⟩
abbrev S2x1024x28 : Shape := ⟨3, ![2, 1024, 28]⟩
abbrev S2x28x1024 : Shape := ⟨3, ![2, 28, 1024]⟩
abbrev S2x28x160x1024 : Shape := ⟨4, ![2, 28, 160, 1024]⟩
abbrev S28x2x1024 : Shape := ⟨3, ![28, 2, 1024]⟩
abbrev S2x1024x4480 : Shape := ⟨3, ![2, 1024, 4480]⟩
abbrev S1x1x160x1024 : Shape := ⟨4, ![1, 1, 160, 1024]⟩
abbrev S1x2x1024 : Shape := ⟨3, ![1, 2, 1024]⟩
abbrev S1x1024x640 : Shape := ⟨3, ![1, 1024, 640]⟩
abbrev S5x8x128 : Shape := ⟨3, ![5, 8, 128]⟩
abbrev S1024x160 : Shape := ⟨2, ![1024, 160]⟩
abbrev S160x1024 : Shape := ⟨2, ![160, 1024]⟩
abbrev S1024x128 : Shape := ⟨2, ![1024, 128]⟩
abbrev S640x1024 : Shape := ⟨2, ![640, 1024]⟩
abbrev S1x1x1024 : Shape := ⟨3, ![1, 1, 1024]⟩
abbrev S1x1024 : Shape := ⟨2, ![1, 1024]⟩
abbrev S16x160 : Shape := ⟨2, ![16, 160]⟩
abbrev S16x1024 : Shape := ⟨2, ![16, 1024]⟩
abbrev S1x128 : Shape := ⟨2, ![1, 128]⟩
abbrev S1x8x128 : Shape := ⟨3, ![1, 8, 128]⟩
abbrev S8x128 : Shape := ⟨2, ![8, 128]⟩
abbrev S8x128x1 : Shape := ⟨3, ![8, 128, 1]⟩
abbrev S128x128 : Shape := ⟨2, ![128, 128]⟩
abbrev S256x1024 : Shape := ⟨2, ![256, 1024]⟩
abbrev S1024x1024 : Shape := ⟨2, ![1024, 1024]⟩
abbrev S160x128 : Shape := ⟨2, ![160, 128]⟩
abbrev S1x256 : Shape := ⟨2, ![1, 256]⟩
abbrev S64x256 : Shape := ⟨2, ![64, 256]⟩
abbrev S256x256 : Shape := ⟨2, ![256, 256]⟩
abbrev S160x256 : Shape := ⟨2, ![160, 256]⟩
abbrev S256x160 : Shape := ⟨2, ![256, 160]⟩
abbrev S64x128 : Shape := ⟨2, ![64, 128]⟩
abbrev S64x160 : Shape := ⟨2, ![64, 160]⟩
abbrev S128x160 : Shape := ⟨2, ![128, 160]⟩
abbrev S128x256 : Shape := ⟨2, ![128, 256]⟩
abbrev S128 : Shape := ⟨1, ![128]⟩
abbrev S256x128 : Shape := ⟨2, ![256, 128]⟩
abbrev S160x64 : Shape := ⟨2, ![160, 64]⟩
abbrev S1024x640 : Shape := ⟨2, ![1024, 640]⟩

abbrev nBuf : Space → Nat
  | .hbm => 13
  | .vmem => 21
  | .smem => 0
  | _ => 0

abbrev bufTy : (tb : Table) → Fin (tcTables nBuf tb) → BufTy
  | .hbm, ⟨0, _⟩ => ⟨S2x1024x28x160, .fp8e4m3⟩
  | .hbm, ⟨1, _⟩ => ⟨S2x1024x28, .f32⟩
  | .hbm, ⟨2, _⟩ => ⟨S2x1024x28x160, .fp8e4m3⟩
  | .hbm, ⟨3, _⟩ => ⟨S2x1024x28, .f32⟩
  | .hbm, ⟨4, _⟩ => ⟨S2x28x1024, .i32⟩
  | .hbm, ⟨5, _⟩ => ⟨S2x28x1024, .i32⟩
  | .hbm, ⟨6, _⟩ => ⟨S2x28x160x1024, .fp8e4m3⟩
  | .hbm, ⟨7, _⟩ => ⟨S2x28x160x1024, .fp8e4m3⟩
  | .hbm, ⟨8, _⟩ => ⟨S28x2x1024, .f32⟩
  | .hbm, ⟨9, _⟩ => ⟨S28x2x1024, .f32⟩
  | .hbm, ⟨10, _⟩ => ⟨S28x2x1024, .i32⟩
  | .hbm, ⟨11, _⟩ => ⟨S28x2x1024, .i32⟩
  | .hbm, ⟨12, _⟩ => ⟨S2x1024x4480, .bf16⟩
  | .local _ .vmem, ⟨0, _⟩ => ⟨S1x1x160x1024, .fp8e4m3⟩
  | .local _ .vmem, ⟨1, _⟩ => ⟨S1x1x160x1024, .fp8e4m3⟩
  | .local _ .vmem, ⟨2, _⟩ => ⟨S1x1x160x1024, .fp8e4m3⟩
  | .local _ .vmem, ⟨3, _⟩ => ⟨S1x1x160x1024, .fp8e4m3⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | .local _ .vmem, ⟨8, _⟩ => ⟨S1x2x1024, .i32⟩
  | .local _ .vmem, ⟨9, _⟩ => ⟨S1x2x1024, .i32⟩
  | .local _ .vmem, ⟨10, _⟩ => ⟨S1x2x1024, .i32⟩
  | .local _ .vmem, ⟨11, _⟩ => ⟨S1x2x1024, .i32⟩
  | .local _ .vmem, ⟨12, _⟩ => ⟨S1x1024x640, .bf16⟩
  | .local _ .vmem, ⟨13, _⟩ => ⟨S1x1024x640, .bf16⟩
  | .local _ .vmem, ⟨14, _⟩ => ⟨S5x8x128, .f32⟩
  | .local _ .vmem, ⟨15, _⟩ => ⟨S1024x160, .fp8e4m3⟩
  | .local _ .vmem, ⟨16, _⟩ => ⟨S160x1024, .bf16⟩
  | .local _ .vmem, ⟨17, _⟩ => ⟨S1024x128, .f32⟩
  | .local _ .vmem, ⟨18, _⟩ => ⟨S1024x128, .f32⟩
  | .local _ .vmem, ⟨19, _⟩ => ⟨S160x1024, .bf16⟩
  | .local _ .vmem, ⟨20, _⟩ => ⟨S640x1024, .bf16⟩
  | _, _ => ⟨S2x1024x28x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 7, 4], ![false, false, false]⟩

def k0_off1 (i : grid0.Coords) : Fin 3 → Nat :=
  let c0_3 : Index := 0#32
  let arg0 : BitVec 32 := BitVec.ofNat 32 (i 0).val
  let v2 : Index := Scalar.indexCast arg0
  let c0_4 : Index := 0#32
  ![0, v2.toNat, 0]
def k0_mult1 (i : grid0.Coords) : BitVec 32 :=
  let arg2 : BitVec 32 := BitVec.ofNat 32 (i 2).val
  let c160_i32 : BitVec 32 := 160#32
  let v1513 : BitVec 32 := Scalar.muli arg2 c160_i32
  v1513
def k0_off2 (i : grid0.Coords) : Fin 2 → Nat :=
  let arg2 : BitVec 32 := BitVec.ofNat 32 (i 2).val
  let c160_i32 : BitVec 32 := 160#32
  let v1513 : BitVec 32 := Scalar.muli arg2 c160_i32
  let v1514 : BitVec 32 := v1513
  let v1515 : Index := Scalar.indexCast v1514
  let c0_621 : Index := 0#32
  ![v1515.toNat, 0]
def k0_cond1 (i : grid0.Coords) : BitVec 1 :=
  let arg2 : BitVec 32 := BitVec.ofNat 32 (i 2).val
  let c3_i32_622 : BitVec 32 := 3#32
  let v1519 : BitVec 1 := Scalar.cmpi .eq arg2 c3_i32_622
  let v1520 : BitVec 32 := Scalar.extui v1519
  let c0_i32_623 : BitVec 32 := 0#32
  let v1521 : BitVec 1 := Scalar.cmpi .ne v1520 c0_i32_623
  v1521

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1x160x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x160x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x2x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x2x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelIdeal.lean ====
variable {F : FTy → Type} [FloatOps F] [Named F]
def κ : String → Option EReal := fun
  | "bucket_mask" => some (((-1000000000) * (Real.log 2)⁻¹ : ℝ) : EReal)
  | "inv_d" => some ((1 / 160 : ℝ) : EReal)
  | "scale_log2e" => some (((Real.sqrt 160)⁻¹ * (Real.log 2)⁻¹ : ℝ) : EReal)
  | "self_mask" => some (((-100000) * (Real.log 2)⁻¹ : ℝ) : EReal)
  | _ => none
-- ==== ReferenceIdeal.lean ====
abbrev S2x1024x28x160 : Shape := ⟨4, ![2, 1024, 28, 160]⟩
abbrev S2x1024x28 : Shape := ⟨3, ![2, 1024, 28]⟩
abbrev S2x28x1024 : Shape := ⟨3, ![2, 28, 1024]⟩
abbrev S2x28x1024x160 : Shape := ⟨4, ![2, 28, 1024, 160]⟩
abbrev S2x28x1024x1 : Shape := ⟨4, ![2, 28, 1024, 1]⟩
abbrev S_ : Shape := ⟨0, ![]⟩
abbrev S2x28x16x64x160 : Shape := ⟨5, ![2, 28, 16, 64, 160]⟩
abbrev S2x28x16x64 : Shape := ⟨4, ![2, 28, 16, 64]⟩
abbrev S2x28x1x64x160 : Shape := ⟨5, ![2, 28, 1, 64, 160]⟩
abbrev S2x28x15x64x160 : Shape := ⟨5, ![2, 28, 15, 64, 160]⟩
abbrev S2x28x16x192x160 : Shape := ⟨5, ![2, 28, 16, 192, 160]⟩
abbrev S2x28x1x64 : Shape := ⟨4, ![2, 28, 1, 64]⟩
abbrev S2x28x15x64 : Shape := ⟨4, ![2, 28, 15, 64]⟩
abbrev S2x28x16x192 : Shape := ⟨4, ![2, 28, 16, 192]⟩
abbrev S2x28x16x64x192 : Shape := ⟨5, ![2, 28, 16, 64, 192]⟩
abbrev S2x28x16x64x1 : Shape := ⟨5, ![2, 28, 16, 64, 1]⟩
abbrev S2x28x16x1x192 : Shape := ⟨5, ![2, 28, 16, 1, 192]⟩
abbrev S2 : Shape := ⟨1, ![2]⟩
abbrev S2x1x1 : Shape := ⟨3, ![2, 1, 1]⟩
abbrev S28 : Shape := ⟨1, ![28]⟩
abbrev S1x28x1 : Shape := ⟨3, ![1, 28, 1]⟩
abbrev S2x28x1024x3 : Shape := ⟨4, ![2, 28, 1024, 3]⟩
abbrev S2x1024x4480 : Shape := ⟨3, ![2, 1024, 4480]⟩

abbrev nBuf : Space → Nat
  | .hbm => 203
  | .vmem => 4
  | .smem => 0
  | _ => 0

abbrev hbmTy0_0 (i : Nat) : BufTy := match i % 128 with
  | 0 => ⟨S2x1024x28x160, .fp8e4m3⟩
  | 1 => ⟨S2x1024x28, .f32⟩
  | 2 => ⟨S2x1024x28x160, .fp8e4m3⟩
  | 3 => ⟨S2x1024x28, .f32⟩
  | 4 => ⟨S2x28x1024, .i32⟩
  | 5 => ⟨S2x28x1024, .i32⟩
  | 6 => ⟨S2x1024x28x160, .f32⟩
  | 7 => ⟨S2x1024x28x160, .f32⟩
  | 8 => ⟨S2x28x1024x160, .f32⟩
  | 9 => ⟨S2x28x1024x160, .f32⟩
  | 10 => ⟨S2x28x1024, .f32⟩
  | 11 => ⟨S2x28x1024, .f32⟩
  | 12 => ⟨S2x28x1024x1, .i32⟩
  | 13 => ⟨S_, .i32⟩
  | 14 => ⟨S2x28x1024x1, .i32⟩
  | 15 => ⟨S2x28x1024x1, .i1⟩
  | 16 => ⟨S_, .i32⟩
  | 17 => ⟨S2x28x1024x1, .i32⟩
  | 18 => ⟨S2x28x1024x1, .i32⟩
  | 19 => ⟨S2x28x1024x1, .i32⟩
  | 20 => ⟨S2x28x1024x160, .f32⟩
  | 21 => ⟨S2x28x16x64x160, .f32⟩
  | 22 => ⟨S_, .i32⟩
  | 23 => ⟨S2x28x1024x1, .i32⟩
  | 24 => ⟨S2x28x1024x1, .i1⟩
  | 25 => ⟨S_, .i32⟩
  | 26 => ⟨S2x28x1024x1, .i32⟩
  | 27 => ⟨S2x28x1024x1, .i32⟩
  | 28 => ⟨S2x28x1024x1, .i32⟩
  | 29 => ⟨S2x28x1024x160, .f32⟩
  | 30 => ⟨S2x28x16x64x160, .f32⟩
  | 31 => ⟨S_, .i32⟩
  | 32 => ⟨S2x28x1024, .i32⟩
  | 33 => ⟨S2x28x1024, .i1⟩
  | 34 => ⟨S_, .i32⟩
  | 35 => ⟨S2x28x1024, .i32⟩
  | 36 => ⟨S2x28x1024, .i32⟩
  | 37 => ⟨S2x28x1024, .i32⟩
  | 38 => ⟨S2x28x1024x1, .i32⟩
  | 39 => ⟨S2x28x1024, .f32⟩
  | 40 => ⟨S2x28x16x64, .f32⟩
  | 41 => ⟨S_, .i32⟩
  | 42 => ⟨S2x28x1024, .i32⟩
  | 43 => ⟨S2x28x1024, .i1⟩
  | 44 => ⟨S_, .i32⟩
  | 45 => ⟨S2x28x1024, .i32⟩
  | 46 => ⟨S2x28x1024, .i32⟩
  | 47 => ⟨S2x28x1024, .i32⟩
  | 48 => ⟨S2x28x1024x1, .i32⟩
  | 49 => ⟨S2x28x1024, .f32⟩
  | 50 => ⟨S2x28x16x64, .f32⟩
  | 51 => ⟨S_, .i32⟩
  | 52 => ⟨S2x28x1024, .i32⟩
  | 53 => ⟨S2x28x1024, .i1⟩
  | 54 => ⟨S_, .i32⟩
  | 55 => ⟨S2x28x1024, .i32⟩
  | 56 => ⟨S2x28x1024, .i32⟩
  | 57 => ⟨S2x28x1024, .i32⟩
  | 58 => ⟨S2x28x1024x1, .i32⟩
  | 59 => ⟨S2x28x1024, .i32⟩
  | 60 => ⟨S2x28x16x64, .i32⟩
  | 61 => ⟨S2x28x16x64, .i32⟩
  | 62 => ⟨S2x28x16x64x160, .f32⟩
  | 63 => ⟨S_, .f32⟩
  | 64 => ⟨S2x28x16x64, .f32⟩
  | 65 => ⟨S_, .f32⟩
  | 66 => ⟨S2x28x16x64, .f32⟩
  | 67 => ⟨S2x28x16x64, .f32⟩
  | 68 => ⟨S2x28x16x64, .f32⟩
  | 69 => ⟨S2x28x16x64, .f32⟩
  | 70 => ⟨S_, .f32⟩
  | 71 => ⟨S2x28x16x64, .f32⟩
  | 72 => ⟨S2x28x16x64, .f32⟩
  | 73 => ⟨S2x28x16x64, .f32⟩
  | 74 => ⟨S2x28x16x64, .f32⟩
  | 75 => ⟨S_, .f32⟩
  | 76 => ⟨S_, .f32⟩
  | 77 => ⟨S2x28x16x64, .f32⟩
  | 78 => ⟨S2x28x16x64, .f32⟩
  | 79 => ⟨S2x28x1x64x160, .f32⟩
  | 80 => ⟨S2x28x15x64x160, .f32⟩
  | 81 => ⟨S2x28x16x64x160, .f32⟩
  | 82 => ⟨S2x28x15x64x160, .f32⟩
  | 83 => ⟨S2x28x1x64x160, .f32⟩
  | 84 => ⟨S2x28x16x64x160, .f32⟩
  | 85 => ⟨S2x28x16x192x160, .f32⟩
  | 86 => ⟨S2x28x1x64, .f32⟩
  | 87 => ⟨S2x28x15x64, .f32⟩
  | 88 => ⟨S2x28x16x64, .f32⟩
  | 89 => ⟨S2x28x15x64, .f32⟩
  | 90 => ⟨S2x28x1x64, .f32⟩
  | 91 => ⟨S2x28x16x64, .f32⟩
  | 92 => ⟨S2x28x16x192, .f32⟩
  | 93 => ⟨S2x28x1x64x160, .f32⟩
  | 94 => ⟨S2x28x15x64x160, .f32⟩
  | 95 => ⟨S2x28x16x64x160, .f32⟩
  | 96 => ⟨S2x28x15x64x160, .f32⟩
  | 97 => ⟨S2x28x1x64x160, .f32⟩
  | 98 => ⟨S2x28x16x64x160, .f32⟩
  | 99 => ⟨S2x28x16x192x160, .f32⟩
  | 100 => ⟨S2x28x1x64, .f32⟩
  | 101 => ⟨S2x28x15x64, .f32⟩
  | 102 => ⟨S2x28x16x64, .f32⟩
  | 103 => ⟨S2x28x15x64, .f32⟩
  | 104 => ⟨S2x28x1x64, .f32⟩
  | 105 => ⟨S2x28x16x64, .f32⟩
  | 106 => ⟨S2x28x16x192, .f32⟩
  | 107 => ⟨S2x28x1x64, .i32⟩
  | 108 => ⟨S2x28x15x64, .i32⟩
  | 109 => ⟨S2x28x16x64, .i32⟩
  | 110 => ⟨S2x28x15x64, .i32⟩
  | 111 => ⟨S2x28x1x64, .i32⟩
  | 112 => ⟨S2x28x16x64, .i32⟩
  | 113 => ⟨S2x28x16x192, .i32⟩
  | 114 => ⟨S2x28x1x64, .i32⟩
  | 115 => ⟨S2x28x15x64, .i32⟩
  | 116 => ⟨S2x28x16x64, .i32⟩
  | 117 => ⟨S2x28x15x64, .i32⟩
  | 118 => ⟨S2x28x1x64, .i32⟩
  | 119 => ⟨S2x28x16x64, .i32⟩
  | 120 => ⟨S2x28x16x192, .i32⟩
  | 121 => ⟨S2x28x16x64x192, .f32⟩
  | 122 => ⟨S2x28x16x64x1, .f32⟩
  | 123 => ⟨S2x28x16x64x192, .f32⟩
  | 124 => ⟨S2x28x16x64x192, .f32⟩
  | 125 => ⟨S2x28x16x1x192, .f32⟩
  | 126 => ⟨S2x28x16x64x192, .f32⟩
  | 127 => ⟨S2x28x16x64x192, .f32⟩
  | _ => ⟨S2x1024x28x160, .fp8e4m3⟩

abbrev hbmTy0_1 (i : Nat) : BufTy := match i % 128 with
  | 0 => ⟨S2x28x16x64x1, .i32⟩
  | 1 => ⟨S2x28x16x1x192, .i32⟩
  | 2 => ⟨S2x28x16x64x192, .i32⟩
  | 3 => ⟨S2x28x16x64x192, .i32⟩
  | 4 => ⟨S2x28x16x64x192, .i1⟩
  | 5 => ⟨S2x28x16x64x1, .i32⟩
  | 6 => ⟨S2x28x16x1x192, .i32⟩
  | 7 => ⟨S2x28x16x64x192, .i32⟩
  | 8 => ⟨S2x28x16x64x192, .i32⟩
  | 9 => ⟨S2x28x16x64x192, .i1⟩
  | 10 => ⟨S_, .f32⟩
  | 11 => ⟨S_, .f32⟩
  | 12 => ⟨S2x28x16x64x192, .f32⟩
  | 13 => ⟨S2x28x16x64x192, .f32⟩
  | 14 => ⟨S_, .f32⟩
  | 15 => ⟨S_, .f32⟩
  | 16 => ⟨S2x28x16x64x192, .f32⟩
  | 17 => ⟨S2x28x16x64x192, .f32⟩
  | 18 => ⟨S_, .f32⟩
  | 19 => ⟨S2x28x16x64, .f32⟩
  | 20 => ⟨S2x28x16x64x1, .f32⟩
  | 21 => ⟨S2x28x16x64x192, .f32⟩
  | 22 => ⟨S2x28x16x64x192, .f32⟩
  | 23 => ⟨S2x28x16x64x192, .f32⟩
  | 24 => ⟨S_, .f32⟩
  | 25 => ⟨S2x28x16x64, .f32⟩
  | 26 => ⟨S2x28x16x64x1, .f32⟩
  | 27 => ⟨S_, .f32⟩
  | 28 => ⟨S2x28x16x64x1, .f32⟩
  | 29 => ⟨S2x28x16x64x1, .f32⟩
  | 30 => ⟨S2x28x16x64x192, .f32⟩
  | 31 => ⟨S2x28x16x64x192, .f32⟩
  | 32 => ⟨S2x28x16x1x192, .f32⟩
  | 33 => ⟨S2x28x16x64x192, .f32⟩
  | 34 => ⟨S2x28x16x64x192, .f32⟩
  | 35 => ⟨S2x28x16x64x192, .bf16⟩
  | 36 => ⟨S2x28x16x192x160, .bf16⟩
  | 37 => ⟨S2x28x16x64x160, .f32⟩
  | 38 => ⟨S2x28x1024x160, .f32⟩
  | 39 => ⟨S2, .i32⟩
  | 40 => ⟨S2x1x1, .i32⟩
  | 41 => ⟨S28, .i32⟩
  | 42 => ⟨S1x28x1, .i32⟩
  | 43 => ⟨S_, .f32⟩
  | 44 => ⟨S2x1024x28x160, .f32⟩
  | 45 => ⟨S_, .i32⟩
  | 46 => ⟨S2x1x1, .i32⟩
  | 47 => ⟨S2x1x1, .i1⟩
  | 48 => ⟨S_, .i32⟩
  | 49 => ⟨S2x1x1, .i32⟩
  | 50 => ⟨S2x1x1, .i32⟩
  | 51 => ⟨S2x1x1, .i32⟩
  | 52 => ⟨S_, .i32⟩
  | 53 => ⟨S2x28x1024, .i32⟩
  | 54 => ⟨S2x28x1024, .i1⟩
  | 55 => ⟨S_, .i32⟩
  | 56 => ⟨S2x28x1024, .i32⟩
  | 57 => ⟨S2x28x1024, .i32⟩
  | 58 => ⟨S2x28x1024, .i32⟩
  | 59 => ⟨S_, .i32⟩
  | 60 => ⟨S1x28x1, .i32⟩
  | 61 => ⟨S1x28x1, .i1⟩
  | 62 => ⟨S_, .i32⟩
  | 63 => ⟨S1x28x1, .i32⟩
  | 64 => ⟨S1x28x1, .i32⟩
  | 65 => ⟨S1x28x1, .i32⟩
  | 66 => ⟨S2x28x1024, .i32⟩
  | 67 => ⟨S2x28x1024, .i32⟩
  | 68 => ⟨S2x28x1024x1, .i32⟩
  | 69 => ⟨S2x28x1024x1, .i32⟩
  | 70 => ⟨S2x28x1024x1, .i32⟩
  | 71 => ⟨S2x28x1024x3, .i32⟩
  | 72 => ⟨S2x1024x28x160, .f32⟩
  | 73 => ⟨S2x1024x4480, .f32⟩
  | 74 => ⟨S2x1024x4480, .bf16⟩
  | _ => ⟨S2x1024x28x160, .fp8e4m3⟩

abbrev hbmTy (i : Nat) : BufTy := match i / 128 with
  | 0 => hbmTy0_0 i
  | 1 => hbmTy0_1 i
  | _ => ⟨S2x1024x28x160, .fp8e4m3⟩

abbrev bufTy : (tb : Table) → Fin (tcTables nBuf tb) → BufTy
  | .hbm, ⟨i, _⟩ => hbmTy i
  | .local _ .vmem, ⟨0, _⟩ => ⟨S2x1024x28x160, .fp8e4m3⟩
  | .local _ .vmem, ⟨1, _⟩ => ⟨S2x1024x28x160, .fp8e4m3⟩
  | .local _ .vmem, ⟨2, _⟩ => ⟨S2x1024x28x160, .f32⟩
  | .local _ .vmem, ⟨3, _⟩ => ⟨S2x1024x28x160, .f32⟩
  | _, _ => ⟨S2x1024x28x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_v7 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v8 : Ref sig .tc := ⟨.hbm, 29, rfl⟩
abbrev main_v9 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_v10 : Ref sig .tc := ⟨.hbm, 39, rfl⟩
abbrev main_v11 : Ref sig .tc := ⟨.hbm, 40, rfl⟩
abbrev main_call3_c : Ref sig .tc := ⟨.hbm, 41, rfl⟩
abbrev main_call3_v0 : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_v5 : Ref sig .tc := ⟨.hbm, 48, rfl⟩
abbrev main_v12 : Ref sig .tc := ⟨.hbm, 49, rfl⟩
abbrev main_v13 : Ref sig .tc := ⟨.hbm, 50, rfl⟩
abbrev main_call4_c : Ref sig .tc := ⟨.hbm, 51, rfl⟩
abbrev main_call4_v0 : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst : Ref sig .tc := ⟨.hbm, 63, rfl⟩
abbrev main_v18 : Ref sig .tc := ⟨.hbm, 64, rfl⟩
abbrev main_cst_0 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_1 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_cst_2 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_call5_v0 : Ref sig .tc := ⟨.hbm, 79, rfl⟩
abbrev main_call5_v1 : Ref sig .tc := ⟨.hbm, 80, rfl⟩
abbrev main_v30 : Ref sig .tc := ⟨.hbm, 81, rfl⟩
abbrev main_call6_v0 : Ref sig .tc := ⟨.hbm, 82, rfl⟩
abbrev main_call6_v1 : Ref sig .tc := ⟨.hbm, 83, rfl⟩
abbrev main_v31 : Ref sig .tc := ⟨.hbm, 84, rfl⟩
abbrev main_v32 : Ref sig .tc := ⟨.hbm, 85, rfl⟩
abbrev main_call7_v0 : Ref sig .tc := ⟨.hbm, 86, rfl⟩
abbrev main_call7_v1 : Ref sig .tc := ⟨.hbm, 87, rfl⟩
abbrev main_v33 : Ref sig .tc := ⟨.hbm, 88, rfl⟩
abbrev main_call8_v0 : Ref sig .tc := ⟨.hbm, 89, rfl⟩
abbrev main_call8_v1 : Ref sig .tc := ⟨.hbm, 90, rfl⟩
abbrev main_v34 : Ref sig .tc := ⟨.hbm, 91, rfl⟩
abbrev main_v35 : Ref sig .tc := ⟨.hbm, 92, rfl⟩
abbrev main_call9_v0 : Ref sig .tc := ⟨.hbm, 93, rfl⟩
abbrev main_call9_v1 : Ref sig .tc := ⟨.hbm, 94, rfl⟩
abbrev main_v36 : Ref sig .tc := ⟨.hbm, 95, rfl⟩
abbrev main_call10_v0 : Ref sig .tc := ⟨.hbm, 96, rfl⟩
abbrev main_call10_v1 : Ref sig .tc := ⟨.hbm, 97, rfl⟩
abbrev main_v37 : Ref sig .tc := ⟨.hbm, 98, rfl⟩
abbrev main_v38 : Ref sig .tc := ⟨.hbm, 99, rfl⟩
abbrev main_call11_v0 : Ref sig .tc := ⟨.hbm, 100, rfl⟩
abbrev main_call11_v1 : Ref sig .tc := ⟨.hbm, 101, rfl⟩
abbrev main_v39 : Ref sig .tc := ⟨.hbm, 102, rfl⟩
abbrev main_call12_v0 : Ref sig .tc := ⟨.hbm, 103, rfl⟩
abbrev main_call12_v1 : Ref sig .tc := ⟨.hbm, 104, rfl⟩
abbrev main_v40 : Ref sig .tc := ⟨.hbm, 105, rfl⟩
abbrev main_v41 : Ref sig .tc := ⟨.hbm, 106, rfl⟩
abbrev main_call13_v0 : Ref sig .tc := ⟨.hbm, 107, rfl⟩
abbrev main_call13_v1 : Ref sig .tc := ⟨.hbm, 108, rfl⟩
abbrev main_v42 : Ref sig .tc := ⟨.hbm, 109, rfl⟩
abbrev main_call14_v0 : Ref sig .tc := ⟨.hbm, 110, rfl⟩
abbrev main_call14_v1 : Ref sig .tc := ⟨.hbm, 111, rfl⟩
abbrev main_v43 : Ref sig .tc := ⟨.hbm, 112, rfl⟩
abbrev main_v44 : Ref sig .tc := ⟨.hbm, 113, rfl⟩
abbrev main_call15_v0 : Ref sig .tc := ⟨.hbm, 114, rfl⟩
abbrev main_call15_v1 : Ref sig .tc := ⟨.hbm, 115, rfl⟩
abbrev main_v45 : Ref sig .tc := ⟨.hbm, 116, rfl⟩
abbrev main_call16_v0 : Ref sig .tc := ⟨.hbm, 117, rfl⟩
abbrev main_call16_v1 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_cst_3 : Ref sig .tc := ⟨.hbm, 138, rfl⟩
abbrev main_call17_v0 : Ref sig .tc := ⟨.hbm, 139, rfl⟩
abbrev main_call17_v1 : Ref sig .tc := ⟨.hbm, 140, rfl⟩
abbrev main_v65 : Ref sig .tc := ⟨.hbm, 141, rfl⟩
abbrev main_cst_4 : Ref sig .tc := ⟨.hbm, 142, rfl⟩
abbrev main_call18_v0 : Ref sig .tc := ⟨.hbm, 143, rfl⟩
abbrev main_call18_v1 : Ref sig .tc := ⟨.hbm, 144, rfl⟩
abbrev main_v66 : Ref sig .tc := ⟨.hbm, 145, rfl⟩
abbrev main_cst_5 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_cst_6 : Ref sig .tc := ⟨.hbm, 152, rfl⟩
abbrev main_v72 : Ref sig .tc := ⟨.hbm, 153, rfl⟩
abbrev main_v73 : Ref sig .tc := ⟨.hbm, 154, rfl⟩
abbrev main_cst_7 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_cst_8 : Ref sig .tc := ⟨.hbm, 171, rfl⟩
abbrev main_v89 : Ref sig .tc := ⟨.hbm, 172, rfl⟩
abbrev main_c : Ref sig .tc := ⟨.hbm, 173, rfl⟩
abbrev main_v90 : Ref sig .tc := ⟨.hbm, 174, rfl⟩
abbrev main_v91 : Ref sig .tc := ⟨.hbm, 175, rfl⟩
abbrev main_c_9 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_c_10 : Ref sig .tc := ⟨.hbm, 180, rfl⟩
abbrev main_v95 : Ref sig .tc := ⟨.hbm, 181, rfl⟩
abbrev main_v96 : Ref sig .tc := ⟨.hbm, 182, rfl⟩
abbrev main_c_11 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_c_12 : Ref sig .tc := ⟨.hbm, 187, rfl⟩
abbrev main_v100 : Ref sig .tc := ⟨.hbm, 188, rfl⟩
abbrev main_v101 : Ref sig .tc := ⟨.hbm, 189, rfl⟩
abbrev main_c_13 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x1024x28x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x28x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x28x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x28x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BitsRuns.lean ====
/-
What the runs of the kernel at machine precision share: the contents of the arrays when the call begins, the blocks
of the windows, and where the branch of the body is taken.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- the long axes of the blocks
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 3 (mod 4) — by arithmetic of the point. -/
theorem hcond0_0 : ∀ t : Fin cfg0.N, cond0_0 (grid0.coords t) ↔ t.val % 4 = 3 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 4 % 7 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1x160x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x160x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x640 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5x8x128 .f32 := Memref.whole cc0_scratch0
abbrev scM0_1 : Memref sig .tc .vmem S1024x160 .fp8e4m3 := Memref.whole cc0_scratch1
abbrev scM0_2 : Memref sig .tc .vmem S160x1024 .bf16 := Memref.whole cc0_scratch2
abbrev scM0_3 : Memref sig .tc .vmem S1024x128 .f32 := Memref.whole cc0_scratch3
abbrev scM0_4 : Memref sig .tc .vmem S1024x128 .f32 := Memref.whole cc0_scratch4
abbrev scM0_5 : Memref sig .tc .vmem S160x1024 .bf16 := Memref.whole cc0_scratch5
abbrev scM0_6 : Memref sig .tc .vmem S640x1024 .bf16 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Hand

end
-- ==== Proof.BitsRunA.lean ====
/-
The run of the body at a point where it does not write the output block.
-/
module

public import proofs.«01_k».proof.Proof.BitsRuns

@[expose] public section

-- the long axes of the blocks
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2096000 in set_option sl_exec.squeezeSlice true in
/-- The body's triple IN CASE A (`scf.if` 0 not taken: points 0, 1, … 54: 42 of 56): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole) (hc0 : ¬cond0_0 i)
    (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_lsh_attention i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_lsh_attention_eq_skeleton]; unfold cc0_lsh_attention_skel
    simp only [k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Hand

end
-- ==== Proof.BitsRunB.lean ====
/-
The run of the body at a point where it writes the output block.
-/
module

public import proofs.«01_k».proof.Proof.BitsRunA

@[expose] public section

-- the long axes of the blocks
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2112000 in set_option sl_exec.squeezeSlice true in
/-- The body's triple IN CASE B (`scf.if` 0 taken: points 3, 7, … 55: 14 of 56): on whole staging memrefs — the inputs' at their contents,
    the FORGOTTEN outputs' (6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole) (hc0 : cond0_0 i)
    (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_lsh_attention i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_lsh_attention_eq_skeleton]; unfold cc0_lsh_attention_skel
    simp only [k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Hand

end
-- ==== Proof.BitsFrame.lean ====
/-
The kernel at machine precision ends with its arguments unchanged and every semaphore at zero.
-/
module

public import proofs.«01_k».proof.Proof.BitsRunB
public import Idealize.ShloMosaic.Lib.Claim

@[expose] public section

-- the long axes of the blocks
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows whose contents this frame leaves unnamed (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 56 := lt_of_lt_of_eq t.isLt (show cfg0.N = 56 from N_0)
  by_cases h0 : t.val % 4 = 3
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]
        · iexact HS0
        isplitl [HS1]
        · iexact HS1
        isplitl [HS2]
        · iexact HS2
        isplitl [HS3]
        · iexact HS3
        isplitl [HS4]
        · iexact HS4
        isplitl [HS5]
        · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]
        · iexact HS0
        isplitl [HS1]
        · iexact HS1
        isplitl [HS2]
        · iexact HS2
        isplitl [HS3]
        · iexact HS3
        isplitl [HS4]
        · iexact HS4
        isplitl [HS5]
        · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.Body.lean ====
/-
  What the body of the kernel computes for one head, run once for both of its branches: the part of the body before
  the head's rows are stored and the group is (or is not) written out.
-/
module

public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in set_option sl_exec.squeezeSlice true in set_option sl_exec.resultNames true in
/-- The one-hot matrix of the permutation and the head's output in sorted order, transposed, as the body leaves them in
    its registers, WITH the proof that it runs to there: on whole memrefs, the inputs' at their blocks and the scratch
    at anything. -/
def headRun (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
    (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32) :
    Σ' (W1 : FVec F S1024x1024 .fp8e4m3), { W2 : Vec F S160x1024 .bf16 //
      ∀ (E : Set ℕ) (K : (Σ' (arg2 : BitVec 32) (v849 : FVec F S1024x1024 .fp8e4m3), Vec F S160x1024 .bf16) → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨BitVec.ofNat 32 (i 2).val, W1, W2⟩))
          ⊢ wp frame (wpE (defs₀ (F := F)) Variants.none c none) E (k0_part38 i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    unfold k0_part38_skel
    sl_exec!
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Hand

end
-- ==== Proof.Model.lean ====
/-
  What one block of four chunks computes, as one function: the scores of two tiles of 128 queries against their own
  tile and the neighbouring chunk, the softmax weights and the weighted sums. All four blocks of a head are this
  function of their own operands.
-/
module

public import proofs.«01_k».proof.Proof.Body
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic

variable {F : FTy → Type} [FloatOps F] [Named F]

/-- Which of a tile's 128 queries lie in its first (even) chunk. -/
def mEven : IVec S64x128 1 := cmpi .slt (iota .tc S64x128 32 [1] iota_S64x128_d1_w32) (broadcast S64x128 64#32)

/-- The diagonal: a query against itself. -/
def mDiag : IVec S128x128 1 := cmpi .eq (iota .tc S128x128 32 [0] iota_S128x128_d0_w32) (iota .tc S128x128 32 [1] iota_S128x128_d1_w32)

/-- Scores of a tile's queries against the tile's own keys. -/
def mS0 (d kf bk : FVec F S128x128 .f32) (qf bq : FVec F S1x128 .f32) : FVec F S128x128 .f32 :=
  select mDiag (broadcast S128x128 (Named.named κ "self_mask" 0xC80CE360#32 : F .f32))
    (select (cmpf .oeq bk (broadcastTo S128x128 bq broadcasts_S1x128_S128x128))
      (mulf (mulf d kf) (broadcastTo S128x128 qf broadcasts_S1x128_S128x128))
      (broadcast S128x128 (Named.named κ "bucket_mask" 0xCEABFB8F#32 : F .f32)))

/-- Scores of a tile's queries against the chunk before (even queries) or after (odd queries) the tile. -/
def mS1 (db da kfb kfa bkb bka : FVec F S64x128 .f32) (qf bq : FVec F S1x128 .f32) : FVec F S64x128 .f32 :=
  select (cmpf .oeq (select mEven bkb bka) (broadcastTo S64x128 bq broadcasts_S1x128_S64x128))
    (mulf (mulf (select mEven db da) (select mEven kfb kfa)) (broadcastTo S64x128 qf broadcasts_S1x128_S64x128))
    (broadcast S64x128 (Named.named κ "bucket_mask" 0xCEABFB8F#32 : F .f32))

/-- Each query's greatest score. -/
def mMax (s0 : FVec F S128x128 .f32) (s1 : FVec F S64x128 .f32) : FVec F S1x128 .f32 :=
  maximumf (shapeCast S1x128 (multiReduction .maximumf [0] S128 s0 0xFF800000#32 reduces_S128x128_S128 (.inl rfl) rfl) shapeCasts_S128_S1x128)
    (shapeCast S1x128 (multiReduction .maximumf [0] S128 s1 0xFF800000#32 reduces_S64x128_S128 (.inl rfl) rfl) shapeCasts_S128_S1x128)

def mE0 (s0 : FVec F S128x128 .f32) (s1 : FVec F S64x128 .f32) : FVec F S128x128 .f32 :=
  exp2 (subf s0 (broadcastTo S128x128 (mMax s0 s1) broadcasts_S1x128_S128x128))

def mE1 (s0 : FVec F S128x128 .f32) (s1 : FVec F S64x128 .f32) : FVec F S64x128 .f32 :=
  exp2 (subf s1 (broadcastTo S64x128 (mMax s0 s1) broadcasts_S1x128_S64x128))

/-- Each query's sum of weights. -/
def mSum (e0 : FVec F S128x128 .f32) (e1 : FVec F S64x128 .f32) : FVec F S1x128 .f32 :=
  addf (shapeCast S1x128 (multiReduction .add [0] S128 e0 0x00000000#32 reduces_S128x128_S128 (.inl rfl) rfl) shapeCasts_S128_S1x128)
    (shapeCast S1x128 (multiReduction .add [0] S128 e1 0x00000000#32 reduces_S64x128_S128 (.inl rfl) rfl) shapeCasts_S128_S1x128)

def mZero : FVec F S64x128 .bf16 := broadcast S64x128 (Scalar.ofBits .bf16 0x0000#16 : F .bf16)

def mBefore (e1 : FVec F S64x128 .f32) : FVec F S64x128 .bf16 :=
  truncf .bf16 (select mEven e1 (broadcast S64x128 (Scalar.ofBits .f32 0x00000000#32 : F .f32))) bitsLt_bf16_f32

def mAfter (e1 : FVec F S64x128 .f32) : FVec F S64x128 .bf16 :=
  truncf .bf16 (select mEven (broadcast S64x128 (Scalar.ofBits .f32 0x00000000#32 : F .f32)) e1) bitsLt_bf16_f32

/-- The weights against the block's own 256 keys. -/
def mMain (e0 : FVec F S128x128 .f32) (e1 : FVec F S64x128 .f32) (e0' : FVec F S128x128 .f32) (e1' : FVec F S64x128 .f32) : FVec F S256x256 .bf16 :=
  concatenate S256x256 1
    [⟨S256x128, concatenate S256x128 0 [⟨S128x128, truncf .bf16 e0 bitsLt_bf16_f32⟩, ⟨S64x128, mAfter e1⟩, ⟨S64x128, mZero (F := F)⟩] concatenates_S128x128_S64x128_S64x128_S256x128_d0⟩,
     ⟨S256x128, concatenate S256x128 0 [⟨S64x128, mZero (F := F)⟩, ⟨S64x128, mBefore e1'⟩, ⟨S128x128, truncf .bf16 e0' bitsLt_bf16_f32⟩] concatenates_S64x128_S64x128_S128x128_S256x128_d0⟩]
    concatenates_S256x128_S256x128_S256x256_d1

/-- The weights against the chunks before and after the block. -/
def mEdge (e1 e1' : FVec F S64x128 .f32) : FVec F S128x256 .bf16 :=
  concatenate S128x256 1
    [⟨S128x128, concatenate S128x128 0 [⟨S64x128, mBefore e1⟩, ⟨S64x128, mZero (F := F)⟩] concatenates_S64x128_S64x128_S128x128_d0⟩,
     ⟨S128x128, concatenate S128x128 0 [⟨S64x128, mZero (F := F)⟩, ⟨S64x128, mAfter e1'⟩] concatenates_S64x128_S64x128_S128x128_d0⟩]
    concatenates_S128x128_S128x128_S128x256_d1

/-- The products of the block's 256 keys with each other. -/
def mDm (q : FVec F S256x160 .fp8e4m3) : FVec F S256x256 .f32 :=
  matmul dot_S256x160_S256x160_S256x256_1_1_0_0_n_n none q q (constant S256x256 .f32 0x00000000#32)

/-- The products of the chunks before and after with the block's 256 queries. -/
def mDe (q : FVec F S256x160 .fp8e4m3) (lo hi : FVec F S64x160 .fp8e4m3) : FVec F S128x256 .f32 :=
  matmul dot_S128x160_S256x160_S128x256_1_1_0_0_n_n none
    (concatenate S128x160 0 [⟨S64x160, lo⟩, ⟨S64x160, hi⟩] concatenates_S64x160_S64x160_S128x160_d0) q (constant S128x256 .f32 0x00000000#32)

/-- The weighted sums, normalised. -/
def mOut (vm : FVec F S160x256 .bf16) (vlo vhi : FVec F S160x64 .bf16) (s00 : FVec F S128x128 .f32) (s01 : FVec F S64x128 .f32)
    (s10 : FVec F S128x128 .f32) (s11 : FVec F S64x128 .f32) : FVec F S160x256 .bf16 :=
  shapeCast S160x256
    (truncf .bf16
      (mulf
        (addf
          (matmul dot_S160x256_S256x256_S160x256_1_0_0_1_n_n none vm (mMain (mE0 s00 s01) (mE1 s00 s01) (mE0 s10 s11) (mE1 s10 s11)) (constant S160x256 .f32 0x00000000#32))
          (matmul dot_S160x128_S128x256_S160x256_1_0_0_1_n_n none
            (concatenate S160x128 1 [⟨S160x64, vlo⟩, ⟨S160x64, vhi⟩] concatenates_S160x64_S160x64_S160x128_d1)
            (mEdge (mE1 s00 s01) (mE1 s10 s11)) (constant S160x256 .f32 0x00000000#32)))
        (broadcastTo S160x256
          (divf (broadcast S1x256 (Scalar.ofBits .f32 0x3F800000#32 : F .f32))
            (concatenate S1x256 1 [⟨S1x128, mSum (mE0 s00 s01) (mE1 s00 s01)⟩, ⟨S1x128, mSum (mE0 s10 s11) (mE1 s10 s11)⟩] concatenates_S1x128_S1x128_S1x256_d1))
          broadcasts_S1x256_S160x256)) bitsLt_bf16_f32) shapeCasts_S160x256_S160x256

/-- One block: from its keys, those of the chunks before and after, the key factors and buckets down the rows, the
    query factors and buckets along the lanes, and the values. -/
def mBlk (q : FVec F S256x160 .fp8e4m3) (lo hi : FVec F S64x160 .fp8e4m3)
    (kf0 bk0 : FVec F S128x128 .f32) (kfb0 kfa0 bkb0 bka0 : FVec F S64x128 .f32) (qf0 bq0 : FVec F S1x128 .f32)
    (kf1 bk1 : FVec F S128x128 .f32) (kfb1 kfa1 bkb1 bka1 : FVec F S64x128 .f32) (qf1 bq1 : FVec F S1x128 .f32)
    (vm : FVec F S160x256 .bf16) (vlo vhi : FVec F S160x64 .bf16) : FVec F S160x256 .bf16 :=
  mOut vm vlo vhi
    (mS0 (extractStridedSlice S128x128 ![0, 0] (mDm q) slices_S256x256_o0_0_S128x128) kf0 bk0 qf0 bq0)
    (mS1 (extractStridedSlice S64x128 ![0, 0] (mDe q lo hi) slices_S128x256_o0_0_S64x128)
      (extractStridedSlice S64x128 ![128, 0] (mDm q) slices_S256x256_o128_0_S64x128) kfb0 kfa0 bkb0 bka0 qf0 bq0)
    (mS0 (extractStridedSlice S128x128 ![128, 128] (mDm q) slices_S256x256_o128_128_S128x128) kf1 bk1 qf1 bq1)
    (mS1 (extractStridedSlice S64x128 ![64, 128] (mDm q) slices_S256x256_o64_128_S64x128)
      (extractStridedSlice S64x128 ![64, 128] (mDe q lo hi) slices_S128x256_o64_128_S64x128) kfb1 kfa1 bkb1 bka1 qf1 bq1)

end Cert.KernelIdeal.Hand

end
-- ==== Proof.Fold.lean ====
/-
  A row of 1024 numbers folded into eight rows of 128, and the look-up of a permuted row in it.
-/
module

public import proofs.«01_k».proof.Proof.Model
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

open Idealize.ShloMosaic.View (readCov_eq_canon' canon_append_of_piecesOf)

/-- One row of one plane of the folded scratch. -/
abbrev fp (k p : ℕ) (inb : ∀ a, (![k, 0, 0] : Fin 3 → ℕ) a + S1x8x128.size a ≤ S5x8x128.size a)
    (inb' : ∀ a, (![p, 0] : Fin 2 → ℕ) a + S1x128.size a ≤ S8x128.size a)
    (h0 : (![1, 8, 128] : Fin 3 → ℕ) 0 = 1) (hs : ∀ i : Fin 2, (![1, 8, 128] : Fin 3 → ℕ) i.succ = S8x128.size i)
    (h1 : ∀ a, (Rect.unit (s := S5x8x128) ![k, 0, 0] S1x8x128.size inb).stride a = 1)
    (hR : ((Rect.unit (s := S8x128) ![p, 0] S1x128.size inb').consLift ![1, 8, 128] h0 hs).shape.numel
      = (Rect.unit (s := S8x128) ![p, 0] S1x128.size inb').shape.numel) (w : Vec F S1x128 .f32) : View.Piece (Elt F) S5x8x128 .f32 :=
  ⟨(Rect.unit (s := S5x8x128) ![k, 0, 0] S1x8x128.size inb).within ((Rect.unit (s := S8x128) ![p, 0] S1x128.size inb').consLift ![1, 8, 128] h0 hs) h1,
    Rect.payAlong (r := Rect.unit (s := S8x128) ![p, 0] S1x128.size inb') (R := (Rect.unit (s := S8x128) ![p, 0] S1x128.size inb').consLift ![1, 8, 128] h0 hs) hR w⟩

section
variable (k p : ℕ) (hk : k < 5) (hp : p < 8) (inb : ∀ a, (![k, 0, 0] : Fin 3 → ℕ) a + S1x8x128.size a ≤ S5x8x128.size a)
    (inb' : ∀ a, (![p, 0] : Fin 2 → ℕ) a + S1x128.size a ≤ S8x128.size a)
    (h0 : (![1, 8, 128] : Fin 3 → ℕ) 0 = 1) (hs : ∀ i : Fin 2, (![1, 8, 128] : Fin 3 → ℕ) i.succ = S8x128.size i)
    (h1 : ∀ a, (Rect.unit (s := S5x8x128) ![k, 0, 0] S1x8x128.size inb).stride a = 1)
    (hR : ((Rect.unit (s := S8x128) ![p, 0] S1x128.size inb').consLift ![1, 8, 128] h0 hs).shape.numel
      = (Rect.unit (s := S8x128) ![p, 0] S1x128.size inb').shape.numel) (w : Vec F S1x128 .f32)

theorem fp_emb (l : Fin 128) : (fp k p inb inb' h0 hs h1 hR w).1.emb (ix3 (0 : Fin 1) (0 : Fin 1) l) = ix3 (⟨k, hk⟩ : Fin 5) (⟨p, hp⟩ : Fin 8) l := by
  funext a
  apply Fin.ext
  fin_cases a
  · show k + 0 + 1 * 0 = k
    omega
  · show 0 + p + 1 * 0 = p
    omega
  · show 0 + 0 + 1 * l.val = l.val
    omega

theorem fp_pay (x : (fp k p inb inb' h0 hs h1 hR w).1.shape.Idx) (l : Fin 128) (hl : (x 2).val = l.val) :
    (fp k p inb inb' h0 hs h1 hR w).2 x = w (ix2 (0 : Fin 1) l) := by
  refine Rect.payAlong_consLift (r := Rect.unit (s := S8x128) ![p, 0] S1x128.size inb') ![1, 8, 128] h0 hs w hR x _ fun a => ?_
  fin_cases a
  · have : (x 1).val < 1 := (x 1).isLt
    show 0 = (x 1).val
    omega
  · exact hl.symm

end

/-- What eight rows of a plane leave: the plane. -/
def plane (g : Fin 8 → Vec F S1x128 .f32) : Vec F S8x128 .f32 := fun y => g (y 0) (ix2 (0 : Fin 1) (y 1))

theorem fold_read {κ₁ : Kind} {sp : Space} (v : View sig κ₁ sp S5x8x128 .f32) (k : ℕ) (hk : k < 5) (g : Fin 8 → Vec F S1x128 .f32) (L : List (View.Piece (Elt F) S5x8x128 .f32))
    (inb inbL : ∀ a, (![k, 0, 0] : Fin 3 → ℕ) a + S1x8x128.size a ≤ S5x8x128.size a) (h0 hs h1)
    (i0 i1 i2 i3 i4 i5 i6 i7) (r0 r1 r2 r3 r4 r5 r6 r7) (p : Fin 8) (l : Fin 128) :
    v.readCov (Val := Elt F) (fp k 7 inb i7 h0 hs h1 r7 (g 7) :: fp k 6 inb i6 h0 hs h1 r6 (g 6) :: fp k 5 inb i5 h0 hs h1 r5 (g 5) :: fp k 4 inb i4 h0 hs h1 r4 (g 4)
        :: fp k 3 inb i3 h0 hs h1 r3 (g 3) :: fp k 2 inb i2 h0 hs h1 r2 (g 2) :: fp k 1 inb i1 h0 hs h1 r1 (g 1) :: fp k 0 inb i0 h0 hs h1 r0 (g 0) :: L)
      (Rect.unit (s := S5x8x128) ![k, 0, 0] S1x8x128.size inbL).toLoadRect (ix3 (0 : Fin 1) p l) = g p (ix2 (0 : Fin 1) l) := by
  rw [readCov_eq_canon']
  have hidx : (Rect.unit (s := S5x8x128) ![k, 0, 0] S1x8x128.size inbL).toLoadRect.idx (ix3 (0 : Fin 1) p l) = ix3 (⟨k, hk⟩ : Fin 5) p l := by
    funext a
    apply Fin.ext
    fin_cases a
    · show k + 1 * 0 = k
      omega
    · show 0 + 1 * p.val = p.val
      omega
    · show 0 + 1 * l.val = l.val
      omega
  show View.canon _ ((Rect.unit (s := S5x8x128) ![k, 0, 0] S1x8x128.size inbL).toLoadRect.idx (ix3 (0 : Fin 1) p l)) = _
  rw [hidx]
  have key := canon_append_of_piecesOf (Val := Elt F) (fun y : S5x8x128.Idx => g (y 1) (ix2 (0 : Fin 1) (y 2))) L
    [fp k 7 inb i7 h0 hs h1 r7 (g 7), fp k 6 inb i6 h0 hs h1 r6 (g 6), fp k 5 inb i5 h0 hs h1 r5 (g 5), fp k 4 inb i4 h0 hs h1 r4 (g 4),
     fp k 3 inb i3 h0 hs h1 r3 (g 3), fp k 2 inb i2 h0 hs h1 r2 (g 2), fp k 1 inb i1 h0 hs h1 r1 (g 1), fp k 0 inb i0 h0 hs h1 r0 (g 0)]
  have hpc : ∀ (q : ℕ) (hq : q < 8) (iq rq), ∀ x : (fp k q inb iq h0 hs h1 rq (g ⟨q, hq⟩)).1.shape.Idx,
      (fp k q inb iq h0 hs h1 rq (g ⟨q, hq⟩)).2 x = (fun y : S5x8x128.Idx => g (y 1) (ix2 (0 : Fin 1) (y 2))) ((fp k q inb iq h0 hs h1 rq (g ⟨q, hq⟩)).1.emb x) := by
    intro q hq iq rq x
    have e1 : ((fp k q inb iq h0 hs h1 rq (g ⟨q, hq⟩)).1.emb x) 1 = (⟨q, hq⟩ : Fin 8) := by
      apply Fin.ext
      have : (x 1).val < 1 := (x 1).isLt
      show 0 + q + 1 * (x 1).val = q
      omega
    have e2 : (((fp k q inb iq h0 hs h1 rq (g ⟨q, hq⟩)).1.emb x) 2).val = (x 2).val := by
      show 0 + 0 + 1 * (x 2).val = (x 2).val
      omega
    rw [fp_pay k q inb iq h0 hs h1 rq (g ⟨q, hq⟩) x (((fp k q inb iq h0 hs h1 rq (g ⟨q, hq⟩)).1.emb x) 2) e2.symm]
    show _ = g (((fp k q inb iq h0 hs h1 rq (g ⟨q, hq⟩)).1.emb x) 1) _
    rw [e1]
  refine key ⟨hpc 7 (by decide) i7 r7, hpc 6 (by decide) i6 r6, hpc 5 (by decide) i5 r5, hpc 4 (by decide) i4 r4, hpc 3 (by decide) i3 r3, hpc 2 (by decide) i2 r2,
    hpc 1 (by decide) i1 r1, hpc 0 (by decide) i0 r0, trivial⟩ _ ?_
  have hmem : ∀ (q : ℕ) (hq : q < 8) (iq rq), p = ⟨q, hq⟩ → ix3 (⟨k, hk⟩ : Fin 5) p l ∈ (fp k q inb iq h0 hs h1 rq (g ⟨q, hq⟩)).1.set := by
    intro q hq iq rq e
    subst e
    rw [← fp_emb k q hk hq inb iq h0 hs h1 rq (g ⟨q, hq⟩) l]
    first | exact Rect.idx_mem _ _ | exact LoadRect.idx_mem _ _ | exact Rect.emb_mem_set _ _
  fin_cases p
  · exact ⟨_, .tail _ (.tail _ (.tail _ (.tail _ (.tail _ (.tail _ (.tail _ (.head _))))))), hmem 0 (by decide) i0 r0 rfl⟩
  · exact ⟨_, .tail _ (.tail _ (.tail _ (.tail _ (.tail _ (.tail _ (.head _)))))), hmem 1 (by decide) i1 r1 rfl⟩
  · exact ⟨_, .tail _ (.tail _ (.tail _ (.tail _ (.tail _ (.head _))))), hmem 2 (by decide) i2 r2 rfl⟩
  · exact ⟨_, .tail _ (.tail _ (.tail _ (.tail _ (.head _)))), hmem 3 (by decide) i3 r3 rfl⟩
  · exact ⟨_, .tail _ (.tail _ (.tail _ (.head _))), hmem 4 (by decide) i4 r4 rfl⟩
  · exact ⟨_, .tail _ (.tail _ (.head _)), hmem 5 (by decide) i5 r5 rfl⟩
  · exact ⟨_, .tail _ (.head _), hmem 6 (by decide) i6 r6 rfl⟩
  · exact ⟨_, .head _, hmem 7 (by decide) i7 r7 rfl⟩

/-- Piece `p` of a row of 1024. -/
def seg (R : Vec F S1x1024 .f32) (p : Fin 8) : Vec F S1x128 .f32 := fun y => R (ix2 (0 : Fin 1) (⟨128 * p.val + (y 1).val, by have := (y 1).isLt; have : (y 1).val < 128 := this; omega⟩ : Fin 1024))

theorem seg_eq0 (R : Vec F S1x1024 .f32) : shapeCast S1x128 (extractStridedSlice S1x128 ![0, 0] R slices_S1x1024_o0_0_S1x128) shapeCasts_S1x128_S1x128 = seg R 0 := by
  funext y
  obtain ⟨a, l, rfl⟩ : ∃ (a : Fin 1) (l : Fin 128), y = ix2 a l := ⟨y 0, y 1, (ix2_eta y).symm⟩
  have : a = 0 := by omega
  subst this
  rw [shapeCast_self]
  refine congrArg R (funext fun a => Fin.ext ?_)
  fin_cases a
  · rfl
  · show 0 + l.val = 128 * 0 + l.val
    omega

theorem seg_eq1 (R : Vec F S1x1024 .f32) : shapeCast S1x128 (extractStridedSlice S1x128 ![0, 128] R slices_S1x1024_o0_128_S1x128) shapeCasts_S1x128_S1x128 = seg R 1 := by
  funext y
  obtain ⟨a, l, rfl⟩ : ∃ (a : Fin 1) (l : Fin 128), y = ix2 a l := ⟨y 0, y 1, (ix2_eta y).symm⟩
  have : a = 0 := by omega
  subst this
  rw [shapeCast_self]
  refine congrArg R (funext fun a => Fin.ext ?_)
  fin_cases a
  · rfl
  · show 128 + l.val = 128 * 1 + l.val
    omega

theorem seg_eq2 (R : Vec F S1x1024 .f32) : shapeCast S1x128 (extractStridedSlice S1x128 ![0, 256] R slices_S1x1024_o0_256_S1x128) shapeCasts_S1x128_S1x128 = seg R 2 := by
  funext y
  obtain ⟨a, l, rfl⟩ : ∃ (a : Fin 1) (l : Fin 128), y = ix2 a l := ⟨y 0, y 1, (ix2_eta y).symm⟩
  have : a = 0 := by omega
  subst this
  rw [shapeCast_self]
  refine congrArg R (funext fun a => Fin.ext ?_)
  fin_cases a
  · rfl
  · show 256 + l.val = 128 * 2 + l.val
    omega

theorem seg_eq3 (R : Vec F S1x1024 .f32) : shapeCast S1x128 (extractStridedSlice S1x128 ![0, 384] R slices_S1x1024_o0_384_S1x128) shapeCasts_S1x128_S1x128 = seg R 3 := by
  funext y
  obtain ⟨a, l, rfl⟩ : ∃ (a : Fin 1) (l : Fin 128), y = ix2 a l := ⟨y 0, y 1, (ix2_eta y).symm⟩
  have : a = 0 := by omega
  subst this
  rw [shapeCast_self]
  refine congrArg R (funext fun a => Fin.ext ?_)
  fin_cases a
  · rfl
  · show 384 + l.val = 128 * 3 + l.val
    omega

theorem seg_eq4 (R : Vec F S1x1024 .f32) : shapeCast S1x128 (extractStridedSlice S1x128 ![0, 512] R slices_S1x1024_o0_512_S1x128) shapeCasts_S1x128_S1x128 = seg R 4 := by
  funext y
  obtain ⟨a, l, rfl⟩ : ∃ (a : Fin 1) (l : Fin 128), y = ix2 a l := ⟨y 0, y 1, (ix2_eta y).symm⟩
  have : a = 0 := by omega
  subst this
  rw [shapeCast_self]
  refine congrArg R (funext fun a => Fin.ext ?_)
  fin_cases a
  · rfl
  · show 512 + l.val = 128 * 4 + l.val
    omega

theorem seg_eq5 (R : Vec F S1x1024 .f32) : shapeCast S1x128 (extractStridedSlice S1x128 ![0, 640] R slices_S1x1024_o0_640_S1x128) shapeCasts_S1x128_S1x128 = seg R 5 := by
  funext y
  obtain ⟨a, l, rfl⟩ : ∃ (a : Fin 1) (l : Fin 128), y = ix2 a l := ⟨y 0, y 1, (ix2_eta y).symm⟩
  have : a = 0 := by omega
  subst this
  rw [shapeCast_self]
  refine congrArg R (funext fun a => Fin.ext ?_)
  fin_cases a
  · rfl
  · show 640 + l.val = 128 * 5 + l.val
    omega

theorem seg_eq6 (R : Vec F S1x1024 .f32) : shapeCast S1x128 (extractStridedSlice S1x128 ![0, 768] R slices_S1x1024_o0_768_S1x128) shapeCasts_S1x128_S1x128 = seg R 6 := by
  funext y
  obtain ⟨a, l, rfl⟩ : ∃ (a : Fin 1) (l : Fin 128), y = ix2 a l := ⟨y 0, y 1, (ix2_eta y).symm⟩
  have : a = 0 := by omega
  subst this
  rw [shapeCast_self]
  refine congrArg R (funext fun a => Fin.ext ?_)
  fin_cases a
  · rfl
  · show 768 + l.val = 128 * 6 + l.val
    omega

theorem seg_eq7 (R : Vec F S1x1024 .f32) : shapeCast S1x128 (extractStridedSlice S1x128 ![0, 896] R slices_S1x1024_o0_896_S1x128) shapeCasts_S1x128_S1x128 = seg R 7 := by
  funext y
  obtain ⟨a, l, rfl⟩ : ∃ (a : Fin 1) (l : Fin 128), y = ix2 a l := ⟨y 0, y 1, (ix2_eta y).symm⟩
  have : a = 0 := by omega
  subst this
  rw [shapeCast_self]
  refine congrArg R (funext fun a => Fin.ext ?_)
  fin_cases a
  · rfl
  · show 896 + l.val = 128 * 7 + l.val
    omega

/-- The eight rows of 128 of a row of 1024. -/
def rows8 (R : Vec F S1x1024 .f32) : Vec F S8x128 .f32 := fun y => seg R (y 0) (ix2 (0 : Fin 1) (y 1))

variable (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
  (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32)

end Cert.KernelIdeal.Hand

end
-- ==== Proof.OneHot.lean ====
/-
  The 0/1 matrices that the body builds from integers and reads as 8-bit floats: the permutation's and the identity.
-/
module

public import proofs.«01_k».proof.Proof.Model
public import Idealize.ShloMosaic.Lib.BitcastPair

@[expose] public section

set_option maxRecDepth 16384

noncomputable section

namespace Cert.KernelIdeal.Hand

open Cert.KernelIdeal Cert.KernelIdeal.Gen
open Idealize.ShloMosaic Idealize.ShloMosaic.TcCoe

/-- A 32-bit word read as four bytes, at the byte of its row. -/
theorem byte_of_word {n m l : ℕ} (x : (⟨2, ![n, l]⟩ : Shape).Idx → BitVec 32) (h : Shape.Bitcasts ⟨2, ![n, l]⟩ 32 ⟨2, ![m, l]⟩ 8)
    (s : Fin m) (r : Fin l) (k : Fin n) (hk : s.val / 4 = k.val) :
    bitcast ⟨2, ![m, l]⟩ 8 x h (ix2 s r) = (x (ix2 k r)).extractLsb' (8 * (s.val % 4)) 8 := by
  apply BitVec.eq_of_getLsbD_eq
  intro q hq
  rw [bitcast_getLsbD x h _ q hq (by decide)]
  have hrow : Shape.row ⟨2, ![m, l]⟩ (ix2 s r) = s.val := rfl
  have hidx : h.srcIdx (ix2 s r) ((Shape.row ⟨2, ![m, l]⟩ (ix2 s r) * 8 + q) / 32) (fun a ha =>
          (Nat.div_lt_iff_lt_mul (by decide)).2 (h.pos_lt (ix2 s r) q hq a ha)) = ix2 k r := by
    funext a
    apply Fin.ext
    match a with
    | ⟨0, _⟩ =>
      rw [Shape.Bitcasts.srcIdx_row _ _ _ _ _ rfl, hrow]
      show (s.val * 8 + q) / 32 = k.val
      omega
    | ⟨1, _⟩ =>
      rw [Shape.Bitcasts.srcIdx_other _ _ _ _ _ (by simp)]
      rfl
  rw [hidx, BitVec.getLsbD_extractLsb', hrow]
  have e : (s.val * 8 + q) % 32 = 8 * (s.val % 4) + q := by omega
  simp [hq, e]

theorem word_byte (a b : ℕ) (ha : a < 4) (hb : b < 4) :
    (56#32 <<< (BitVec.ofNat 32 a * 8#32)).extractLsb' (8 * b) 8 = if a = b then 56#8 else 0#8 := by
  interval_cases a <;> interval_cases b <;> rfl

theorem one_e4m3 : Ideal.ofBits .fp8e4m3 56#8 = (1 : EReal) := by
  simp [Ideal.ofBits, Ideal.e4m3fn, -EReal.coe_mul]; norm_num

theorem zero_e4m3 : Ideal.ofBits .fp8e4m3 0#8 = (0 : EReal) := by
  simp [Ideal.ofBits, Ideal.e4m3fn, -EReal.coe_mul]

/-- The words behind the permutation's matrix: in word row `k`, lane `r`, the byte of row `perm r` is the pattern of one. -/
def ohWord (perm : IVec S1x1024 32) : IVec S256x1024 32 :=
  select (cmpi .eq (iota .tc S256x1024 32 [0] iota_S256x1024_d0_w32) (broadcastTo S256x1024 (shrsi perm (broadcast S1x1024 2#32)) broadcasts_S1x1024_S256x1024))
    (broadcastTo S256x1024 (shapeCast S1x1024 (shli (broadcast S1x1024 56#32) (muli (andi perm (broadcast S1x1024 3#32)) (broadcast S1x1024 8#32))) shapeCasts_S1x1024_S1x1024) broadcasts_S1x1024_S256x1024)
    (broadcast S256x1024 0#32)

/-- The permutation's matrix. -/
def ohMat {F : FTy → Type} [FloatOps F] [Named F] (perm : IVec S1x1024 32) : FVec F S1024x1024 .fp8e4m3 :=
  bitcastToFloat .fp8e4m3 (bitcast S1024x1024 8 (ohWord perm) bitcasts_S256x1024_w32_S1024x1024_w8)

theorem shr2 (p : ℕ) (hp : p < 1024) : IntOp.shrsi .vector (BitVec.ofNat 32 p) 2#32 = BitVec.ofNat 32 (p / 4) := by
  unfold IntOp.shrsi
  rw [if_pos (by decide)]
  apply BitVec.eq_of_toNat_eq
  rw [BitVec.sshiftRight', BitVec.sshiftRight_eq_of_msb_false (by rw [BitVec.msb_eq_decide]; simp; omega)]
  simp [Nat.shiftRight_eq_div_pow]
  omega

theorem and3 (p : ℕ) (hp : p < 1024) : BitVec.ofNat 32 p &&& 3#32 = BitVec.ofNat 32 (p % 4) := by
  apply BitVec.eq_of_toNat_eq
  rw [BitVec.toNat_and]
  simp only [BitVec.toNat_ofNat]
  rw [show (3 % 2 ^ 32 : ℕ) = 2 ^ 2 - 1 by norm_num, Nat.and_two_pow_sub_one_eq_mod]
  omega

theorem shl56 (a : ℕ) (ha : a < 4) : IntOp.shli .vector 56#32 (BitVec.ofNat 32 a * 8#32) = 56#32 <<< (BitVec.ofNat 32 a * 8#32) := by
  interval_cases a <;> rfl

theorem ohWord_apply (perm : IVec S1x1024 32) (r : Fin 1024) (k : Fin 256) (p : ℕ) (hp : p < 1024) (h : perm (ix2 0 r) = BitVec.ofNat 32 p) :
    ohWord perm (ix2 k r) = if k.val = p / 4 then 56#32 <<< (BitVec.ofNat 32 (p % 4) * 8#32) else 0#32 := by
  unfold ohWord
  pointwise
  rw [h]
  simp only [IntOp.andi, IntOp.muli, and3 p hp, shr2 p hp, shl56 _ (Nat.mod_lt p (by decide : 0 < 4))]
  have hk : (IntOp.cmpi .eq (BitVec.ofNat 32 k.val) (BitVec.ofNat 32 (p / 4))) = if k.val = p / 4 then 1#1 else 0#1 := by
    unfold IntOp.cmpi
    have : (BitVec.ofNat 32 k.val == BitVec.ofNat 32 (p / 4)) = decide (k.val = p / 4) := by
      rw [Bool.eq_iff_iff]
      simp only [beq_iff_eq, decide_eq_true_eq]
      constructor
      · intro e
        have := congrArg BitVec.toNat e
        simp only [BitVec.toNat_ofNat] at this
        have := k.isLt
        omega
      · intro e; rw [e]
    simp only [this]
    split <;> simp_all
  first
  | (rw [hk]; split <;> rfl)
  | (split <;> simp_all)

theorem ohMat_apply (perm : IVec S1x1024 32) (s r : Fin 1024) (p : ℕ) (hp : p < 1024) (h : perm (ix2 0 r) = BitVec.ofNat 32 p) :
    ohMat (F := Ideal) perm (ix2 s r) = if s.val = p then (1 : EReal) else 0 := by
  show Ideal.ofBits .fp8e4m3 (bitcast S1024x1024 8 (ohWord perm) bitcasts_S256x1024_w32_S1024x1024_w8 (ix2 s r)) = _
  rw [byte_of_word (ohWord perm) bitcasts_S256x1024_w32_S1024x1024_w8 s r ⟨s.val / 4, by omega⟩ rfl, ohWord_apply perm r _ p hp h]
  by_cases e : s.val / 4 = p / 4
  · rw [if_pos e, word_byte _ _ (Nat.mod_lt _ (by decide)) (Nat.mod_lt _ (by decide))]
    by_cases e2 : s.val = p
    · rw [if_pos e2, if_pos (by rw [e2]), one_e4m3]
    · rw [if_neg e2, if_neg (by omega), zero_e4m3]
  · rw [if_neg e, if_neg (by rintro rfl; exact e rfl)]
    have : BitVec.extractLsb' (8 * (s.val % 4)) 8 0#32 = 0#8 := by simp
    rw [this, zero_e4m3]

/-- The identity's words and the identity. -/
def eyeWord : IVec S64x256 32 :=
  select (cmpi .eq (iota .tc S64x256 32 [0] iota_S64x256_d0_w32) (broadcastTo S64x256 (shrsi (iota .tc S1x256 32 [1] iota_S1x256_d1_w32) (broadcast S1x256 2#32)) broadcasts_S1x256_S64x256))
    (broadcastTo S64x256 (shapeCast S1x256 (shli (broadcast S1x256 56#32) (muli (andi (iota .tc S1x256 32 [1] iota_S1x256_d1_w32) (broadcast S1x256 3#32)) (broadcast S1x256 8#32))) shapeCasts_S1x256_S1x256) broadcasts_S1x256_S64x256)
    (broadcast S64x256 0#32)

def eyeMat {F : FTy → Type} [FloatOps F] [Named F] : FVec F S256x256 .fp8e4m3 :=
  bitcastToFloat .fp8e4m3 (bitcast S256x256 8 eyeWord bitcasts_S64x256_w32_S256x256_w8)

theorem eyeWord_apply (r : Fin 256) (k : Fin 64) :
    eyeWord (ix2 k r) = if k.val = r.val / 4 then 56#32 <<< (BitVec.ofNat 32 (r.val % 4) * 8#32) else 0#32 := by
  have hr : r.val < 1024 := by omega
  unfold eyeWord
  pointwise
  simp only [IntOp.andi, IntOp.muli, and3 r.val hr, shr2 r.val hr, shl56 _ (Nat.mod_lt r.val (by decide : 0 < 4))]
  have hk : (IntOp.cmpi .eq (BitVec.ofNat 32 k.val) (BitVec.ofNat 32 (r.val / 4))) = if k.val = r.val / 4 then 1#1 else 0#1 := by
    unfold IntOp.cmpi
    have : (BitVec.ofNat 32 k.val == BitVec.ofNat 32 (r.val / 4)) = decide (k.val = r.val / 4) := by
      rw [Bool.eq_iff_iff]
      simp only [beq_iff_eq, decide_eq_true_eq]
      constructor
      · intro e
        have := congrArg BitVec.toNat e
        simp only [BitVec.toNat_ofNat] at this
        have := k.isLt
        omega
      · intro e; rw [e]
    simp only [this]
    split <;> simp_all
  first
  | (rw [hk]; split <;> rfl)
  | (split <;> simp_all)

theorem eyeMat_apply (s r : Fin 256) : eyeMat (F := Ideal) (ix2 s r) = if s = r then (1 : EReal) else 0 := by
  show Ideal.ofBits .fp8e4m3 (bitcast S256x256 8 eyeWord bitcasts_S64x256_w32_S256x256_w8 (ix2 s r)) = _
  rw [byte_of_word eyeWord bitcasts_S64x256_w32_S256x256_w8 s r ⟨s.val / 4, by omega⟩ rfl, eyeWord_apply r]
  by_cases e : s.val / 4 = r.val / 4
  · rw [if_pos e, word_byte _ _ (Nat.mod_lt _ (by decide)) (Nat.mod_lt _ (by decide))]
    by_cases e2 : s = r
    · rw [if_pos e2, if_pos (by rw [e2]), one_e4m3]
    · rw [if_neg e2, if_neg (by intro h; apply e2; apply Fin.ext; omega), zero_e4m3]
  · rw [if_neg e, if_neg (by rintro rfl; exact e rfl)]
    have : BitVec.extractLsb' (8 * (s.val % 4)) 8 0#32 = 0#8 := by simp
    rw [this, zero_e4m3]

/-! ## The look-up -/

/-- The lane that a position reads in its row of 128. -/
def gLo (I : IVec S8x128 32) : IVec S8x128 32 :=
  shapeCast S8x128 (shapeCast S8x128x1 (select (cmpi .slt (andi I (broadcast S8x128 127#32)) (broadcast S8x128 0#32))
    (addi (andi I (broadcast S8x128 127#32)) (broadcast S8x128 128#32)) (andi I (broadcast S8x128 127#32))) shapeCasts_S8x128_S8x128x1) shapeCasts_S8x128x1_S8x128

variable {F : FTy → Type} [FloatOps F] [Named F]

/-- A row of the eight, read at each position's lane. -/
def gRow (I : IVec S8x128 32) (t : FVec F S1x128 .f32) : FVec F S8x128 .f32 :=
  dynamicGather 1 (broadcastTo S8x128 (shapeCast S1x128 t shapeCasts_S1x128_S1x128) broadcasts_S1x128_S8x128) (gLo I)

def gAt (I : IVec S8x128 32) (n : BitVec 32) (a b : FVec F S8x128 .f32) : FVec F S8x128 .f32 :=
  select (cmpi .eq (shrsi I (broadcast S8x128 7#32)) (broadcast S8x128 n)) a b

/-- The eight rows looked up at each position's place. -/
def gSel (I : IVec S8x128 32) (T : FVec F S8x128 .f32) : FVec F S8x128 .f32 :=
  gAt I 7#32 (gRow I (extractStridedSlice S1x128 ![7, 0] T slices_S8x128_o7_0_S1x128))
  (gAt I 6#32 (gRow I (extractStridedSlice S1x128 ![6, 0] T slices_S8x128_o6_0_S1x128))
  (gAt I 5#32 (gRow I (extractStridedSlice S1x128 ![5, 0] T slices_S8x128_o5_0_S1x128))
  (gAt I 4#32 (gRow I (extractStridedSlice S1x128 ![4, 0] T slices_S8x128_o4_0_S1x128))
  (gAt I 3#32 (gRow I (extractStridedSlice S1x128 ![3, 0] T slices_S8x128_o3_0_S1x128))
  (gAt I 2#32 (gRow I (extractStridedSlice S1x128 ![2, 0] T slices_S8x128_o2_0_S1x128))
  (gAt I 1#32 (gRow I (extractStridedSlice S1x128 ![1, 0] T slices_S8x128_o1_0_S1x128))
    (gRow I (extractStridedSlice S1x128 ![0, 0] T slices_S8x128_o0_0_S1x128))))))))

theorem shr7 (p : ℕ) (hp : p < 1024) : IntOp.shrsi .vector (BitVec.ofNat 32 p) 7#32 = BitVec.ofNat 32 (p / 128) := by
  unfold IntOp.shrsi
  rw [if_pos (by decide)]
  apply BitVec.eq_of_toNat_eq
  rw [BitVec.sshiftRight', BitVec.sshiftRight_eq_of_msb_false (by rw [BitVec.msb_eq_decide]; simp; omega)]
  simp [Nat.shiftRight_eq_div_pow]
  omega

theorem and127 (p : ℕ) (hp : p < 1024) : BitVec.ofNat 32 p &&& 127#32 = BitVec.ofNat 32 (p % 128) := by
  apply BitVec.eq_of_toNat_eq
  rw [BitVec.toNat_and]
  simp only [BitVec.toNat_ofNat]
  rw [show (127 % 2 ^ 32 : ℕ) = 2 ^ 7 - 1 by norm_num, Nat.and_two_pow_sub_one_eq_mod]
  omega

theorem gLo_apply (I : IVec S8x128 32) (q : Fin 8) (l : Fin 128) (p : ℕ) (hp : p < 1024) (h : I (ix2 q l) = BitVec.ofNat 32 p) :
    gLo I (ix2 q l) = BitVec.ofNat 32 (p % 128) := by
  unfold gLo
  pointwise
  rw [h]
  simp only [IntOp.andi, and127 p hp]
  have hk : IntOp.cmpi .slt (BitVec.ofNat 32 (p % 128)) 0#32 = 0#1 := by
    unfold IntOp.cmpi
    have : (BitVec.ofNat 32 (p % 128)).slt 0#32 = false := by
      rw [BitVec.slt_eq_decide]
      have e : (BitVec.ofNat 32 (p % 128)).toInt = ((p % 128 : ℕ) : ℤ) := by
        rw [BitVec.toInt_eq_toNat_of_msb (by rw [BitVec.msb_eq_decide]; simp only [BitVec.toNat_ofNat, decide_eq_false_iff_not]; omega)]
        simp only [BitVec.toNat_ofNat]
        omega
      rw [e, show (0#32).toInt = 0 from rfl]
      simp only [decide_eq_false_iff_not, not_lt]
      omega
    simp only [this]
    rfl
  rw [hk]
  rfl

theorem gRow_apply (I : IVec S8x128 32) (t : FVec F S1x128 .f32) (q : Fin 8) (l : Fin 128) (p : ℕ) (hp : p < 1024) (h : I (ix2 q l) = BitVec.ofNat 32 p) :
    gRow I t (ix2 q l) = t (ix2 0 (⟨p % 128, Nat.mod_lt _ (by decide)⟩ : Fin 128)) := by
  unfold gRow
  rw [shapeCast_self]
  unfold dynamicGather
  have e : (fun b : Fin 2 => if b = 1 then (⟨(gLo I (ix2 q l)).toNat % S8x128.size b, Nat.mod_lt _ (Fin.pos (ix2 q l b))⟩ : Fin (S8x128.size b)) else ix2 q l b)
      = (ix2 q (⟨p % 128, Nat.mod_lt _ (by decide)⟩ : Fin 128) : S8x128.Idx) := by
    funext b
    apply Fin.ext
    fin_cases b
    · rfl
    · show (gLo I (ix2 q l)).toNat % 128 = p % 128
      rw [gLo_apply I q l p hp h]
      simp only [BitVec.toNat_ofNat]
      omega
  refine (congrArg _ e).trans ?_
  pointwise

theorem gAt_apply (I : IVec S8x128 32) (n : ℕ) (hn : n < 8) (a b : FVec F S8x128 .f32) (q : Fin 8) (l : Fin 128) (p : ℕ) (hp : p < 1024) (h : I (ix2 q l) = BitVec.ofNat 32 p) :
    gAt I (BitVec.ofNat 32 n) a b (ix2 q l) = if p / 128 = n then a (ix2 q l) else b (ix2 q l) := by
  have hk : (IntOp.cmpi .eq (BitVec.ofNat 32 (p / 128)) (BitVec.ofNat 32 n)) = if p / 128 = n then 1#1 else 0#1 := by
    unfold IntOp.cmpi
    have : (BitVec.ofNat 32 (p / 128) == BitVec.ofNat 32 n) = decide (p / 128 = n) := by
      rw [Bool.eq_iff_iff]
      simp only [beq_iff_eq, decide_eq_true_eq]
      constructor
      · intro e
        have := congrArg BitVec.toNat e
        simp only [BitVec.toNat_ofNat] at this
        omega
      · intro e; rw [e]
    simp only [this]
    split <;> simp_all
  show Scalar.select (IntOp.cmpi .eq (IntOp.shrsi .vector (I (ix2 q l)) 7#32) (BitVec.ofNat 32 n)) _ _ = _
  rw [h, shr7 p hp, hk]
  split <;> rfl

theorem gSel_apply (I : IVec S8x128 32) (T : FVec F S8x128 .f32) (q : Fin 8) (l : Fin 128) (p : ℕ) (hp : p < 1024) (h : I (ix2 q l) = BitVec.ofNat 32 p) :
    gSel I T (ix2 q l) = T (ix2 (⟨p / 128, by omega⟩ : Fin 8) (⟨p % 128, Nat.mod_lt _ (by decide)⟩ : Fin 128)) := by
  have row : ∀ (k : ℕ) (hk : k < 8) (hs : S8x128.Slices ![k, 0] S1x128), p / 128 = k →
      gRow I (extractStridedSlice S1x128 ![k, 0] T hs) (ix2 q l) = T (ix2 (⟨p / 128, by omega⟩ : Fin 8) (⟨p % 128, Nat.mod_lt _ (by decide)⟩ : Fin 128)) := by
    intro k hk hs e
    rw [gRow_apply I _ q l p hp h]
    subst e
    refine congrArg T (funext fun a => Fin.ext ?_)
    fin_cases a
    · rfl
    · show 0 + p % 128 = p % 128
      omega
  unfold gSel
  rw [gAt_apply I 7 (by decide) _ _ q l p hp h, gAt_apply I 6 (by decide) _ _ q l p hp h, gAt_apply I 5 (by decide) _ _ q l p hp h, gAt_apply I 4 (by decide) _ _ q l p hp h,
    gAt_apply I 3 (by decide) _ _ q l p hp h, gAt_apply I 2 (by decide) _ _ q l p hp h, gAt_apply I 1 (by decide) _ _ q l p hp h]
  have : p / 128 < 8 := by omega
  split_ifs with h7 h6 h5 h4 h3 h2 h1
  · exact row 7 (by decide) _ h7
  · exact row 6 (by decide) _ h6
  · exact row 5 (by decide) _ h5
  · exact row 4 (by decide) _ h4
  · exact row 3 (by decide) _ h3
  · exact row 2 (by decide) _ h2
  · exact row 1 (by decide) _ h1
  · exact row 0 (by decide) _ (by omega)

/-- An integer below 1024, as a float and back. -/
theorem int_round_trip (n : ℕ) (hn : n < 1024) : Ideal.fptosi 32 ((((BitVec.ofNat 32 n).toInt : ℝ)) : EReal) = BitVec.ofNat 32 n := by
  have e : (BitVec.ofNat 32 n).toInt = (n : ℤ) := by
    rw [BitVec.toInt_eq_toNat_of_msb (by rw [BitVec.msb_eq_decide]; simp; omega)]
    simp
    omega
  rw [e]
  unfold Ideal.fptosi
  have : Ideal.toIntClamped (-(2 ^ (32 - 1) : ℕ)) ((2 ^ (32 - 1) : ℕ) - 1) ((((n : ℤ) : ℝ)) : EReal) = (n : ℤ) := by
    show max _ (min _ (if (0 : ℝ) ≤ ((n : ℤ) : ℝ) then ⌊((n : ℤ) : ℝ)⌋ else ⌈((n : ℤ) : ℝ)⌉)) = _
    rw [if_pos (by positivity), Int.floor_intCast]
    norm_num
    omega
  rw [this]
  simp

end Cert.KernelIdeal.Hand

end
-- ==== Proof.Rows.lean ====
/-
  The rows that a head reads, their folded copies, and the look-ups, as values.
-/
module

public import proofs.«01_k».proof.Proof.Fold
public import proofs.«01_k».proof.Proof.OneHot

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]
variable (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
  (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32)

set_option maxHeartbeats 4000000 in
theorem v244_eq :
    (headRun.sl.v244 c i arg5 harg5 arg8 harg8 arg10 x2 x5)
      = gSel (fptosi 32 (headRun.sl.v80 c i arg8 harg8 arg10 x5)) (headRun.sl.v135 c i arg5 harg5 arg8 harg8 arg10 x2 x5) := by
  rfl

set_option maxHeartbeats 4000000 in
theorem v403_eq :
    (headRun.sl.v403 c i arg5 harg5 arg6 harg6 arg8 harg8 arg10 x2 x3 x5)
      = gSel (fptosi 32 (headRun.sl.v80 c i arg8 harg8 arg10 x5)) (headRun.sl.v294 c i arg5 harg5 arg6 harg6 arg8 harg8 arg10 x2 x3 x5) := by
  rfl

set_option maxHeartbeats 4000000 in
theorem v562_eq :
    (headRun.sl.v562 c i arg3 harg3 arg5 harg5 arg6 harg6 arg8 harg8 arg10 x0 x2 x3 x5)
      = gSel (fptosi 32 (headRun.sl.v80 c i arg8 harg8 arg10 x5)) (headRun.sl.v453 c i arg3 harg3 arg5 harg5 arg6 harg6 arg8 harg8 arg10 x0 x2 x3 x5) := by
  rfl

set_option maxHeartbeats 4000000 in
theorem v721_eq :
    (headRun.sl.v721 c i arg3 harg3 arg5 harg5 arg6 harg6 arg7 harg7 arg8 harg8 arg10 x0 x2 x3 x4 x5)
      = gSel (fptosi 32 (headRun.sl.v80 c i arg8 harg8 arg10 x5)) (headRun.sl.v612 c i arg3 harg3 arg5 harg5 arg6 harg6 arg7 harg7 arg8 harg8 arg10 x0 x2 x3 x4 x5) := by
  rfl

set_option maxHeartbeats 4000000 in
theorem v849_eq :
    (headRun.sl.v849 c i arg8 harg8 x5)
      = ohMat (headRun.sl.v4 c i arg8 harg8 x5) := by
  rfl

set_option maxHeartbeats 4000000 in
theorem v935_eq :
    headRun.sl.v935 (F := F)
      = eyeMat := by
  rfl

set_option maxHeartbeats 4000000 in
theorem v80_apply (p : Fin 8) (l : Fin 128) : (headRun.sl.v80 c i arg8 harg8 arg10 x5) (ix2 p l) = seg (headRun.sl.v30 c i arg8 harg8 x5) p (ix2 (0 : Fin 1) l) := by
  have h : (headRun.sl.v79 c i arg8 harg8 arg10 x5) (ix3 (0 : Fin 1) p l) = (![(headRun.sl.v36 c i arg8 harg8 x5), (headRun.sl.v42 c i arg8 harg8 x5), (headRun.sl.v48 c i arg8 harg8 x5), (headRun.sl.v54 c i arg8 harg8 x5), (headRun.sl.v60 c i arg8 harg8 x5), (headRun.sl.v66 c i arg8 harg8 x5), (headRun.sl.v72 c i arg8 harg8 x5), (headRun.sl.v78 c i arg8 harg8 x5)] : Fin 8 → Vec F S1x128 .f32) p (ix2 (0 : Fin 1) l) :=
    fold_read (F := F) arg10.view 0 (by decide) (![(headRun.sl.v36 c i arg8 harg8 x5), (headRun.sl.v42 c i arg8 harg8 x5), (headRun.sl.v48 c i arg8 harg8 x5), (headRun.sl.v54 c i arg8 harg8 x5), (headRun.sl.v60 c i arg8 harg8 x5), (headRun.sl.v66 c i arg8 harg8 x5), (headRun.sl.v72 c i arg8 harg8 x5), (headRun.sl.v78 c i arg8 harg8 x5)] : Fin 8 → Vec F S1x128 .f32) _ _ _ _ _ _ _ _ _ _ _ _ _ _ _ _ _ _ _ _ _ _ p l
  have h2 : (headRun.sl.v80 c i arg8 harg8 arg10 x5) (ix2 p l) = (headRun.sl.v79 c i arg8 harg8 arg10 x5) (ix3 (0 : Fin 1) p l) := by
    show shapeCast S8x128 (headRun.sl.v79 c i arg8 harg8 arg10 x5) _ (ix2 p l) = _
    pointwise
  rw [h2, h]
  fin_cases p
  · exact congrFun (seg_eq0 (headRun.sl.v30 c i arg8 harg8 x5)) (ix2 (0 : Fin 1) l)
  · exact congrFun (seg_eq1 (headRun.sl.v30 c i arg8 harg8 x5)) (ix2 (0 : Fin 1) l)
  · exact congrFun (seg_eq2 (headRun.sl.v30 c i arg8 harg8 x5)) (ix2 (0 : Fin 1) l)
  · exact congrFun (seg_eq3 (headRun.sl.v30 c i arg8 harg8 x5)) (ix2 (0 : Fin 1) l)
  · exact congrFun (seg_eq4 (headRun.sl.v30 c i arg8 harg8 x5)) (ix2 (0 : Fin 1) l)
  · exact congrFun (seg_eq5 (headRun.sl.v30 c i arg8 harg8 x5)) (ix2 (0 : Fin 1) l)
  · exact congrFun (seg_eq6 (headRun.sl.v30 c i arg8 harg8 x5)) (ix2 (0 : Fin 1) l)
  · exact congrFun (seg_eq7 (headRun.sl.v30 c i arg8 harg8 x5)) (ix2 (0 : Fin 1) l)

set_option maxHeartbeats 4000000 in
theorem v135_apply (p : Fin 8) (l : Fin 128) : (headRun.sl.v135 c i arg5 harg5 arg8 harg8 arg10 x2 x5) (ix2 p l) = seg (headRun.sl.v7 c i arg5 harg5 x2) p (ix2 (0 : Fin 1) l) := by
  have h : (headRun.sl.v134 c i arg5 harg5 arg8 harg8 arg10 x2 x5) (ix3 (0 : Fin 1) p l) = (![(headRun.sl.v91 c i arg5 harg5 x2), (headRun.sl.v97 c i arg5 harg5 x2), (headRun.sl.v103 c i arg5 harg5 x2), (headRun.sl.v109 c i arg5 harg5 x2), (headRun.sl.v115 c i arg5 harg5 x2), (headRun.sl.v121 c i arg5 harg5 x2), (headRun.sl.v127 c i arg5 harg5 x2), (headRun.sl.v133 c i arg5 harg5 x2)] : Fin 8 → Vec F S1x128 .f32) p (ix2 (0 : Fin 1) l) :=
    fold_read (F := F) arg10.view 1 (by decide) (![(headRun.sl.v91 c i arg5 harg5 x2), (headRun.sl.v97 c i arg5 harg5 x2), (headRun.sl.v103 c i arg5 harg5 x2), (headRun.sl.v109 c i arg5 harg5 x2), (headRun.sl.v115 c i arg5 harg5 x2), (headRun.sl.v121 c i arg5 harg5 x2), (headRun.sl.v127 c i arg5 harg5 x2), (headRun.sl.v133 c i arg5 harg5 x2)] : Fin 8 → Vec F S1x128 .f32) _ _ _ _ _ _ _ _ _ _ _ _ _ _ _ _ _ _ _ _ _ _ p l
  have h2 : (headRun.sl.v135 c i arg5 harg5 arg8 harg8 arg10 x2 x5) (ix2 p l) = (headRun.sl.v134 c i arg5 harg5 arg8 harg8 arg10 x2 x5) (ix3 (0 : Fin 1) p l) := by
    show shapeCast S8x128 (headRun.sl.v134 c i arg5 harg5 arg8 harg8 arg10 x2 x5) _ (ix2 p l) = _
    pointwise
  rw [h2, h]
  fin_cases p
  · exact congrFun (seg_eq0 (headRun.sl.v7 c i arg5 harg5 x2)) (ix2 (0 : Fin 1) l)
  · exact congrFun (seg_eq1 (headRun.sl.v7 c i arg5 harg5 x2)) (ix2 (0 : Fin 1) l)
  · exact congrFun (seg_eq2 (headRun.sl.v7 c i arg5 harg5 x2)) (ix2 (0 : Fin 1) l)
  · exact congrFun (seg_eq3 (headRun.sl.v7 c i arg5 harg5 x2)) (ix2 (0 : Fin 1) l)
  · exact congrFun (seg_eq4 (headRun.sl.v7 c i arg5 harg5 x2)) (ix2 (0 : Fin 1) l)
  · exact congrFun (seg_eq5 (headRun.sl.v7 c i arg5 harg5 x2)) (ix2 (0 : Fin 1) l)
  · exact congrFun (seg_eq6 (headRun.sl.v7 c i arg5 harg5 x2)) (ix2 (0 : Fin 1) l)
  · exact congrFun (seg_eq7 (headRun.sl.v7 c i arg5 harg5 x2)) (ix2 (0 : Fin 1) l)

set_option maxHeartbeats 4000000 in
theorem v294_apply (p : Fin 8) (l : Fin 128) : (headRun.sl.v294 c i arg5 harg5 arg6 harg6 arg8 harg8 arg10 x2 x3 x5) (ix2 p l) = seg (headRun.sl.v10 c i arg6 harg6 x3) p (ix2 (0 : Fin 1) l) := by
  have h : (headRun.sl.v293 c i arg5 harg5 arg6 harg6 arg8 harg8 arg10 x2 x3 x5) (ix3 (0 : Fin 1) p l) = (![(headRun.sl.v250 c i arg6 harg6 x3), (headRun.sl.v256 c i arg6 harg6 x3), (headRun.sl.v262 c i arg6 harg6 x3), (headRun.sl.v268 c i arg6 harg6 x3), (headRun.sl.v274 c i arg6 harg6 x3), (headRun.sl.v280 c i arg6 harg6 x3), (headRun.sl.v286 c i arg6 harg6 x3), (headRun.sl.v292 c i arg6 harg6 x3)] : Fin 8 → Vec F S1x128 .f32) p (ix2 (0 : Fin 1) l) :=
    fold_read (F := F) arg10.view 2 (by decide) (![(headRun.sl.v250 c i arg6 harg6 x3), (headRun.sl.v256 c i arg6 harg6 x3), (headRun.sl.v262 c i arg6 harg6 x3), (headRun.sl.v268 c i arg6 harg6 x3), (headRun.sl.v274 c i arg6 harg6 x3), (headRun.sl.v280 c i arg6 harg6 x3), (headRun.sl.v286 c i arg6 harg6 x3), (headRun.sl.v292 c i arg6 harg6 x3)] : Fin 8 → Vec F S1x128 .f32) _ _ _ _ _ _ _ _ _ _ _ _ _ _ _ _ _ _ _ _ _ _ p l
  have h2 : (headRun.sl.v294 c i arg5 harg5 arg6 harg6 arg8 harg8 arg10 x2 x3 x5) (ix2 p l) = (headRun.sl.v293 c i arg5 harg5 arg6 harg6 arg8 harg8 arg10 x2 x3 x5) (ix3 (0 : Fin 1) p l) := by
    show shapeCast S8x128 (headRun.sl.v293 c i arg5 harg5 arg6 harg6 arg8 harg8 arg10 x2 x3 x5) _ (ix2 p l) = _
    pointwise
  rw [h2, h]
  fin_cases p
  · exact congrFun (seg_eq0 (headRun.sl.v10 c i arg6 harg6 x3)) (ix2 (0 : Fin 1) l)
  · exact congrFun (seg_eq1 (headRun.sl.v10 c i arg6 harg6 x3)) (ix2 (0 : Fin 1) l)
  · exact congrFun (seg_eq2 (headRun.sl.v10 c i arg6 harg6 x3)) (ix2 (0 : Fin 1) l)
  · exact congrFun (seg_eq3 (headRun.sl.v10 c i arg6 harg6 x3)) (ix2 (0 : Fin 1) l)
  · exact congrFun (seg_eq4 (headRun.sl.v10 c i arg6 harg6 x3)) (ix2 (0 : Fin 1) l)
  · exact congrFun (seg_eq5 (headRun.sl.v10 c i arg6 harg6 x3)) (ix2 (0 : Fin 1) l)
  · exact congrFun (seg_eq6 (headRun.sl.v10 c i arg6 harg6 x3)) (ix2 (0 : Fin 1) l)
  · exact congrFun (seg_eq7 (headRun.sl.v10 c i arg6 harg6 x3)) (ix2 (0 : Fin 1) l)

set_option maxHeartbeats 4000000 in
theorem v453_apply (p : Fin 8) (l : Fin 128) : (headRun.sl.v453 c i arg3 harg3 arg5 harg5 arg6 harg6 arg8 harg8 arg10 x0 x2 x3 x5) (ix2 p l) = seg (headRun.sl.v29 c i arg3 harg3 arg5 harg5 x0 x2) p (ix2 (0 : Fin 1) l) := by
  have h : (headRun.sl.v452 c i arg3 harg3 arg5 harg5 arg6 harg6 arg8 harg8 arg10 x0 x2 x3 x5) (ix3 (0 : Fin 1) p l) = (![(headRun.sl.v409 c i arg3 harg3 arg5 harg5 x0 x2), (headRun.sl.v415 c i arg3 harg3 arg5 harg5 x0 x2), (headRun.sl.v421 c i arg3 harg3 arg5 harg5 x0 x2), (headRun.sl.v427 c i arg3 harg3 arg5 harg5 x0 x2), (headRun.sl.v433 c i arg3 harg3 arg5 harg5 x0 x2), (headRun.sl.v439 c i arg3 harg3 arg5 harg5 x0 x2), (headRun.sl.v445 c i arg3 harg3 arg5 harg5 x0 x2), (headRun.sl.v451 c i arg3 harg3 arg5 harg5 x0 x2)] : Fin 8 → Vec F S1x128 .f32) p (ix2 (0 : Fin 1) l) :=
    fold_read (F := F) arg10.view 3 (by decide) (![(headRun.sl.v409 c i arg3 harg3 arg5 harg5 x0 x2), (headRun.sl.v415 c i arg3 harg3 arg5 harg5 x0 x2), (headRun.sl.v421 c i arg3 harg3 arg5 harg5 x0 x2), (headRun.sl.v427 c i arg3 harg3 arg5 harg5 x0 x2), (headRun.sl.v433 c i arg3 harg3 arg5 harg5 x0 x2), (headRun.sl.v439 c i arg3 harg3 arg5 harg5 x0 x2), (headRun.sl.v445 c i arg3 harg3 arg5 harg5 x0 x2), (headRun.sl.v451 c i arg3 harg3 arg5 harg5 x0 x2)] : Fin 8 → Vec F S1x128 .f32) _ _ _ _ _ _ _ _ _ _ _ _ _ _ _ _ _ _ _ _ _ _ p l
  have h2 : (headRun.sl.v453 c i arg3 harg3 arg5 harg5 arg6 harg6 arg8 harg8 arg10 x0 x2 x3 x5) (ix2 p l) = (headRun.sl.v452 c i arg3 harg3 arg5 harg5 arg6 harg6 arg8 harg8 arg10 x0 x2 x3 x5) (ix3 (0 : Fin 1) p l) := by
    show shapeCast S8x128 (headRun.sl.v452 c i arg3 harg3 arg5 harg5 arg6 harg6 arg8 harg8 arg10 x0 x2 x3 x5) _ (ix2 p l) = _
    pointwise
  rw [h2, h]
  fin_cases p
  · exact congrFun (seg_eq0 (headRun.sl.v29 c i arg3 harg3 arg5 harg5 x0 x2)) (ix2 (0 : Fin 1) l)
  · exact congrFun (seg_eq1 (headRun.sl.v29 c i arg3 harg3 arg5 harg5 x0 x2)) (ix2 (0 : Fin 1) l)
  · exact congrFun (seg_eq2 (headRun.sl.v29 c i arg3 harg3 arg5 harg5 x0 x2)) (ix2 (0 : Fin 1) l)
  · exact congrFun (seg_eq3 (headRun.sl.v29 c i arg3 harg3 arg5 harg5 x0 x2)) (ix2 (0 : Fin 1) l)
  · exact congrFun (seg_eq4 (headRun.sl.v29 c i arg3 harg3 arg5 harg5 x0 x2)) (ix2 (0 : Fin 1) l)
  · exact congrFun (seg_eq5 (headRun.sl.v29 c i arg3 harg3 arg5 harg5 x0 x2)) (ix2 (0 : Fin 1) l)
  · exact congrFun (seg_eq6 (headRun.sl.v29 c i arg3 harg3 arg5 harg5 x0 x2)) (ix2 (0 : Fin 1) l)
  · exact congrFun (seg_eq7 (headRun.sl.v29 c i arg3 harg3 arg5 harg5 x0 x2)) (ix2 (0 : Fin 1) l)

set_option maxHeartbeats 4000000 in
theorem v612_apply (p : Fin 8) (l : Fin 128) : (headRun.sl.v612 c i arg3 harg3 arg5 harg5 arg6 harg6 arg7 harg7 arg8 harg8 arg10 x0 x2 x3 x4 x5) (ix2 p l) = seg (headRun.sl.v14 c i arg7 harg7 x4) p (ix2 (0 : Fin 1) l) := by
  have h : (headRun.sl.v611 c i arg3 harg3 arg5 harg5 arg6 harg6 arg7 harg7 arg8 harg8 arg10 x0 x2 x3 x4 x5) (ix3 (0 : Fin 1) p l) = (![(headRun.sl.v568 c i arg7 harg7 x4), (headRun.sl.v574 c i arg7 harg7 x4), (headRun.sl.v580 c i arg7 harg7 x4), (headRun.sl.v586 c i arg7 harg7 x4), (headRun.sl.v592 c i arg7 harg7 x4), (headRun.sl.v598 c i arg7 harg7 x4), (headRun.sl.v604 c i arg7 harg7 x4), (headRun.sl.v610 c i arg7 harg7 x4)] : Fin 8 → Vec F S1x128 .f32) p (ix2 (0 : Fin 1) l) :=
    fold_read (F := F) arg10.view 4 (by decide) (![(headRun.sl.v568 c i arg7 harg7 x4), (headRun.sl.v574 c i arg7 harg7 x4), (headRun.sl.v580 c i arg7 harg7 x4), (headRun.sl.v586 c i arg7 harg7 x4), (headRun.sl.v592 c i arg7 harg7 x4), (headRun.sl.v598 c i arg7 harg7 x4), (headRun.sl.v604 c i arg7 harg7 x4), (headRun.sl.v610 c i arg7 harg7 x4)] : Fin 8 → Vec F S1x128 .f32) _ _ _ _ _ _ _ _ _ _ _ _ _ _ _ _ _ _ _ _ _ _ p l
  have h2 : (headRun.sl.v612 c i arg3 harg3 arg5 harg5 arg6 harg6 arg7 harg7 arg8 harg8 arg10 x0 x2 x3 x4 x5) (ix2 p l) = (headRun.sl.v611 c i arg3 harg3 arg5 harg5 arg6 harg6 arg7 harg7 arg8 harg8 arg10 x0 x2 x3 x4 x5) (ix3 (0 : Fin 1) p l) := by
    show shapeCast S8x128 (headRun.sl.v611 c i arg3 harg3 arg5 harg5 arg6 harg6 arg7 harg7 arg8 harg8 arg10 x0 x2 x3 x4 x5) _ (ix2 p l) = _
    pointwise
  rw [h2, h]
  fin_cases p
  · exact congrFun (seg_eq0 (headRun.sl.v14 c i arg7 harg7 x4)) (ix2 (0 : Fin 1) l)
  · exact congrFun (seg_eq1 (headRun.sl.v14 c i arg7 harg7 x4)) (ix2 (0 : Fin 1) l)
  · exact congrFun (seg_eq2 (headRun.sl.v14 c i arg7 harg7 x4)) (ix2 (0 : Fin 1) l)
  · exact congrFun (seg_eq3 (headRun.sl.v14 c i arg7 harg7 x4)) (ix2 (0 : Fin 1) l)
  · exact congrFun (seg_eq4 (headRun.sl.v14 c i arg7 harg7 x4)) (ix2 (0 : Fin 1) l)
  · exact congrFun (seg_eq5 (headRun.sl.v14 c i arg7 harg7 x4)) (ix2 (0 : Fin 1) l)
  · exact congrFun (seg_eq6 (headRun.sl.v14 c i arg7 harg7 x4)) (ix2 (0 : Fin 1) l)
  · exact congrFun (seg_eq7 (headRun.sl.v14 c i arg7 harg7 x4)) (ix2 (0 : Fin 1) l)

theorem row_f (arg : Memref sig .tc .vmem S1x2x1024 .f32) (h : arg.IsWhole) (x : Vec F S1x2x1024 .f32) (b : Fin 2) (hb : (i 0).val = b.val) (inb) (s : Fin 1024) :
    View.readAt (Elt F) arg.view (Rect.unit (s := S1x2x1024) (k0_off1 i) S1x1x1024.size inb).toLoadRect (h.unread x) (ix3 (0 : Fin 1) (0 : Fin 1) s) = x (ix3 (0 : Fin 1) b s) := by
  rw [View.readAt_eq_ld, h.read_unread]
  refine congrArg x (funext fun a => Fin.ext ?_)
  have e := k0_off1_eq i
  fin_cases a
  · show k0_off1 i 0 + 1 * 0 = 0
    rw [e]; rfl
  · show k0_off1 i 1 + 1 * 0 = b.val
    rw [e]; exact hb
  · show k0_off1 i 2 + 1 * s.val = s.val
    rw [e]; show 0 + 1 * s.val = s.val; omega

theorem row_i (arg : Memref sig .tc .vmem S1x2x1024 .i32) (h : arg.IsWhole) (x : Vec F S1x2x1024 .i32) (b : Fin 2) (hb : (i 0).val = b.val) (inb) (s : Fin 1024) :
    View.readAt (Elt F) arg.view (Rect.unit (s := S1x2x1024) (k0_off1 i) S1x1x1024.size inb).toLoadRect (h.unread x) (ix3 (0 : Fin 1) (0 : Fin 1) s) = x (ix3 (0 : Fin 1) b s) := by
  rw [View.readAt_eq_ld, h.read_unread]
  refine congrArg x (funext fun a => Fin.ext ?_)
  have e := k0_off1_eq i
  fin_cases a
  · show k0_off1 i 0 + 1 * 0 = 0
    rw [e]; rfl
  · show k0_off1 i 1 + 1 * 0 = b.val
    rw [e]; exact hb
  · show k0_off1 i 2 + 1 * s.val = s.val
    rw [e]; show 0 + 1 * s.val = s.val; omega

theorem head_f (arg : Memref sig .tc .vmem S1x1x160x1024 .fp8e4m3) (h : arg.IsWhole) (x : Vec F S1x1x160x1024 .fp8e4m3) (inb) (d : Fin 160) (s : Fin 1024) :
    View.readAt (Elt F) arg.view (Rect.unit (s := S1x1x160x1024) ![0, 0, 0, 0] S1x1x160x1024.size inb).toLoadRect (h.unread x) (ix4 (0 : Fin 1) (0 : Fin 1) d s) = x (ix4 (0 : Fin 1) (0 : Fin 1) d s) := by
  rw [View.readAt_eq_ld, h.read_unread]
  refine congrArg x (funext fun a => Fin.ext ?_)
  fin_cases a
  · rfl
  · rfl
  · show 0 + 1 * d.val = d.val; omega
  · show 0 + 1 * s.val = s.val; omega

theorem v1_apply (d : Fin 160) (s : Fin 1024) : (headRun.sl.v1 c arg3 harg3 x0) (ix2 d s) = x0 (ix4 (0 : Fin 1) (0 : Fin 1) d s) := by
  show shapeCast S160x1024 (View.readAt (Elt F) arg3.view _ (harg3.unread x0)) _ (ix2 d s) = _
  pointwise
  exact head_f arg3 harg3 x0 _ d s

theorem v853_apply (d : Fin 160) (s : Fin 1024) : (headRun.sl.v853 c arg4 harg4 x1) (ix2 d s) = x1 (ix4 (0 : Fin 1) (0 : Fin 1) d s) := by
  show shapeCast S160x1024 (View.readAt (Elt F) arg4.view _ (harg4.unread x1)) _ (ix2 d s) = _
  pointwise
  exact head_f arg4 harg4 x1 _ d s

theorem v4_apply (b : Fin 2) (hb : (i 0).val = b.val) (s : Fin 1024) : (headRun.sl.v4 c i arg8 harg8 x5) (ix2 (0 : Fin 1) s) = x5 (ix3 (0 : Fin 1) b s) := by
  show shapeCast S1x1024 (View.readAt (Elt F) arg8.view _ (harg8.unread x5)) _ (ix2 (0 : Fin 1) s) = _
  pointwise
  exact row_i i arg8 harg8 x5 b hb _ s

theorem v7_apply (b : Fin 2) (hb : (i 0).val = b.val) (s : Fin 1024) : (headRun.sl.v7 c i arg5 harg5 x2) (ix2 (0 : Fin 1) s) = x2 (ix3 (0 : Fin 1) b s) := by
  show shapeCast S1x1024 (View.readAt (Elt F) arg5.view _ (harg5.unread x2)) _ (ix2 (0 : Fin 1) s) = _
  pointwise
  exact row_f i arg5 harg5 x2 b hb _ s

theorem v10_apply (b : Fin 2) (hb : (i 0).val = b.val) (s : Fin 1024) : (headRun.sl.v10 c i arg6 harg6 x3) (ix2 (0 : Fin 1) s) = x3 (ix3 (0 : Fin 1) b s) := by
  show shapeCast S1x1024 (View.readAt (Elt F) arg6.view _ (harg6.unread x3)) _ (ix2 (0 : Fin 1) s) = _
  pointwise
  exact row_f i arg6 harg6 x3 b hb _ s

theorem v14_apply (b : Fin 2) (hb : (i 0).val = b.val) (s : Fin 1024) : (headRun.sl.v14 c i arg7 harg7 x4) (ix2 (0 : Fin 1) s) = (FloatOps.sitofp .f32 (x4 (ix3 (0 : Fin 1) b s)) : F .f32) := by
  show (FloatOps.sitofp (F := F) .f32 (shapeCast S1x1024 (View.readAt (Elt F) arg7.view _ (harg7.unread x4)) _ (ix2 (0 : Fin 1) s)) : F .f32) = _
  refine congrArg (fun z => (FloatOps.sitofp (F := F) .f32 z : F .f32)) ?_
  pointwise
  exact row_i i arg7 harg7 x4 b hb _ s

theorem v30_apply (b : Fin 2) (hb : (i 0).val = b.val) (s : Fin 1024) : (headRun.sl.v30 c i arg8 harg8 x5) (ix2 (0 : Fin 1) s) = (FloatOps.sitofp .f32 (x5 (ix3 (0 : Fin 1) b s)) : F .f32) := by
  show (FloatOps.sitofp (F := F) .f32 (shapeCast S1x1024 (View.readAt (Elt F) arg8.view _ (harg8.unread x5)) _ (ix2 (0 : Fin 1) s)) : F .f32) = _
  refine congrArg (fun z => (FloatOps.sitofp (F := F) .f32 z : F .f32)) ?_
  pointwise
  exact row_i i arg8 harg8 x5 b hb _ s

end Cert.KernelIdeal.Hand

end
-- ==== Proof.Window.lean ====
/-
  One block at an index: each sorted position attends to its window of 192 keys.
-/
module

public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe

/-! ## The window -/

/-- Key `w` of the window of sorted position `r`: the chunk before, the position's own, the chunk after, around the ring. -/
def key (r : Fin 1024) (w : Fin 192) : Fin 1024 := ⟨((r.val / 64 + 15) * 64 + w.val) % 1024, Nat.mod_lt _ (by decide)⟩

/-- The score that hides a position from itself, and the one that hides it from other buckets. -/
def selfMask : EReal := (Named.named κ "self_mask" 0xC80CE360#32 : Ideal .f32)
def bucketMask : EReal := (Named.named κ "bucket_mask" 0xCEABFB8F#32 : Ideal .f32)

section
variable (K : Fin 1024 → Fin 160 → EReal) (kf bk qf : Fin 1024 → EReal) (vt : Fin 160 → Fin 1024 → EReal)

/-- The score of position `r` against key `k`. -/
def sc (r k : Fin 1024) : EReal :=
  if k = r then selfMask else if bk k = bk r then (∑ d, K k d * K r d) * kf k * qf r else bucketMask

def wMx (r : Fin 1024) : EReal := Finset.univ.sup fun w : Fin 192 => sc K kf bk qf r (key r w)
def wEx (r : Fin 1024) (w : Fin 192) : EReal := Ideal.exp2 (sc K kf bk qf r (key r w) - wMx K kf bk qf r)
def wOut (d : Fin 160) (r : Fin 1024) : EReal :=
  (∑ w, vt d (key r w) * wEx K kf bk qf r w) * Ideal.div 1 (∑ w, wEx K kf bk qf r w)
end

/-! ## Sums over the window, split as the tiles split it -/

theorem sum192_even (f : Fin 192 → EReal) : ∑ w, f w = (∑ k : Fin 128, f ⟨64 + k.val, by omega⟩) + ∑ k : Fin 64, f ⟨k.val, by omega⟩ := by
  rw [add_comm]
  exact Fin.sum_univ_add (a := 64) (b := 128) (f := f)

theorem sum192_odd (f : Fin 192 → EReal) : ∑ w, f w = (∑ k : Fin 128, f ⟨k.val, by omega⟩) + ∑ k : Fin 64, f ⟨128 + k.val, by omega⟩ :=
  Fin.sum_univ_add (a := 128) (b := 64) (f := f)

theorem sum256_first (f : Fin 256 → EReal) : ∑ w, f w = (∑ k : Fin 128, f ⟨k.val, by omega⟩) + ((∑ k : Fin 64, f ⟨128 + k.val, by omega⟩) + ∑ k : Fin 64, f ⟨192 + k.val, by omega⟩) := by
  rw [Fin.sum_univ_add (a := 128) (b := 128) (f := f), Fin.sum_univ_add (a := 64) (b := 64) (f := fun k : Fin 128 => f (Fin.natAdd 128 k))]
  refine congrArg₂ (· + ·) rfl (congrArg₂ (· + ·) rfl (Finset.sum_congr rfl fun k _ => congrArg f (Fin.ext ?_)))
  show 128 + (64 + k.val) = 192 + k.val
  omega

theorem sum256_second (f : Fin 256 → EReal) : ∑ w, f w = ((∑ k : Fin 64, f ⟨k.val, by omega⟩) + ∑ k : Fin 64, f ⟨64 + k.val, by omega⟩) + ∑ k : Fin 128, f ⟨128 + k.val, by omega⟩ := by
  rw [Fin.sum_univ_add (a := 128) (b := 128) (f := f), Fin.sum_univ_add (a := 64) (b := 64) (f := fun k : Fin 128 => f (Fin.castAdd 128 k))]
  rfl

theorem sup192_even (f : Fin 192 → EReal) : (Finset.univ.sup f) = max (Finset.univ.sup fun k : Fin 128 => f ⟨64 + k.val, by omega⟩) (Finset.univ.sup fun k : Fin 64 => f ⟨k.val, by omega⟩) := by
  apply le_antisymm
  · refine Finset.sup_le fun w _ => ?_
    by_cases h : w.val < 64
    · exact le_max_of_le_right (Finset.le_sup (f := fun k : Fin 64 => f ⟨k.val, by omega⟩) (Finset.mem_univ (⟨w.val, h⟩ : Fin 64)))
    · refine le_max_of_le_left (le_trans (le_of_eq (congrArg f (Fin.ext ?_))) (Finset.le_sup (f := fun k : Fin 128 => f ⟨64 + k.val, by omega⟩) (Finset.mem_univ (⟨w.val - 64, by omega⟩ : Fin 128))))
      show w.val = 64 + (w.val - 64)
      omega
  · exact max_le (Finset.sup_le fun k _ => Finset.le_sup (Finset.mem_univ _)) (Finset.sup_le fun k _ => Finset.le_sup (Finset.mem_univ _))

theorem sup192_odd (f : Fin 192 → EReal) : (Finset.univ.sup f) = max (Finset.univ.sup fun k : Fin 128 => f ⟨k.val, by omega⟩) (Finset.univ.sup fun k : Fin 64 => f ⟨128 + k.val, by omega⟩) := by
  apply le_antisymm
  · refine Finset.sup_le fun w _ => ?_
    by_cases h : w.val < 128
    · exact le_max_of_le_left (Finset.le_sup (f := fun k : Fin 128 => f ⟨k.val, by omega⟩) (Finset.mem_univ (⟨w.val, h⟩ : Fin 128)))
    · refine le_max_of_le_right (le_trans (le_of_eq (congrArg f (Fin.ext ?_))) (Finset.le_sup (f := fun k : Fin 64 => f ⟨128 + k.val, by omega⟩) (Finset.mem_univ (⟨w.val - 128, by omega⟩ : Fin 64))))
      show w.val = 128 + (w.val - 128)
      omega
  · exact max_le (Finset.sup_le fun k _ => Finset.le_sup (Finset.mem_univ _)) (Finset.sup_le fun k _ => Finset.le_sup (Finset.mem_univ _))

/-! ## The pieces at an index -/

theorem sel_lt {α : Type} (y : ℕ) (hy : y < 256) (a b : α) : Scalar.select (IntOp.cmpi .slt (BitVec.ofNat 32 y) 64#32) a b = if y < 64 then a else b := by
  have : (BitVec.ofNat 32 y).slt 64#32 = decide (y < 64) := by
    rw [BitVec.slt_eq_decide]
    have e : (BitVec.ofNat 32 y).toInt = (y : ℤ) := by
      rw [BitVec.toInt_eq_toNat_of_msb (by rw [BitVec.msb_eq_decide]; simp only [BitVec.toNat_ofNat, decide_eq_false_iff_not]; omega)]
      simp only [BitVec.toNat_ofNat]
      omega
    rw [e, show (64#32).toInt = 64 from rfl]
    rw [Bool.eq_iff_iff]
    simp only [decide_eq_true_eq]
    omega
  unfold IntOp.cmpi
  simp only [this]
  by_cases h : y < 64
  · rw [if_pos h, decide_eq_true h]; rfl
  · rw [if_neg h, decide_eq_false h]; rfl

theorem sel_eq {α : Type} (k y : ℕ) (hk : k < 256) (hy : y < 256) (a b : α) : Scalar.select (IntOp.cmpi .eq (BitVec.ofNat 32 k) (BitVec.ofNat 32 y)) a b = if k = y then a else b := by
  have : (BitVec.ofNat 32 k == BitVec.ofNat 32 y) = decide (k = y) := by
    rw [Bool.eq_iff_iff]
    simp only [beq_iff_eq, decide_eq_true_eq]
    constructor
    · intro e
      have := congrArg BitVec.toNat e
      simp only [BitVec.toNat_ofNat] at this
      omega
    · intro e; rw [e]
  unfold IntOp.cmpi
  simp only [this]
  by_cases h : k = y
  · rw [if_pos h, decide_eq_true h]; rfl
  · rw [if_neg h, decide_eq_false h]; rfl

theorem mS0_apply (d kf bk : FVec Ideal S128x128 .f32) (qf bq : FVec Ideal S1x128 .f32) (k y : Fin 128) :
    mS0 d kf bk qf bq (ix2 k y) = if k.val = y.val then selfMask else if bk (ix2 k y) = bq (ix2 (0 : Fin 1) y) then d (ix2 k y) * kf (ix2 k y) * qf (ix2 (0 : Fin 1) y) else bucketMask := by
  unfold mS0 mDiag
  pointwise
  rw [sel_eq k.val y.val (by omega) (by omega)]
  rfl

theorem mS1_apply (db da kfb kfa bkb bka : FVec Ideal S64x128 .f32) (qf bq : FVec Ideal S1x128 .f32) (k : Fin 64) (y : Fin 128) :
    mS1 db da kfb kfa bkb bka qf bq (ix2 k y) = if y.val < 64 then (if bkb (ix2 k y) = bq (ix2 (0 : Fin 1) y) then db (ix2 k y) * kfb (ix2 k y) * qf (ix2 (0 : Fin 1) y) else bucketMask)
      else (if bka (ix2 k y) = bq (ix2 (0 : Fin 1) y) then da (ix2 k y) * kfa (ix2 k y) * qf (ix2 (0 : Fin 1) y) else bucketMask) := by
  unfold mS1 mEven
  pointwise
  simp only [sel_lt y.val (by omega)]
  split <;> rfl

theorem bot_bits : Ideal.ofBits .f32 0xFF800000#32 = ⊥ := by
  simp [Ideal.ofBits, Ideal.ieee]

theorem mMax_apply (s0 : FVec Ideal S128x128 .f32) (s1 : FVec Ideal S64x128 .f32) (y : Fin 128) :
    mMax s0 s1 (ix2 (0 : Fin 1) y) = max (Finset.univ.sup fun k : Fin 128 => s0 (ix2 k y)) (Finset.univ.sup fun k : Fin 64 => s1 (ix2 k y)) := by
  unfold mMax
  pointwise
  rw [bot_bits]
  rfl

theorem mSum_apply (s0 : FVec Ideal S128x128 .f32) (s1 : FVec Ideal S64x128 .f32) (y : Fin 128) :
    mSum s0 s1 (ix2 (0 : Fin 1) y) = (∑ k : Fin 128, s0 (ix2 k y)) + ∑ k : Fin 64, s1 (ix2 k y) := by
  unfold mSum
  pointwise

theorem mE0_apply (s0 : FVec Ideal S128x128 .f32) (s1 : FVec Ideal S64x128 .f32) (k y : Fin 128) :
    mE0 s0 s1 (ix2 k y) = Ideal.exp2 (s0 (ix2 k y) - mMax s0 s1 (ix2 (0 : Fin 1) y)) := by
  unfold mE0
  pointwise
  rfl

theorem mE1_apply (s0 : FVec Ideal S128x128 .f32) (s1 : FVec Ideal S64x128 .f32) (k : Fin 64) (y : Fin 128) :
    mE1 s0 s1 (ix2 k y) = Ideal.exp2 (s1 (ix2 k y) - mMax s0 s1 (ix2 (0 : Fin 1) y)) := by
  unfold mE1
  pointwise
  rfl

theorem mDm_apply (q : FVec Ideal S256x160 .fp8e4m3) (k y : Fin 256) : mDm q (ix2 k y) = ∑ d, q (ix2 k d) * q (ix2 y d) := by
  unfold mDm
  pointwise

theorem mDe_apply (q : FVec Ideal S256x160 .fp8e4m3) (lo hi : FVec Ideal S64x160 .fp8e4m3) (k : Fin 128) (y : Fin 256) :
    mDe q lo hi (ix2 k y) = ∑ d, (if h : k.val < 64 then lo (ix2 (⟨k.val, h⟩ : Fin 64) d) else hi (ix2 (⟨k.val - 64, by omega⟩ : Fin 64) d)) * q (ix2 y d) := by
  unfold mDe
  pointwise

section
variable (e0 : FVec Ideal S128x128 .f32) (e1 : FVec Ideal S64x128 .f32) (e0' : FVec Ideal S128x128 .f32) (e1' : FVec Ideal S64x128 .f32)

theorem mMain_apply (k y : Fin 256) :
    mMain e0 e1 e0' e1' (ix2 k y) = if h : y.val < 128 then
        (if h' : k.val < 128 then e0 (ix2 (⟨k.val, h'⟩ : Fin 128) (⟨y.val, h⟩ : Fin 128))
        else if h'' : k.val - 128 < 64 then (if y.val < 64 then 0 else e1 (ix2 (⟨k.val - 128, h''⟩ : Fin 64) (⟨y.val, h⟩ : Fin 128))) else 0)
      else if h' : k.val < 64 then 0
        else if h'' : k.val - 64 < 64 then (if y.val - 128 < 64 then e1' (ix2 (⟨k.val - 64, h''⟩ : Fin 64) (⟨y.val - 128, by omega⟩ : Fin 128)) else 0)
        else e0' (ix2 (⟨k.val - 64 - 64, by omega⟩ : Fin 128) (⟨y.val - 128, by omega⟩ : Fin 128)) := by
  unfold mMain mAfter mBefore mZero mEven
  pointwise
  simp only [sel_lt y.val (by omega), sel_lt (y.val - 128) (by omega)]

theorem mEdge_apply (k : Fin 128) (y : Fin 256) :
    mEdge e1 e1' (ix2 k y) = if h : y.val < 128 then
        (if h' : k.val < 64 then (if y.val < 64 then e1 (ix2 (⟨k.val, h'⟩ : Fin 64) (⟨y.val, h⟩ : Fin 128)) else 0) else 0)
      else if h' : k.val < 64 then 0
        else (if y.val - 128 < 64 then 0 else e1' (ix2 (⟨k.val - 64, by omega⟩ : Fin 64) (⟨y.val - 128, by omega⟩ : Fin 128))) := by
  unfold mEdge mAfter mBefore mZero mEven
  pointwise
  simp only [sel_lt y.val (by omega), sel_lt (y.val - 128) (by omega)]

end

theorem mOut_apply (vm : FVec Ideal S160x256 .bf16) (vlo vhi : FVec Ideal S160x64 .bf16) (s00 : FVec Ideal S128x128 .f32) (s01 : FVec Ideal S64x128 .f32)
    (s10 : FVec Ideal S128x128 .f32) (s11 : FVec Ideal S64x128 .f32) (d : Fin 160) (y : Fin 256) :
    mOut vm vlo vhi s00 s01 s10 s11 (ix2 d y) =
      ((∑ x, vm (ix2 d x) * mMain (mE0 s00 s01) (mE1 s00 s01) (mE0 s10 s11) (mE1 s10 s11) (ix2 x y)) +
        ((∑ x : Fin 64, vlo (ix2 d x) * mEdge (mE1 s00 s01) (mE1 s10 s11) (ix2 (⟨x.val, by omega⟩ : Fin 128) y)) +
          ∑ x : Fin 64, vhi (ix2 d x) * mEdge (mE1 s00 s01) (mE1 s10 s11) (ix2 (⟨64 + x.val, by omega⟩ : Fin 128) y))) *
      Ideal.div 1
        (if h : y.val < 128 then mSum (mE0 s00 s01) (mE1 s00 s01) (ix2 (0 : Fin 1) (⟨y.val, h⟩ : Fin 128))
        else mSum (mE0 s10 s11) (mE1 s10 s11) (ix2 (0 : Fin 1) (⟨y.val - 128, by omega⟩ : Fin 128))) := by
  unfold mOut
  pointwise

/-- A column of the first tile. -/
theorem mOut_first (vm : FVec Ideal S160x256 .bf16) (vlo vhi : FVec Ideal S160x64 .bf16) (s00 : FVec Ideal S128x128 .f32) (s01 : FVec Ideal S64x128 .f32)
    (s10 : FVec Ideal S128x128 .f32) (s11 : FVec Ideal S64x128 .f32) (d : Fin 160) (y : Fin 128) :
    mOut vm vlo vhi s00 s01 s10 s11 (ix2 d (⟨y.val, by omega⟩ : Fin 256)) =
      ((∑ k : Fin 128, vm (ix2 d (⟨k.val, by omega⟩ : Fin 256)) * mE0 s00 s01 (ix2 k y)) +
        ∑ k : Fin 64, (if y.val < 64 then vlo (ix2 d k) else vm (ix2 d (⟨128 + k.val, by omega⟩ : Fin 256))) * mE1 s00 s01 (ix2 k y)) *
      Ideal.div 1 ((∑ k : Fin 128, mE0 s00 s01 (ix2 k y)) + ∑ k : Fin 64, mE1 s00 s01 (ix2 k y)) := by
  have hy := y.isLt
  rw [mOut_apply, dif_pos hy, sum256_first, mSum_apply]
  refine congrArg₂ (· * ·) ?_ rfl
  simp only [mMain_apply, mEdge_apply, dif_pos hy]
  have a1 : ∀ k : Fin 128, k.val < 128 := fun k => k.isLt
  have a2 : ∀ k : Fin 64, ¬ (128 + k.val < 128) := fun k => by omega
  have a3 : ∀ k : Fin 64, 128 + k.val - 128 = k.val := fun k => by omega
  have a4 : ∀ k : Fin 64, ¬ (192 + k.val < 128) := fun k => by omega
  have a5 : ∀ k : Fin 64, ¬ (192 + k.val - 128 < 64) := fun k => by omega
  have a6 : ∀ k : Fin 64, k.val < 64 := fun k => k.isLt
  have a7 : ∀ k : Fin 64, ¬ (64 + k.val < 64) := fun k => by omega
  simp only [a1, a2, a3, a4, a5, a6, a7, dif_pos, dif_neg, not_false_eq_true, mul_zero, Finset.sum_const_zero, add_zero, Fin.eta]
  by_cases h : y.val < 64
  · simp only [h, if_true, mul_zero, Finset.sum_const_zero, add_zero]
  · simp only [h, if_false, mul_zero, Finset.sum_const_zero, add_zero]

/-- A column of the second tile. -/
theorem mOut_second (vm : FVec Ideal S160x256 .bf16) (vlo vhi : FVec Ideal S160x64 .bf16) (s00 : FVec Ideal S128x128 .f32) (s01 : FVec Ideal S64x128 .f32)
    (s10 : FVec Ideal S128x128 .f32) (s11 : FVec Ideal S64x128 .f32) (d : Fin 160) (y : Fin 128) :
    mOut vm vlo vhi s00 s01 s10 s11 (ix2 d (⟨128 + y.val, by omega⟩ : Fin 256)) =
      ((∑ k : Fin 128, vm (ix2 d (⟨128 + k.val, by omega⟩ : Fin 256)) * mE0 s10 s11 (ix2 k y)) +
        ∑ k : Fin 64, (if y.val < 64 then vm (ix2 d (⟨64 + k.val, by omega⟩ : Fin 256)) else vhi (ix2 d k)) * mE1 s10 s11 (ix2 k y)) *
      Ideal.div 1 ((∑ k : Fin 128, mE0 s10 s11 (ix2 k y)) + ∑ k : Fin 64, mE1 s10 s11 (ix2 k y)) := by
  have hy : ¬ (128 + y.val < 128) := by omega
  have hy' : 128 + y.val - 128 = y.val := by omega
  rw [mOut_apply, dif_neg hy, sum256_second, mSum_apply]
  have e : (⟨128 + y.val - 128, by omega⟩ : Fin 128) = y := Fin.ext hy'
  simp only [mMain_apply, mEdge_apply, dif_neg hy, e]
  refine congrArg₂ (· * ·) ?_ rfl
  have a1 : ∀ k : Fin 64, k.val < 64 := fun k => k.isLt
  have a2 : ∀ k : Fin 64, ¬ (64 + k.val < 64) := fun k => by omega
  have a3 : ∀ k : Fin 64, 64 + k.val - 64 = k.val := fun k => by omega
  have a4 : ∀ k : Fin 128, ¬ (128 + k.val < 64) := fun k => by omega
  have a5 : ∀ k : Fin 128, ¬ (128 + k.val - 64 < 64) := fun k => by omega
  have a6 : ∀ k : Fin 128, 128 + k.val - 64 - 64 = k.val := fun k => by omega
  simp only [a1, a2, a3, a4, a5, a6, hy', dif_pos, dif_neg, not_false_eq_true, mul_zero, Finset.sum_const_zero, add_zero, zero_add, Fin.eta]
  by_cases h : y.val < 64
  · simp only [h, if_true, mul_zero, Finset.sum_const_zero, add_zero]
    exact add_comm _ _
  · simp only [h, if_false, mul_zero, Finset.sum_const_zero, add_zero, zero_add]

/-! ## One block -/

section
variable (K : Fin 1024 → Fin 160 → EReal) (kf bk qf : Fin 1024 → EReal) (vt : Fin 160 → Fin 1024 → EReal)

/-- A column whose scores are those of its window, seen in the tile's order, gives the window's result. -/
theorem col_eq (r : Fin 1024) (d : Fin 160) (even : Prop) [Decidable even] (A : Fin 128 → Fin 1024) (B : Fin 64 → Fin 1024)
    (hA : ∀ k : Fin 128, A k = if even then key r ⟨64 + k.val, by omega⟩ else key r ⟨k.val, by omega⟩)
    (hB : ∀ k : Fin 64, B k = if even then key r ⟨k.val, by omega⟩ else key r ⟨128 + k.val, by omega⟩)
    (M : EReal) (hM : M = max (Finset.univ.sup fun k => sc K kf bk qf r (A k)) (Finset.univ.sup fun k => sc K kf bk qf r (B k))) :
    ((∑ k : Fin 128, vt d (A k) * Ideal.exp2 (sc K kf bk qf r (A k) - M)) + ∑ k : Fin 64, vt d (B k) * Ideal.exp2 (sc K kf bk qf r (B k) - M)) *
      Ideal.div 1 ((∑ k : Fin 128, Ideal.exp2 (sc K kf bk qf r (A k) - M)) + ∑ k : Fin 64, Ideal.exp2 (sc K kf bk qf r (B k) - M))
      = wOut K kf bk qf vt d r := by
  by_cases h : even
  · simp only [h, if_true] at hA hB
    obtain rfl : A = _ := funext hA
    obtain rfl : B = _ := funext hB
    have e : M = wMx K kf bk qf r := by rw [hM, wMx, sup192_even]
    subst e
    unfold wOut
    rw [sum192_even (fun w => vt d (key r w) * wEx K kf bk qf r w), sum192_even (wEx K kf bk qf r)]
    rfl
  · simp only [h, if_false] at hA hB
    obtain rfl : A = _ := funext hA
    obtain rfl : B = _ := funext hB
    have e : M = wMx K kf bk qf r := by rw [hM, wMx, sup192_odd]
    subst e
    unfold wOut
    rw [sum192_odd (fun w => vt d (key r w) * wEx K kf bk qf r w), sum192_odd (wEx K kf bk qf r)]
    rfl

/-- Position `n` around the ring. -/
def ring (n : ℕ) : Fin 1024 := ⟨n % 1024, Nat.mod_lt _ (by decide)⟩

/-- One block, at an index. -/
theorem mBlk_apply (base : ℕ) (hb : base % 256 = 0) (hb' : base < 1024)
    (q : FVec Ideal S256x160 .fp8e4m3) (lo hi : FVec Ideal S64x160 .fp8e4m3)
    (kf0 bk0 : FVec Ideal S128x128 .f32) (kfb0 kfa0 bkb0 bka0 : FVec Ideal S64x128 .f32) (qf0 bq0 : FVec Ideal S1x128 .f32)
    (kf1 bk1 : FVec Ideal S128x128 .f32) (kfb1 kfa1 bkb1 bka1 : FVec Ideal S64x128 .f32) (qf1 bq1 : FVec Ideal S1x128 .f32)
    (vm : FVec Ideal S160x256 .bf16) (vlo vhi : FVec Ideal S160x64 .bf16)
    (hq : ∀ (a : Fin 256) (d : Fin 160), q (ix2 a d) = K (ring (base + a.val)) d)
    (hlo : ∀ (a : Fin 64) (d : Fin 160), lo (ix2 a d) = K (ring (base + 960 + a.val)) d)
    (hhi : ∀ (a : Fin 64) (d : Fin 160), hi (ix2 a d) = K (ring (base + 256 + a.val)) d)
    (hkf0 : ∀ (a y : Fin 128), kf0 (ix2 a y) = kf (ring (base + a.val)))
    (hbk0 : ∀ (a y : Fin 128), bk0 (ix2 a y) = bk (ring (base + a.val)))
    (hkfb0 : ∀ (a : Fin 64) (y : Fin 128), kfb0 (ix2 a y) = kf (ring (base + 960 + a.val)))
    (hkfa0 : ∀ (a : Fin 64) (y : Fin 128), kfa0 (ix2 a y) = kf (ring (base + 128 + a.val)))
    (hbkb0 : ∀ (a : Fin 64) (y : Fin 128), bkb0 (ix2 a y) = bk (ring (base + 960 + a.val)))
    (hbka0 : ∀ (a : Fin 64) (y : Fin 128), bka0 (ix2 a y) = bk (ring (base + 128 + a.val)))
    (hqf0 : ∀ (y : Fin 128), qf0 (ix2 (0 : Fin 1) y) = qf (ring (base + y.val)))
    (hbq0 : ∀ (y : Fin 128), bq0 (ix2 (0 : Fin 1) y) = bk (ring (base + y.val)))
    (hkf1 : ∀ (a y : Fin 128), kf1 (ix2 a y) = kf (ring (base + 128 + a.val)))
    (hbk1 : ∀ (a y : Fin 128), bk1 (ix2 a y) = bk (ring (base + 128 + a.val)))
    (hkfb1 : ∀ (a : Fin 64) (y : Fin 128), kfb1 (ix2 a y) = kf (ring (base + 64 + a.val)))
    (hkfa1 : ∀ (a : Fin 64) (y : Fin 128), kfa1 (ix2 a y) = kf (ring (base + 256 + a.val)))
    (hbkb1 : ∀ (a : Fin 64) (y : Fin 128), bkb1 (ix2 a y) = bk (ring (base + 64 + a.val)))
    (hbka1 : ∀ (a : Fin 64) (y : Fin 128), bka1 (ix2 a y) = bk (ring (base + 256 + a.val)))
    (hqf1 : ∀ (y : Fin 128), qf1 (ix2 (0 : Fin 1) y) = qf (ring (base + 128 + y.val)))
    (hbq1 : ∀ (y : Fin 128), bq1 (ix2 (0 : Fin 1) y) = bk (ring (base + 128 + y.val)))
    (hvm : ∀ (d : Fin 160) (a : Fin 256), vm (ix2 d a) = vt d (ring (base + a.val)))
    (hvlo : ∀ (d : Fin 160) (a : Fin 64), vlo (ix2 d a) = vt d (ring (base + 960 + a.val)))
    (hvhi : ∀ (d : Fin 160) (a : Fin 64), vhi (ix2 d a) = vt d (ring (base + 256 + a.val)))
    (d : Fin 160) (y : Fin 256) :
    mBlk q lo hi kf0 bk0 kfb0 kfa0 bkb0 bka0 qf0 bq0 kf1 bk1 kfb1 kfa1 bkb1 bka1 qf1 bq1 vm vlo vhi (ix2 d y) = wOut K kf bk qf vt d (ring (base + y.val)) := by
  unfold mBlk
  have ring_val : ∀ n, (ring n).val = n % 1024 := fun n => rfl
  have key_val : ∀ (r : Fin 1024) (w : Fin 192), (key r w).val = ((r.val / 64 + 15) * 64 + w.val) % 1024 := fun r w => rfl
  by_cases hy : y.val < 128
  · obtain ⟨z, rfl⟩ : ∃ z : Fin 128, y = (⟨z.val, Nat.lt_of_lt_of_le z.isLt (by decide)⟩ : Fin 256) := ⟨⟨y.val, hy⟩, rfl⟩
    rename' z => y
    rw [mOut_first]
    set r := ring (base + y.val) with hr
    have hrv : r.val = base + y.val := by rw [hr, ring_val]; omega
    set s0 := mS0 (extractStridedSlice S128x128 ![0, 0] (mDm q) slices_S256x256_o0_0_S128x128) kf0 bk0 qf0 bq0 with hs0
    set s1 := mS1 (extractStridedSlice S64x128 ![0, 0] (mDe q lo hi) slices_S128x256_o0_0_S64x128)
      (extractStridedSlice S64x128 ![128, 0] (mDm q) slices_S256x256_o128_0_S64x128) kfb0 kfa0 bkb0 bka0 qf0 bq0 with hs1
    have E0 : ∀ k : Fin 128, s0 (ix2 k y) = sc K kf bk qf r (ring (base + k.val)) := by
      intro k
      rw [hs0, mS0_apply]
      have e : (k.val = y.val) = (ring (base + k.val) = r) := by
        rw [Fin.ext_iff, ring_val, hrv]; apply propext; omega
      have hd : extractStridedSlice S128x128 ![0, 0] (mDm q) slices_S256x256_o0_0_S128x128 (ix2 k y) = ∑ d, K (ring (base + k.val)) d * K r d := by
        pointwise
        rw [mDm_apply]
        simp only [hq]
        rfl
      rw [hd, hkf0, hbk0, hqf0, hbq0]
      unfold sc
      simp only [e]
      rfl
    have E1 : ∀ k : Fin 64, s1 (ix2 k y) = sc K kf bk qf r (if y.val < 64 then ring (base + 960 + k.val) else ring (base + 128 + k.val)) := by
      intro k
      rw [hs1, mS1_apply]
      by_cases h : y.val < 64
      · rw [if_pos h, if_pos h]
        have e : ¬ (ring (base + 960 + k.val) = r) := by rw [Fin.ext_iff, ring_val, hrv]; omega
        have hd : extractStridedSlice S64x128 ![0, 0] (mDe q lo hi) slices_S128x256_o0_0_S64x128 (ix2 k y) = ∑ d, K (ring (base + 960 + k.val)) d * K r d := by
          pointwise
          rw [mDe_apply]
          have hk : (⟨k.val, by omega⟩ : Fin 128).val < 64 := k.isLt
          simp only [hk, dif_pos, hlo, hq]
          rfl
        rw [hd, hkfb0, hbkb0, hqf0, hbq0]
        unfold sc
        rw [if_neg e]
      · rw [if_neg h, if_neg h]
        have e : ¬ (ring (base + 128 + k.val) = r) := by rw [Fin.ext_iff, ring_val, hrv]; omega
        have hd : extractStridedSlice S64x128 ![128, 0] (mDm q) slices_S256x256_o128_0_S64x128 (ix2 k y) = ∑ d, K (ring (base + 128 + k.val)) d * K r d := by
          pointwise
          rw [mDm_apply]
          simp only [hq, ← Nat.add_assoc]
          rfl
        rw [hd, hkfa0, hbka0, hqf0, hbq0]
        unfold sc
        rw [if_neg e]
    have V1 : ∀ k : Fin 64, (if y.val < 64 then vlo (ix2 d k) else vm (ix2 d (⟨128 + k.val, by omega⟩ : Fin 256))) = vt d (if y.val < 64 then ring (base + 960 + k.val) else ring (base + 128 + k.val)) := by
      intro k
      split
      · exact hvlo d k
      · rw [hvm]; simp only [← Nat.add_assoc]
    simp only [mE0_apply, mE1_apply, V1, E0, E1]
    simp only [hvm]
    refine col_eq K kf bk qf vt r d (y.val < 64) (fun k => ring (base + k.val)) (fun k => if y.val < 64 then ring (base + 960 + k.val) else ring (base + 128 + k.val)) ?_ ?_ _ ?_
    · intro k
      apply Fin.ext
      split <;> simp only [ring_val, key_val, hrv] <;> omega
    · intro k
      apply Fin.ext
      split <;> simp only [ring_val, key_val, hrv] <;> omega
    · rw [mMax_apply]
      simp only [E0, E1]
  · obtain ⟨z, rfl⟩ : ∃ z : Fin 128, y = (⟨128 + z.val, Nat.add_lt_add_left z.isLt 128⟩ : Fin 256) := ⟨⟨y.val - 128, by omega⟩, Fin.ext (by show y.val = 128 + (y.val - 128); omega)⟩
    rename' z => y
    rw [mOut_second]
    set r := ring (base + (128 + y.val)) with hr
    have hrv : r.val = base + 128 + y.val := by rw [hr, ring_val]; omega
    have hr2 : ring (base + 128 + y.val) = r := by rw [hr, Nat.add_assoc]
    set s0 := mS0 (extractStridedSlice S128x128 ![128, 128] (mDm q) slices_S256x256_o128_128_S128x128) kf1 bk1 qf1 bq1 with hs0
    set s1 := mS1 (extractStridedSlice S64x128 ![64, 128] (mDm q) slices_S256x256_o64_128_S64x128)
      (extractStridedSlice S64x128 ![64, 128] (mDe q lo hi) slices_S128x256_o64_128_S64x128) kfb1 kfa1 bkb1 bka1 qf1 bq1 with hs1
    have E0 : ∀ k : Fin 128, s0 (ix2 k y) = sc K kf bk qf r (ring (base + 128 + k.val)) := by
      intro k
      rw [hs0, mS0_apply]
      have e : (k.val = y.val) = (ring (base + 128 + k.val) = r) := by
        rw [Fin.ext_iff, ring_val, hrv]; apply propext; omega
      have hd : extractStridedSlice S128x128 ![128, 128] (mDm q) slices_S256x256_o128_128_S128x128 (ix2 k y) = ∑ d, K (ring (base + 128 + k.val)) d * K r d := by
        pointwise
        rw [mDm_apply]
        simp only [hq, ← Nat.add_assoc, hr2]
      rw [hd, hkf1, hbk1, hqf1, hbq1, hr2]
      unfold sc
      simp only [e]
    have E1 : ∀ k : Fin 64, s1 (ix2 k y) = sc K kf bk qf r (if y.val < 64 then ring (base + 64 + k.val) else ring (base + 256 + k.val)) := by
      intro k
      rw [hs1, mS1_apply]
      by_cases h : y.val < 64
      · rw [if_pos h, if_pos h]
        have e : ¬ (ring (base + 64 + k.val) = r) := by rw [Fin.ext_iff, ring_val, hrv]; omega
        have hd : extractStridedSlice S64x128 ![64, 128] (mDm q) slices_S256x256_o64_128_S64x128 (ix2 k y) = ∑ d, K (ring (base + 64 + k.val)) d * K r d := by
          pointwise
          rw [mDm_apply]
          simp only [hq, ← Nat.add_assoc, hr2]
        rw [hd, hkfb1, hbkb1, hqf1, hbq1, hr2]
        unfold sc
        rw [if_neg e]
      · rw [if_neg h, if_neg h]
        have e : ¬ (ring (base + 256 + k.val) = r) := by rw [Fin.ext_iff, ring_val, hrv]; omega
        have hd : extractStridedSlice S64x128 ![64, 128] (mDe q lo hi) slices_S128x256_o64_128_S64x128 (ix2 k y) = ∑ d, K (ring (base + 256 + k.val)) d * K r d := by
          pointwise
          rw [mDe_apply]
          have hk : ¬ ((⟨64 + k.val, by omega⟩ : Fin 128).val < 64) := by show ¬ (64 + k.val < 64); omega
          have hk2 : ∀ h : 64 + k.val - 64 < 64, (⟨64 + k.val - 64, h⟩ : Fin 64) = k := fun h => Fin.ext (by show 64 + k.val - 64 = k.val; omega)
          simp only [hk, dif_neg, not_false_eq_true, hk2, hhi, hq, ← Nat.add_assoc, hr2]
        rw [hd, hkfa1, hbka1, hqf1, hbq1, hr2]
        unfold sc
        rw [if_neg e]
    have V1 : ∀ k : Fin 64, (if y.val < 64 then vm (ix2 d (⟨64 + k.val, by omega⟩ : Fin 256)) else vhi (ix2 d k)) = vt d (if y.val < 64 then ring (base + 64 + k.val) else ring (base + 256 + k.val)) := by
      intro k
      split
      · rw [hvm]; simp only [← Nat.add_assoc]
      · exact hvhi d k
    simp only [mE0_apply, mE1_apply, V1, E0, E1]
    simp only [hvm]
    simp only [← Nat.add_assoc]
    refine col_eq K kf bk qf vt r d (y.val < 64) (fun k => ring (base + 128 + k.val)) (fun k => if y.val < 64 then ring (base + 64 + k.val) else ring (base + 256 + k.val)) ?_ ?_ _ ?_
    · intro k
      apply Fin.ext
      split <;> simp only [ring_val, key_val, hrv] <;> omega
    · intro k
      apply Fin.ext
      split <;> simp only [ring_val, key_val, hrv] <;> omega
    · rw [mMax_apply]
      simp only [E0, E1]

end

end Cert.KernelIdeal.Hand

end
-- ==== Proof.Blocks.lean ====
/-
  The four blocks of a head are `mBlk` of what the body reads for them.
-/
module

public import proofs.«01_k».proof.Proof.Model

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F]
variable (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
  (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32)

set_option maxHeartbeats 4000000 in
/-- Block 0. -/
theorem blk0_eq :
    (headRun.sl.v1101 c i arg3 harg3 arg4 harg4 arg5 harg5 arg6 harg6 arg7 harg7 arg8 harg8 arg10 arg11 arg12 arg13 arg14 x0 x1 x2 x3 x4 x5)
      = mBlk (headRun.sl.v966 c i arg3 harg3 arg8 harg8 arg11 x0 x5)
          (headRun.sl.v968 c i arg3 harg3 arg8 harg8 arg11 x0 x5)
          (headRun.sl.v969 c i arg3 harg3 arg8 harg8 arg11 x0 x5)
          (headRun.sl.v984 c i arg3 harg3 arg5 harg5 arg6 harg6 arg8 harg8 arg10 arg13 x0 x2 x3 x5)
          (headRun.sl.v991 c i arg3 harg3 arg5 harg5 arg6 harg6 arg7 harg7 arg8 harg8 arg10 arg14 x0 x2 x3 x4 x5)
          (headRun.sl.v978 c i arg3 harg3 arg5 harg5 arg6 harg6 arg8 harg8 arg10 arg13 x0 x2 x3 x5)
          (headRun.sl.v979 c i arg3 harg3 arg5 harg5 arg6 harg6 arg8 harg8 arg10 arg13 x0 x2 x3 x5)
          (headRun.sl.v981 c i arg3 harg3 arg5 harg5 arg6 harg6 arg7 harg7 arg8 harg8 arg10 arg14 x0 x2 x3 x4 x5)
          (headRun.sl.v982 c i arg3 harg3 arg5 harg5 arg6 harg6 arg7 harg7 arg8 harg8 arg10 arg14 x0 x2 x3 x4 x5)
          (extractStridedSlice S1x128 ![0, 0] (headRun.sl.v244 c i arg5 harg5 arg8 harg8 arg10 x2 x5) slices_S8x128_o0_0_S1x128)
          (extractStridedSlice S1x128 ![0, 0] (headRun.sl.v721 c i arg3 harg3 arg5 harg5 arg6 harg6 arg7 harg7 arg8 harg8 arg10 x0 x2 x3 x4 x5) slices_S8x128_o0_0_S1x128)
          (headRun.sl.v1040 c i arg3 harg3 arg5 harg5 arg6 harg6 arg8 harg8 arg10 arg13 x0 x2 x3 x5)
          (headRun.sl.v1047 c i arg3 harg3 arg5 harg5 arg6 harg6 arg7 harg7 arg8 harg8 arg10 arg14 x0 x2 x3 x4 x5)
          (headRun.sl.v1034 c i arg3 harg3 arg5 harg5 arg6 harg6 arg8 harg8 arg10 arg13 x0 x2 x3 x5)
          (headRun.sl.v1035 c i arg3 harg3 arg5 harg5 arg6 harg6 arg8 harg8 arg10 arg13 x0 x2 x3 x5)
          (headRun.sl.v1037 c i arg3 harg3 arg5 harg5 arg6 harg6 arg7 harg7 arg8 harg8 arg10 arg14 x0 x2 x3 x4 x5)
          (headRun.sl.v1038 c i arg3 harg3 arg5 harg5 arg6 harg6 arg7 harg7 arg8 harg8 arg10 arg14 x0 x2 x3 x4 x5)
          (extractStridedSlice S1x128 ![1, 0] (headRun.sl.v244 c i arg5 harg5 arg8 harg8 arg10 x2 x5) slices_S8x128_o1_0_S1x128)
          (extractStridedSlice S1x128 ![1, 0] (headRun.sl.v721 c i arg3 harg3 arg5 harg5 arg6 harg6 arg7 harg7 arg8 harg8 arg10 x0 x2 x3 x4 x5) slices_S8x128_o1_0_S1x128)
          (headRun.sl.v1089 c i arg4 harg4 arg5 harg5 arg6 harg6 arg8 harg8 arg10 arg12 x1 x2 x3 x5)
          (headRun.sl.v1086 c i arg4 harg4 arg5 harg5 arg6 harg6 arg8 harg8 arg10 arg12 x1 x2 x3 x5)
          (headRun.sl.v1087 c i arg4 harg4 arg5 harg5 arg6 harg6 arg8 harg8 arg10 arg12 x1 x2 x3 x5) := by
  rfl

set_option maxHeartbeats 4000000 in
/-- Block 1. -/
theorem blk1_eq :
    (headRun.sl.v1237 c i arg3 harg3 arg4 harg4 arg5 harg5 arg6 harg6 arg7 harg7 arg8 harg8 arg10 arg11 arg12 arg13 arg14 x0 x1 x2 x3 x4 x5)
      = mBlk (headRun.sl.v1102 c i arg3 harg3 arg8 harg8 arg11 x0 x5)
          (headRun.sl.v1104 c i arg3 harg3 arg8 harg8 arg11 x0 x5)
          (headRun.sl.v1105 c i arg3 harg3 arg8 harg8 arg11 x0 x5)
          (headRun.sl.v1120 c i arg3 harg3 arg5 harg5 arg6 harg6 arg8 harg8 arg10 arg13 x0 x2 x3 x5)
          (headRun.sl.v1127 c i arg3 harg3 arg5 harg5 arg6 harg6 arg7 harg7 arg8 harg8 arg10 arg14 x0 x2 x3 x4 x5)
          (headRun.sl.v1114 c i arg3 harg3 arg5 harg5 arg6 harg6 arg8 harg8 arg10 arg13 x0 x2 x3 x5)
          (headRun.sl.v1115 c i arg3 harg3 arg5 harg5 arg6 harg6 arg8 harg8 arg10 arg13 x0 x2 x3 x5)
          (headRun.sl.v1117 c i arg3 harg3 arg5 harg5 arg6 harg6 arg7 harg7 arg8 harg8 arg10 arg14 x0 x2 x3 x4 x5)
          (headRun.sl.v1118 c i arg3 harg3 arg5 harg5 arg6 harg6 arg7 harg7 arg8 harg8 arg10 arg14 x0 x2 x3 x4 x5)
          (extractStridedSlice S1x128 ![2, 0] (headRun.sl.v244 c i arg5 harg5 arg8 harg8 arg10 x2 x5) slices_S8x128_o2_0_S1x128)
          (extractStridedSlice S1x128 ![2, 0] (headRun.sl.v721 c i arg3 harg3 arg5 harg5 arg6 harg6 arg7 harg7 arg8 harg8 arg10 x0 x2 x3 x4 x5) slices_S8x128_o2_0_S1x128)
          (headRun.sl.v1176 c i arg3 harg3 arg5 harg5 arg6 harg6 arg8 harg8 arg10 arg13 x0 x2 x3 x5)
          (headRun.sl.v1183 c i arg3 harg3 arg5 harg5 arg6 harg6 arg7 harg7 arg8 harg8 arg10 arg14 x0 x2 x3 x4 x5)
          (headRun.sl.v1170 c i arg3 harg3 arg5 harg5 arg6 harg6 arg8 harg8 arg10 arg13 x0 x2 x3 x5)
          (headRun.sl.v1171 c i arg3 harg3 arg5 harg5 arg6 harg6 arg8 harg8 arg10 arg13 x0 x2 x3 x5)
          (headRun.sl.v1173 c i arg3 harg3 arg5 harg5 arg6 harg6 arg7 harg7 arg8 harg8 arg10 arg14 x0 x2 x3 x4 x5)
          (headRun.sl.v1174 c i arg3 harg3 arg5 harg5 arg6 harg6 arg7 harg7 arg8 harg8 arg10 arg14 x0 x2 x3 x4 x5)
          (extractStridedSlice S1x128 ![3, 0] (headRun.sl.v244 c i arg5 harg5 arg8 harg8 arg10 x2 x5) slices_S8x128_o3_0_S1x128)
          (extractStridedSlice S1x128 ![3, 0] (headRun.sl.v721 c i arg3 harg3 arg5 harg5 arg6 harg6 arg7 harg7 arg8 harg8 arg10 x0 x2 x3 x4 x5) slices_S8x128_o3_0_S1x128)
          (headRun.sl.v1225 c i arg4 harg4 arg5 harg5 arg6 harg6 arg8 harg8 arg10 arg12 x1 x2 x3 x5)
          (headRun.sl.v1222 c i arg4 harg4 arg5 harg5 arg6 harg6 arg8 harg8 arg10 arg12 x1 x2 x3 x5)
          (headRun.sl.v1223 c i arg4 harg4 arg5 harg5 arg6 harg6 arg8 harg8 arg10 arg12 x1 x2 x3 x5) := by
  rfl

set_option maxHeartbeats 4000000 in
/-- Block 2. -/
theorem blk2_eq :
    (headRun.sl.v1373 c i arg3 harg3 arg4 harg4 arg5 harg5 arg6 harg6 arg7 harg7 arg8 harg8 arg10 arg11 arg12 arg13 arg14 x0 x1 x2 x3 x4 x5)
      = mBlk (headRun.sl.v1238 c i arg3 harg3 arg8 harg8 arg11 x0 x5)
          (headRun.sl.v1240 c i arg3 harg3 arg8 harg8 arg11 x0 x5)
          (headRun.sl.v1241 c i arg3 harg3 arg8 harg8 arg11 x0 x5)
          (headRun.sl.v1256 c i arg3 harg3 arg5 harg5 arg6 harg6 arg8 harg8 arg10 arg13 x0 x2 x3 x5)
          (headRun.sl.v1263 c i arg3 harg3 arg5 harg5 arg6 harg6 arg7 harg7 arg8 harg8 arg10 arg14 x0 x2 x3 x4 x5)
          (headRun.sl.v1250 c i arg3 harg3 arg5 harg5 arg6 harg6 arg8 harg8 arg10 arg13 x0 x2 x3 x5)
          (headRun.sl.v1251 c i arg3 harg3 arg5 harg5 arg6 harg6 arg8 harg8 arg10 arg13 x0 x2 x3 x5)
          (headRun.sl.v1253 c i arg3 harg3 arg5 harg5 arg6 harg6 arg7 harg7 arg8 harg8 arg10 arg14 x0 x2 x3 x4 x5)
          (headRun.sl.v1254 c i arg3 harg3 arg5 harg5 arg6 harg6 arg7 harg7 arg8 harg8 arg10 arg14 x0 x2 x3 x4 x5)
          (extractStridedSlice S1x128 ![4, 0] (headRun.sl.v244 c i arg5 harg5 arg8 harg8 arg10 x2 x5) slices_S8x128_o4_0_S1x128)
          (extractStridedSlice S1x128 ![4, 0] (headRun.sl.v721 c i arg3 harg3 arg5 harg5 arg6 harg6 arg7 harg7 arg8 harg8 arg10 x0 x2 x3 x4 x5) slices_S8x128_o4_0_S1x128)
          (headRun.sl.v1312 c i arg3 harg3 arg5 harg5 arg6 harg6 arg8 harg8 arg10 arg13 x0 x2 x3 x5)
          (headRun.sl.v1319 c i arg3 harg3 arg5 harg5 arg6 harg6 arg7 harg7 arg8 harg8 arg10 arg14 x0 x2 x3 x4 x5)
          (headRun.sl.v1306 c i arg3 harg3 arg5 harg5 arg6 harg6 arg8 harg8 arg10 arg13 x0 x2 x3 x5)
          (headRun.sl.v1307 c i arg3 harg3 arg5 harg5 arg6 harg6 arg8 harg8 arg10 arg13 x0 x2 x3 x5)
          (headRun.sl.v1309 c i arg3 harg3 arg5 harg5 arg6 harg6 arg7 harg7 arg8 harg8 arg10 arg14 x0 x2 x3 x4 x5)
          (headRun.sl.v1310 c i arg3 harg3 arg5 harg5 arg6 harg6 arg7 harg7 arg8 harg8 arg10 arg14 x0 x2 x3 x4 x5)
          (extractStridedSlice S1x128 ![5, 0] (headRun.sl.v244 c i arg5 harg5 arg8 harg8 arg10 x2 x5) slices_S8x128_o5_0_S1x128)
          (extractStridedSlice S1x128 ![5, 0] (headRun.sl.v721 c i arg3 harg3 arg5 harg5 arg6 harg6 arg7 harg7 arg8 harg8 arg10 x0 x2 x3 x4 x5) slices_S8x128_o5_0_S1x128)
          (headRun.sl.v1361 c i arg4 harg4 arg5 harg5 arg6 harg6 arg8 harg8 arg10 arg12 x1 x2 x3 x5)
          (headRun.sl.v1358 c i arg4 harg4 arg5 harg5 arg6 harg6 arg8 harg8 arg10 arg12 x1 x2 x3 x5)
          (headRun.sl.v1359 c i arg4 harg4 arg5 harg5 arg6 harg6 arg8 harg8 arg10 arg12 x1 x2 x3 x5) := by
  rfl

set_option maxHeartbeats 4000000 in
/-- Block 3. -/
theorem blk3_eq :
    k0_pay239 (headRun.sl.v1425 c i arg3 harg3 arg5 harg5 arg6 harg6 arg7 harg7 arg8 harg8 arg10 arg11 arg13 arg14 x0 x2 x3 x4 x5) (headRun.sl.v1481 c i arg3 harg3 arg5 harg5 arg6 harg6 arg7 harg7 arg8 harg8 arg10 arg11 arg13 arg14 x0 x2 x3 x4 x5) (headRun.sl.v1492 c i arg3 harg3 arg5 harg5 arg6 harg6 arg7 harg7 arg8 harg8 arg10 arg11 arg13 arg14 x0 x2 x3 x4 x5) (headRun.sl.v1493 c i arg3 harg3 arg5 harg5 arg6 harg6 arg7 harg7 arg8 harg8 arg10 arg11 arg13 arg14 x0 x2 x3 x4 x5) (headRun.sl.v1496 c i arg4 harg4 arg5 harg5 arg6 harg6 arg8 harg8 arg10 arg12 x1 x2 x3 x5) (headRun.sl.v1497 c i arg4 harg4 arg5 harg5 arg6 harg6 arg8 harg8 arg10 arg12 x1 x2 x3 x5)
      = mBlk (headRun.sl.v1374 c i arg3 harg3 arg8 harg8 arg11 x0 x5)
          (headRun.sl.v1376 c i arg3 harg3 arg8 harg8 arg11 x0 x5)
          (headRun.sl.v1377 c i arg3 harg3 arg8 harg8 arg11 x0 x5)
          (headRun.sl.v1392 c i arg3 harg3 arg5 harg5 arg6 harg6 arg8 harg8 arg10 arg13 x0 x2 x3 x5)
          (headRun.sl.v1399 c i arg3 harg3 arg5 harg5 arg6 harg6 arg7 harg7 arg8 harg8 arg10 arg14 x0 x2 x3 x4 x5)
          (headRun.sl.v1386 c i arg3 harg3 arg5 harg5 arg6 harg6 arg8 harg8 arg10 arg13 x0 x2 x3 x5)
          (headRun.sl.v1387 c i arg3 harg3 arg5 harg5 arg6 harg6 arg8 harg8 arg10 arg13 x0 x2 x3 x5)
          (headRun.sl.v1389 c i arg3 harg3 arg5 harg5 arg6 harg6 arg7 harg7 arg8 harg8 arg10 arg14 x0 x2 x3 x4 x5)
          (headRun.sl.v1390 c i arg3 harg3 arg5 harg5 arg6 harg6 arg7 harg7 arg8 harg8 arg10 arg14 x0 x2 x3 x4 x5)
          (extractStridedSlice S1x128 ![6, 0] (headRun.sl.v244 c i arg5 harg5 arg8 harg8 arg10 x2 x5) slices_S8x128_o6_0_S1x128)
          (extractStridedSlice S1x128 ![6, 0] (headRun.sl.v721 c i arg3 harg3 arg5 harg5 arg6 harg6 arg7 harg7 arg8 harg8 arg10 x0 x2 x3 x4 x5) slices_S8x128_o6_0_S1x128)
          (headRun.sl.v1448 c i arg3 harg3 arg5 harg5 arg6 harg6 arg8 harg8 arg10 arg13 x0 x2 x3 x5)
          (headRun.sl.v1455 c i arg3 harg3 arg5 harg5 arg6 harg6 arg7 harg7 arg8 harg8 arg10 arg14 x0 x2 x3 x4 x5)
          (headRun.sl.v1442 c i arg3 harg3 arg5 harg5 arg6 harg6 arg8 harg8 arg10 arg13 x0 x2 x3 x5)
          (headRun.sl.v1443 c i arg3 harg3 arg5 harg5 arg6 harg6 arg8 harg8 arg10 arg13 x0 x2 x3 x5)
          (headRun.sl.v1445 c i arg3 harg3 arg5 harg5 arg6 harg6 arg7 harg7 arg8 harg8 arg10 arg14 x0 x2 x3 x4 x5)
          (headRun.sl.v1446 c i arg3 harg3 arg5 harg5 arg6 harg6 arg7 harg7 arg8 harg8 arg10 arg14 x0 x2 x3 x4 x5)
          (extractStridedSlice S1x128 ![7, 0] (headRun.sl.v244 c i arg5 harg5 arg8 harg8 arg10 x2 x5) slices_S8x128_o7_0_S1x128)
          (extractStridedSlice S1x128 ![7, 0] (headRun.sl.v721 c i arg3 harg3 arg5 harg5 arg6 harg6 arg7 harg7 arg8 harg8 arg10 x0 x2 x3 x4 x5) slices_S8x128_o7_0_S1x128)
          (headRun.sl.v1497 c i arg4 harg4 arg5 harg5 arg6 harg6 arg8 harg8 arg10 arg12 x1 x2 x3 x5)
          (headRun.sl.v1494 c i arg4 harg4 arg5 harg5 arg6 harg6 arg8 harg8 arg10 arg12 x1 x2 x3 x5)
          (headRun.sl.v1495 c i arg4 harg4 arg5 harg5 arg6 harg6 arg8 harg8 arg10 arg12 x1 x2 x3 x5) := by
  rfl

end Cert.KernelIdeal.Hand

end
-- ==== Proof.Vals.lean ====
/-
  What a head computes, entry by entry: the looked-up factors, the sorted keys and values, and the tiles read back.
-/
module

public import proofs.«01_k».proof.Proof.Rows
public import proofs.«01_k».proof.Proof.Window
public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe

open Idealize.ShloMosaic.View (readCov_eq_canon' canon_append_of_piecesOf)

/-- The key factor of position `s` of a head, from the head's vectors `X` and its scales: the scale over the norm, with the softmax's factors. -/
def keyFactor (X : Fin 160 → Fin 1024 → EReal) (qs : Fin 1024 → EReal) (s : Fin 1024) : EReal :=
  qs s * Ideal.rsqrt (qs s * qs s * ((∑ d, X d s * X d s) * (Named.named κ "inv_d" 0x3BCCCCCD#32 : Ideal .f32)) + Ideal.ofBits .f32 0x358637BD#32)
    * (Named.named κ "scale_log2e" 0x3DE995B3#32 : Ideal .f32)

/-- A two-axis array written in tiles, all of one function, read back. -/
theorem tiles_read {κ₁ : Kind} {sp : Space} {S : Shape} {e : EltTy} (v : View sig κ₁ sp S e) (G : S.Idx → Elt Ideal e) (L : List (View.Piece (Elt Ideal) S e)) (hL : View.PiecesOf G L)
    (hc : ∀ y : S.Idx, ∃ p ∈ L, y ∈ p.1.set) (r : LoadRect S) (x : r.shape.Idx) : v.readCov L r x = G (r.idx x) := by
  rw [readCov_eq_canon']
  show View.canon L (r.idx x) = _
  have := canon_append_of_piecesOf (Val := Elt Ideal) G [] L hL (r.idx x) (hc _)
  rwa [List.append_nil] at this

/-- Position `128 q + l`. -/
def pr (q : Fin 8) (l : Fin 128) : Fin 1024 := ⟨128 * q.val + l.val, by omega⟩

variable (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
  (x0 : Vec Ideal S1x1x160x1024 .fp8e4m3) (x1 : Vec Ideal S1x1x160x1024 .fp8e4m3) (x2 : Vec Ideal S1x2x1024 .f32) (x3 : Vec Ideal S1x2x1024 .f32) (x4 : Vec Ideal S1x2x1024 .i32) (x5 : Vec Ideal S1x2x1024 .i32)
variable (b : Fin 2) (hb : (i 0).val = b.val) (p : Fin 1024 → Fin 1024) (hp : ∀ r : Fin 1024, x5 (ix3 (0 : Fin 1) b r) = BitVec.ofNat 32 (p r).val)

theorem x0_at (d : Fin 160) (r : Fin 1024) : (headRun.sl.v1 c arg3 harg3 x0) (ix2 d r) = x0 (ix4 (0 : Fin 1) (0 : Fin 1) d r) := by
  first | exact v1_apply .. | (apply v1_apply)

include hb hp in
theorem word_at (q : Fin 8) (l : Fin 128) : fptosi 32 (headRun.sl.v80 c i arg8 harg8 arg10 x5) (ix2 q l) = BitVec.ofNat 32 (p (pr q l)).val := by
  show Ideal.fptosi 32 ((headRun.sl.v80 c i arg8 harg8 arg10 x5) (ix2 q l)) = _
  rw [v80_apply]
  show Ideal.fptosi 32 ((headRun.sl.v30 c i arg8 harg8 x5) (ix2 (0 : Fin 1) (pr q l))) = _
  rw [v30_apply (F := Ideal) (hb := hb), hp]
  exact int_round_trip _ (p (pr q l)).isLt

theorem kf_at (s : Fin 1024) (hb : (i 0).val = b.val) : (headRun.sl.v29 c i arg3 harg3 arg5 harg5 x0 x2) (ix2 (0 : Fin 1) s) = keyFactor (fun d s => x0 (ix4 (0 : Fin 1) (0 : Fin 1) d s)) (fun s => x2 (ix3 (0 : Fin 1) b s)) s := by
  have h7 : (headRun.sl.v7 c i arg5 harg5 x2) (ix2 (0 : Fin 1) s) = x2 (ix3 (0 : Fin 1) b s) := v7_apply (F := Ideal) (hb := hb) ..
  have h1 : ∀ d, (headRun.sl.v1 c arg3 harg3 x0) (ix2 d s) = x0 (ix4 (0 : Fin 1) (0 : Fin 1) d s) := fun d => v1_apply ..
  unfold keyFactor
  dsimp only
  rw [← h7]
  simp only [← h1]
  show k0_pay8 _ _ (ix2 (0 : Fin 1) s) = _
  unfold k0_pay8
  pointwise
  rfl

include hb hp in
theorem qs_at (q : Fin 8) (l : Fin 128) : (headRun.sl.v244 c i arg5 harg5 arg8 harg8 arg10 x2 x5) (ix2 q l) = x2 (ix3 (0 : Fin 1) b (p (pr q l))) := by
  rw [v244_eq, gSel_apply _ _ q l (p (pr q l)).val (p (pr q l)).isLt (word_at (hb := hb) (hp := hp) (q := q) (l := l) ..), v135_apply]
  have e : (⟨128 * ((p (pr q l)).val / 128) + (p (pr q l)).val % 128, by omega⟩ : Fin 1024) = p (pr q l) := Fin.ext (Nat.div_add_mod _ _)
  show (headRun.sl.v7 c i arg5 harg5 x2) (ix2 (0 : Fin 1) (⟨128 * ((p (pr q l)).val / 128) + (p (pr q l)).val % 128, by omega⟩ : Fin 1024)) = _
  rw [e]
  exact v7_apply (F := Ideal) (hb := hb) ..

include hb hp in
theorem vs_at (q : Fin 8) (l : Fin 128) : (headRun.sl.v403 c i arg5 harg5 arg6 harg6 arg8 harg8 arg10 x2 x3 x5) (ix2 q l) = x3 (ix3 (0 : Fin 1) b (p (pr q l))) := by
  rw [v403_eq, gSel_apply _ _ q l (p (pr q l)).val (p (pr q l)).isLt (word_at (hb := hb) (hp := hp) (q := q) (l := l) ..), v294_apply]
  have e : (⟨128 * ((p (pr q l)).val / 128) + (p (pr q l)).val % 128, by omega⟩ : Fin 1024) = p (pr q l) := Fin.ext (Nat.div_add_mod _ _)
  show (headRun.sl.v10 c i arg6 harg6 x3) (ix2 (0 : Fin 1) (⟨128 * ((p (pr q l)).val / 128) + (p (pr q l)).val % 128, by omega⟩ : Fin 1024)) = _
  rw [e]
  exact v10_apply (F := Ideal) (hb := hb) ..

include hb hp in
theorem kfs_at (q : Fin 8) (l : Fin 128) : (headRun.sl.v562 c i arg3 harg3 arg5 harg5 arg6 harg6 arg8 harg8 arg10 x0 x2 x3 x5) (ix2 q l) = keyFactor (fun d s => x0 (ix4 (0 : Fin 1) (0 : Fin 1) d s)) (fun s => x2 (ix3 (0 : Fin 1) b s)) (p (pr q l)) := by
  rw [v562_eq, gSel_apply _ _ q l (p (pr q l)).val (p (pr q l)).isLt (word_at (hb := hb) (hp := hp) (q := q) (l := l) ..), v453_apply]
  have e : (⟨128 * ((p (pr q l)).val / 128) + (p (pr q l)).val % 128, by omega⟩ : Fin 1024) = p (pr q l) := Fin.ext (Nat.div_add_mod _ _)
  show (headRun.sl.v29 c i arg3 harg3 arg5 harg5 x0 x2) (ix2 (0 : Fin 1) (⟨128 * ((p (pr q l)).val / 128) + (p (pr q l)).val % 128, by omega⟩ : Fin 1024)) = _
  rw [e]
  exact kf_at (hb := hb) ..

include hb hp in
theorem bks_at (q : Fin 8) (l : Fin 128) : (headRun.sl.v721 c i arg3 harg3 arg5 harg5 arg6 harg6 arg7 harg7 arg8 harg8 arg10 x0 x2 x3 x4 x5) (ix2 q l) = (((x4 (ix3 (0 : Fin 1) b (p (pr q l)))).toInt : ℝ) : EReal) := by
  rw [v721_eq, gSel_apply _ _ q l (p (pr q l)).val (p (pr q l)).isLt (word_at (hb := hb) (hp := hp) (q := q) (l := l) ..), v612_apply]
  have e : (⟨128 * ((p (pr q l)).val / 128) + (p (pr q l)).val % 128, by omega⟩ : Fin 1024) = p (pr q l) := Fin.ext (Nat.div_add_mod _ _)
  show (headRun.sl.v14 c i arg7 harg7 x4) (ix2 (0 : Fin 1) (⟨128 * ((p (pr q l)).val / 128) + (p (pr q l)).val % 128, by omega⟩ : Fin 1024)) = _
  rw [e]
  exact v14_apply (F := Ideal) (hb := hb) ..

theorem pick (X : Fin 1024 → EReal) (n : Fin 1024) : ∑ s, X s * (if s.val = n.val then (1 : EReal) else 0) = X n := by
  rw [Finset.sum_eq_single n]
  · rw [if_pos rfl, mul_one]
  · intro s _ h
    rw [if_neg fun e => h (Fin.ext e), mul_zero]
  · intro h
    exact absurd (Finset.mem_univ _) h

include hb hp in
theorem oh_at (s r : Fin 1024) : (headRun.sl.v849 c i arg8 harg8 x5) (ix2 s r) = if s.val = (p r).val then (1 : EReal) else 0 := by
  rw [v849_eq]
  exact ohMat_apply _ s r _ (p r).isLt ((v4_apply (F := Ideal) (hb := hb) ..).trans (hp r))

include hb hp in
theorem ks_at (d : Fin 160) (r : Fin 1024) : (headRun.sl.v851 c i arg3 harg3 arg8 harg8 x0 x5) (ix2 d r) = x0 (ix4 (0 : Fin 1) (0 : Fin 1) d (p r)) := by
  show matmul dot_S160x1024_S1024x1024_S160x1024_1_0_0_1_n_n none (headRun.sl.v1 c arg3 harg3 x0) (headRun.sl.v849 c i arg8 harg8 x5) (constant S160x1024 .f32 0x00000000#32) (ix2 d r) = _
  pointwise
  simp only [v1_apply, oh_at (hb := hb) (hp := hp)]
  exact pick (fun s => x0 (ix4 (0 : Fin 1) (0 : Fin 1) d s)) (p r)

include hb hp in
theorem vsort_at (d : Fin 160) (r : Fin 1024) : (headRun.sl.v854 c i arg4 harg4 arg8 harg8 x1 x5) (ix2 d r) = x1 (ix4 (0 : Fin 1) (0 : Fin 1) d (p r)) := by
  show matmul dot_S160x1024_S1024x1024_S160x1024_1_0_0_1_n_n none (headRun.sl.v853 c arg4 harg4 x1) (headRun.sl.v849 c i arg8 harg8 x5) (constant S160x1024 .f32 0x00000000#32) (ix2 d r) = _
  pointwise
  simp only [v853_apply, oh_at (hb := hb) (hp := hp)]
  exact pick (fun s => x1 (ix4 (0 : Fin 1) (0 : Fin 1) d s)) (p r)

theorem eye_at (s r : Fin 256) : headRun.sl.v935 (F := Ideal) (ix2 s r) = if s = r then (1 : EReal) else 0 := by
  rw [v935_eq]
  exact eyeMat_apply s r

include hb hp in
theorem v941_at (a : Fin 256) (d : Fin 160) : (headRun.sl.v941 c i arg3 harg3 arg8 harg8 x0 x5) (ix2 a d) = x0 (ix4 (0 : Fin 1) (0 : Fin 1) d (p ⟨0 + a.val, by omega⟩)) := by
  show shapeCast S256x160 (matmul dot_S256x256_S160x256_S256x160_1_1_0_0_n_n none (headRun.sl.v935 (F := Ideal)) (extractStridedSlice S160x256 ![0, 0] (headRun.sl.v851 c i arg3 harg3 arg8 harg8 x0 x5) slices_S160x1024_o0_0_S160x256) (constant S256x160 .f32 0x00000000#32)) _ (ix2 a d) = _
  pointwise
  simp only [eye_at, ks_at (hb := hb) (hp := hp), ite_mul, one_mul, zero_mul, Finset.sum_ite_eq, Finset.mem_univ, if_true]
  try rfl

include hb hp in
theorem v947_at (a : Fin 256) (d : Fin 160) : (headRun.sl.v947 c i arg3 harg3 arg8 harg8 x0 x5) (ix2 a d) = x0 (ix4 (0 : Fin 1) (0 : Fin 1) d (p ⟨256 + a.val, by omega⟩)) := by
  show shapeCast S256x160 (matmul dot_S256x256_S160x256_S256x160_1_1_0_0_n_n none (headRun.sl.v935 (F := Ideal)) (extractStridedSlice S160x256 ![0, 256] (headRun.sl.v851 c i arg3 harg3 arg8 harg8 x0 x5) slices_S160x1024_o0_256_S160x256) (constant S256x160 .f32 0x00000000#32)) _ (ix2 a d) = _
  pointwise
  simp only [eye_at, ks_at (hb := hb) (hp := hp), ite_mul, one_mul, zero_mul, Finset.sum_ite_eq, Finset.mem_univ, if_true]
  try rfl

include hb hp in
theorem v953_at (a : Fin 256) (d : Fin 160) : (headRun.sl.v953 c i arg3 harg3 arg8 harg8 x0 x5) (ix2 a d) = x0 (ix4 (0 : Fin 1) (0 : Fin 1) d (p ⟨512 + a.val, by omega⟩)) := by
  show shapeCast S256x160 (matmul dot_S256x256_S160x256_S256x160_1_1_0_0_n_n none (headRun.sl.v935 (F := Ideal)) (extractStridedSlice S160x256 ![0, 512] (headRun.sl.v851 c i arg3 harg3 arg8 harg8 x0 x5) slices_S160x1024_o0_512_S160x256) (constant S256x160 .f32 0x00000000#32)) _ (ix2 a d) = _
  pointwise
  simp only [eye_at, ks_at (hb := hb) (hp := hp), ite_mul, one_mul, zero_mul, Finset.sum_ite_eq, Finset.mem_univ, if_true]
  try rfl

include hb hp in
theorem v959_at (a : Fin 256) (d : Fin 160) : (headRun.sl.v959 c i arg3 harg3 arg8 harg8 x0 x5) (ix2 a d) = x0 (ix4 (0 : Fin 1) (0 : Fin 1) d (p ⟨768 + a.val, by omega⟩)) := by
  show shapeCast S256x160 (matmul dot_S256x256_S160x256_S256x160_1_1_0_0_n_n none (headRun.sl.v935 (F := Ideal)) (extractStridedSlice S160x256 ![0, 768] (headRun.sl.v851 c i arg3 harg3 arg8 harg8 x0 x5) slices_S160x1024_o0_768_S160x256) (constant S256x160 .f32 0x00000000#32)) _ (ix2 a d) = _
  pointwise
  simp only [eye_at, ks_at (hb := hb) (hp := hp), ite_mul, one_mul, zero_mul, Finset.sum_ite_eq, Finset.mem_univ, if_true]
  try rfl

include hb hp in
theorem v862_at (d : Fin 160) (l : Fin 128) : (headRun.sl.v862 c i arg4 harg4 arg5 harg5 arg6 harg6 arg8 harg8 arg10 x1 x2 x3 x5) (ix2 d l) = x1 (ix4 (0 : Fin 1) (0 : Fin 1) d (p ⟨0 + l.val, by omega⟩)) * x3 (ix3 (0 : Fin 1) b (p ⟨0 + l.val, by omega⟩)) := by
  show shapeCast S160x128 (mulf (extractStridedSlice S160x128 ![0, 0] (headRun.sl.v854 c i arg4 harg4 arg8 harg8 x1 x5) slices_S160x1024_o0_0_S160x128) (broadcastTo S160x128 (extractStridedSlice S1x128 ![0, 0] (headRun.sl.v403 c i arg5 harg5 arg6 harg6 arg8 harg8 arg10 x2 x3 x5) slices_S8x128_o0_0_S1x128) broadcasts_S1x128_S160x128)) _ (ix2 d l) = _
  pointwise
  rw [vsort_at (hb := hb) (hp := hp), vs_at (hb := hb) (hp := hp)]
  rw [show pr 0 l = (⟨l.val, by omega⟩ : Fin 1024) from Fin.ext (Nat.zero_add _)]

include hb hp in
theorem v870_at (d : Fin 160) (l : Fin 128) : (headRun.sl.v870 c i arg4 harg4 arg5 harg5 arg6 harg6 arg8 harg8 arg10 x1 x2 x3 x5) (ix2 d l) = x1 (ix4 (0 : Fin 1) (0 : Fin 1) d (p ⟨128 + l.val, by omega⟩)) * x3 (ix3 (0 : Fin 1) b (p ⟨128 + l.val, by omega⟩)) := by
  show shapeCast S160x128 (mulf (extractStridedSlice S160x128 ![0, 128] (headRun.sl.v854 c i arg4 harg4 arg8 harg8 x1 x5) slices_S160x1024_o0_128_S160x128) (broadcastTo S160x128 (extractStridedSlice S1x128 ![1, 0] (headRun.sl.v403 c i arg5 harg5 arg6 harg6 arg8 harg8 arg10 x2 x3 x5) slices_S8x128_o1_0_S1x128) broadcasts_S1x128_S160x128)) _ (ix2 d l) = _
  pointwise
  rw [vsort_at (hb := hb) (hp := hp), vs_at (hb := hb) (hp := hp)]
  rfl

include hb hp in
theorem v878_at (d : Fin 160) (l : Fin 128) : (headRun.sl.v878 c i arg4 harg4 arg5 harg5 arg6 harg6 arg8 harg8 arg10 x1 x2 x3 x5) (ix2 d l) = x1 (ix4 (0 : Fin 1) (0 : Fin 1) d (p ⟨256 + l.val, by omega⟩)) * x3 (ix3 (0 : Fin 1) b (p ⟨256 + l.val, by omega⟩)) := by
  show shapeCast S160x128 (mulf (extractStridedSlice S160x128 ![0, 256] (headRun.sl.v854 c i arg4 harg4 arg8 harg8 x1 x5) slices_S160x1024_o0_256_S160x128) (broadcastTo S160x128 (extractStridedSlice S1x128 ![2, 0] (headRun.sl.v403 c i arg5 harg5 arg6 harg6 arg8 harg8 arg10 x2 x3 x5) slices_S8x128_o2_0_S1x128) broadcasts_S1x128_S160x128)) _ (ix2 d l) = _
  pointwise
  rw [vsort_at (hb := hb) (hp := hp), vs_at (hb := hb) (hp := hp)]
  rfl

include hb hp in
theorem v886_at (d : Fin 160) (l : Fin 128) : (headRun.sl.v886 c i arg4 harg4 arg5 harg5 arg6 harg6 arg8 harg8 arg10 x1 x2 x3 x5) (ix2 d l) = x1 (ix4 (0 : Fin 1) (0 : Fin 1) d (p ⟨384 + l.val, by omega⟩)) * x3 (ix3 (0 : Fin 1) b (p ⟨384 + l.val, by omega⟩)) := by
  show shapeCast S160x128 (mulf (extractStridedSlice S160x128 ![0, 384] (headRun.sl.v854 c i arg4 harg4 arg8 harg8 x1 x5) slices_S160x1024_o0_384_S160x128) (broadcastTo S160x128 (extractStridedSlice S1x128 ![3, 0] (headRun.sl.v403 c i arg5 harg5 arg6 harg6 arg8 harg8 arg10 x2 x3 x5) slices_S8x128_o3_0_S1x128) broadcasts_S1x128_S160x128)) _ (ix2 d l) = _
  pointwise
  rw [vsort_at (hb := hb) (hp := hp), vs_at (hb := hb) (hp := hp)]
  rfl

include hb hp in
theorem v894_at (d : Fin 160) (l : Fin 128) : (headRun.sl.v894 c i arg4 harg4 arg5 harg5 arg6 harg6 arg8 harg8 arg10 x1 x2 x3 x5) (ix2 d l) = x1 (ix4 (0 : Fin 1) (0 : Fin 1) d (p ⟨512 + l.val, by omega⟩)) * x3 (ix3 (0 : Fin 1) b (p ⟨512 + l.val, by omega⟩)) := by
  show shapeCast S160x128 (mulf (extractStridedSlice S160x128 ![0, 512] (headRun.sl.v854 c i arg4 harg4 arg8 harg8 x1 x5) slices_S160x1024_o0_512_S160x128) (broadcastTo S160x128 (extractStridedSlice S1x128 ![4, 0] (headRun.sl.v403 c i arg5 harg5 arg6 harg6 arg8 harg8 arg10 x2 x3 x5) slices_S8x128_o4_0_S1x128) broadcasts_S1x128_S160x128)) _ (ix2 d l) = _
  pointwise
  rw [vsort_at (hb := hb) (hp := hp), vs_at (hb := hb) (hp := hp)]
  rfl

include hb hp in
theorem v902_at (d : Fin 160) (l : Fin 128) : (headRun.sl.v902 c i arg4 harg4 arg5 harg5 arg6 harg6 arg8 harg8 arg10 x1 x2 x3 x5) (ix2 d l) = x1 (ix4 (0 : Fin 1) (0 : Fin 1) d (p ⟨640 + l.val, by omega⟩)) * x3 (ix3 (0 : Fin 1) b (p ⟨640 + l.val, by omega⟩)) := by
  show shapeCast S160x128 (mulf (extractStridedSlice S160x128 ![0, 640] (headRun.sl.v854 c i arg4 harg4 arg8 harg8 x1 x5) slices_S160x1024_o0_640_S160x128) (broadcastTo S160x128 (extractStridedSlice S1x128 ![5, 0] (headRun.sl.v403 c i arg5 harg5 arg6 harg6 arg8 harg8 arg10 x2 x3 x5) slices_S8x128_o5_0_S1x128) broadcasts_S1x128_S160x128)) _ (ix2 d l) = _
  pointwise
  rw [vsort_at (hb := hb) (hp := hp), vs_at (hb := hb) (hp := hp)]
  rfl

include hb hp in
theorem v910_at (d : Fin 160) (l : Fin 128) : (headRun.sl.v910 c i arg4 harg4 arg5 harg5 arg6 harg6 arg8 harg8 arg10 x1 x2 x3 x5) (ix2 d l) = x1 (ix4 (0 : Fin 1) (0 : Fin 1) d (p ⟨768 + l.val, by omega⟩)) * x3 (ix3 (0 : Fin 1) b (p ⟨768 + l.val, by omega⟩)) := by
  show shapeCast S160x128 (mulf (extractStridedSlice S160x128 ![0, 768] (headRun.sl.v854 c i arg4 harg4 arg8 harg8 x1 x5) slices_S160x1024_o0_768_S160x128) (broadcastTo S160x128 (extractStridedSlice S1x128 ![6, 0] (headRun.sl.v403 c i arg5 harg5 arg6 harg6 arg8 harg8 arg10 x2 x3 x5) slices_S8x128_o6_0_S1x128) broadcasts_S1x128_S160x128)) _ (ix2 d l) = _
  pointwise
  rw [vsort_at (hb := hb) (hp := hp), vs_at (hb := hb) (hp := hp)]
  rfl

include hb hp in
theorem v918_at (d : Fin 160) (l : Fin 128) : (headRun.sl.v918 c i arg4 harg4 arg5 harg5 arg6 harg6 arg8 harg8 arg10 x1 x2 x3 x5) (ix2 d l) = x1 (ix4 (0 : Fin 1) (0 : Fin 1) d (p ⟨896 + l.val, by omega⟩)) * x3 (ix3 (0 : Fin 1) b (p ⟨896 + l.val, by omega⟩)) := by
  show shapeCast S160x128 (mulf (extractStridedSlice S160x128 ![0, 896] (headRun.sl.v854 c i arg4 harg4 arg8 harg8 x1 x5) slices_S160x1024_o0_896_S160x128) (broadcastTo S160x128 (extractStridedSlice S1x128 ![7, 0] (headRun.sl.v403 c i arg5 harg5 arg6 harg6 arg8 harg8 arg10 x2 x3 x5) slices_S8x128_o7_0_S1x128) broadcasts_S1x128_S160x128)) _ (ix2 d l) = _
  pointwise
  rw [vsort_at (hb := hb) (hp := hp), vs_at (hb := hb) (hp := hp)]
  rfl

include hb hp in
theorem v728_at (a y : Fin 128) : (headRun.sl.v728 c i arg3 harg3 arg5 harg5 arg6 harg6 arg8 harg8 arg10 x0 x2 x3 x5) (ix2 a y) = keyFactor (fun d s => x0 (ix4 (0 : Fin 1) (0 : Fin 1) d s)) (fun s => x2 (ix3 (0 : Fin 1) b s)) (p ⟨0 + a.val, by omega⟩) := by
  show shapeCast S128x128 (transpose S128x128 [1, 0] (broadcastTo S128x128 (shapeCast S1x128 (extractStridedSlice S1x128 ![0, 0] (headRun.sl.v562 c i arg3 harg3 arg5 harg5 arg6 harg6 arg8 harg8 arg10 x0 x2 x3 x5) slices_S8x128_o0_0_S1x128) shapeCasts_S1x128_S1x128) broadcasts_S1x128_S128x128) _) _ (ix2 a y) = _
  pointwise
  rw [kfs_at (hb := hb) (hp := hp)]
  rw [show pr 0 a = (⟨a.val, by omega⟩ : Fin 1024) from Fin.ext (Nat.zero_add _)]

include hb hp in
theorem v742_at (a y : Fin 128) : (headRun.sl.v742 c i arg3 harg3 arg5 harg5 arg6 harg6 arg8 harg8 arg10 x0 x2 x3 x5) (ix2 a y) = keyFactor (fun d s => x0 (ix4 (0 : Fin 1) (0 : Fin 1) d s)) (fun s => x2 (ix3 (0 : Fin 1) b s)) (p ⟨128 + a.val, by omega⟩) := by
  show shapeCast S128x128 (transpose S128x128 [1, 0] (broadcastTo S128x128 (shapeCast S1x128 (extractStridedSlice S1x128 ![1, 0] (headRun.sl.v562 c i arg3 harg3 arg5 harg5 arg6 harg6 arg8 harg8 arg10 x0 x2 x3 x5) slices_S8x128_o1_0_S1x128) shapeCasts_S1x128_S1x128) broadcasts_S1x128_S128x128) _) _ (ix2 a y) = _
  pointwise
  rw [kfs_at (hb := hb) (hp := hp)]
  rfl

include hb hp in
theorem v756_at (a y : Fin 128) : (headRun.sl.v756 c i arg3 harg3 arg5 harg5 arg6 harg6 arg8 harg8 arg10 x0 x2 x3 x5) (ix2 a y) = keyFactor (fun d s => x0 (ix4 (0 : Fin 1) (0 : Fin 1) d s)) (fun s => x2 (ix3 (0 : Fin 1) b s)) (p ⟨256 + a.val, by omega⟩) := by
  show shapeCast S128x128 (transpose S128x128 [1, 0] (broadcastTo S128x128 (shapeCast S1x128 (extractStridedSlice S1x128 ![2, 0] (headRun.sl.v562 c i arg3 harg3 arg5 harg5 arg6 harg6 arg8 harg8 arg10 x0 x2 x3 x5) slices_S8x128_o2_0_S1x128) shapeCasts_S1x128_S1x128) broadcasts_S1x128_S128x128) _) _ (ix2 a y) = _
  pointwise
  rw [kfs_at (hb := hb) (hp := hp)]
  rfl

include hb hp in
theorem v770_at (a y : Fin 128) : (headRun.sl.v770 c i arg3 harg3 arg5 harg5 arg6 harg6 arg8 harg8 arg10 x0 x2 x3 x5) (ix2 a y) = keyFactor (fun d s => x0 (ix4 (0 : Fin 1) (0 : Fin 1) d s)) (fun s => x2 (ix3 (0 : Fin 1) b s)) (p ⟨384 + a.val, by omega⟩) := by
  show shapeCast S128x128 (transpose S128x128 [1, 0] (broadcastTo S128x128 (shapeCast S1x128 (extractStridedSlice S1x128 ![3, 0] (headRun.sl.v562 c i arg3 harg3 arg5 harg5 arg6 harg6 arg8 harg8 arg10 x0 x2 x3 x5) slices_S8x128_o3_0_S1x128) shapeCasts_S1x128_S1x128) broadcasts_S1x128_S128x128) _) _ (ix2 a y) = _
  pointwise
  rw [kfs_at (hb := hb) (hp := hp)]
  rfl

include hb hp in
theorem v784_at (a y : Fin 128) : (headRun.sl.v784 c i arg3 harg3 arg5 harg5 arg6 harg6 arg8 harg8 arg10 x0 x2 x3 x5) (ix2 a y) = keyFactor (fun d s => x0 (ix4 (0 : Fin 1) (0 : Fin 1) d s)) (fun s => x2 (ix3 (0 : Fin 1) b s)) (p ⟨512 + a.val, by omega⟩) := by
  show shapeCast S128x128 (transpose S128x128 [1, 0] (broadcastTo S128x128 (shapeCast S1x128 (extractStridedSlice S1x128 ![4, 0] (headRun.sl.v562 c i arg3 harg3 arg5 harg5 arg6 harg6 arg8 harg8 arg10 x0 x2 x3 x5) slices_S8x128_o4_0_S1x128) shapeCasts_S1x128_S1x128) broadcasts_S1x128_S128x128) _) _ (ix2 a y) = _
  pointwise
  rw [kfs_at (hb := hb) (hp := hp)]
  rfl

include hb hp in
theorem v798_at (a y : Fin 128) : (headRun.sl.v798 c i arg3 harg3 arg5 harg5 arg6 harg6 arg8 harg8 arg10 x0 x2 x3 x5) (ix2 a y) = keyFactor (fun d s => x0 (ix4 (0 : Fin 1) (0 : Fin 1) d s)) (fun s => x2 (ix3 (0 : Fin 1) b s)) (p ⟨640 + a.val, by omega⟩) := by
  show shapeCast S128x128 (transpose S128x128 [1, 0] (broadcastTo S128x128 (shapeCast S1x128 (extractStridedSlice S1x128 ![5, 0] (headRun.sl.v562 c i arg3 harg3 arg5 harg5 arg6 harg6 arg8 harg8 arg10 x0 x2 x3 x5) slices_S8x128_o5_0_S1x128) shapeCasts_S1x128_S1x128) broadcasts_S1x128_S128x128) _) _ (ix2 a y) = _
  pointwise
  rw [kfs_at (hb := hb) (hp := hp)]
  rfl

include hb hp in
theorem v812_at (a y : Fin 128) : (headRun.sl.v812 c i arg3 harg3 arg5 harg5 arg6 harg6 arg8 harg8 arg10 x0 x2 x3 x5) (ix2 a y) = keyFactor (fun d s => x0 (ix4 (0 : Fin 1) (0 : Fin 1) d s)) (fun s => x2 (ix3 (0 : Fin 1) b s)) (p ⟨768 + a.val, by omega⟩) := by
  show shapeCast S128x128 (transpose S128x128 [1, 0] (broadcastTo S128x128 (shapeCast S1x128 (extractStridedSlice S1x128 ![6, 0] (headRun.sl.v562 c i arg3 harg3 arg5 harg5 arg6 harg6 arg8 harg8 arg10 x0 x2 x3 x5) slices_S8x128_o6_0_S1x128) shapeCasts_S1x128_S1x128) broadcasts_S1x128_S128x128) _) _ (ix2 a y) = _
  pointwise
  rw [kfs_at (hb := hb) (hp := hp)]
  rfl

include hb hp in
theorem v826_at (a y : Fin 128) : (headRun.sl.v826 c i arg3 harg3 arg5 harg5 arg6 harg6 arg8 harg8 arg10 x0 x2 x3 x5) (ix2 a y) = keyFactor (fun d s => x0 (ix4 (0 : Fin 1) (0 : Fin 1) d s)) (fun s => x2 (ix3 (0 : Fin 1) b s)) (p ⟨896 + a.val, by omega⟩) := by
  show shapeCast S128x128 (transpose S128x128 [1, 0] (broadcastTo S128x128 (shapeCast S1x128 (extractStridedSlice S1x128 ![7, 0] (headRun.sl.v562 c i arg3 harg3 arg5 harg5 arg6 harg6 arg8 harg8 arg10 x0 x2 x3 x5) slices_S8x128_o7_0_S1x128) shapeCasts_S1x128_S1x128) broadcasts_S1x128_S128x128) _) _ (ix2 a y) = _
  pointwise
  rw [kfs_at (hb := hb) (hp := hp)]
  rfl

include hb hp in
theorem v735_at (a y : Fin 128) : (headRun.sl.v735 c i arg3 harg3 arg5 harg5 arg6 harg6 arg7 harg7 arg8 harg8 arg10 x0 x2 x3 x4 x5) (ix2 a y) = (((x4 (ix3 (0 : Fin 1) b (p ⟨0 + a.val, by omega⟩))).toInt : ℝ) : EReal) := by
  show shapeCast S128x128 (transpose S128x128 [1, 0] (broadcastTo S128x128 (shapeCast S1x128 (extractStridedSlice S1x128 ![0, 0] (headRun.sl.v721 c i arg3 harg3 arg5 harg5 arg6 harg6 arg7 harg7 arg8 harg8 arg10 x0 x2 x3 x4 x5) slices_S8x128_o0_0_S1x128) shapeCasts_S1x128_S1x128) broadcasts_S1x128_S128x128) _) _ (ix2 a y) = _
  pointwise
  rw [bks_at (hb := hb) (hp := hp)]
  rw [show pr 0 a = (⟨a.val, by omega⟩ : Fin 1024) from Fin.ext (Nat.zero_add _)]

include hb hp in
theorem v749_at (a y : Fin 128) : (headRun.sl.v749 c i arg3 harg3 arg5 harg5 arg6 harg6 arg7 harg7 arg8 harg8 arg10 x0 x2 x3 x4 x5) (ix2 a y) = (((x4 (ix3 (0 : Fin 1) b (p ⟨128 + a.val, by omega⟩))).toInt : ℝ) : EReal) := by
  show shapeCast S128x128 (transpose S128x128 [1, 0] (broadcastTo S128x128 (shapeCast S1x128 (extractStridedSlice S1x128 ![1, 0] (headRun.sl.v721 c i arg3 harg3 arg5 harg5 arg6 harg6 arg7 harg7 arg8 harg8 arg10 x0 x2 x3 x4 x5) slices_S8x128_o1_0_S1x128) shapeCasts_S1x128_S1x128) broadcasts_S1x128_S128x128) _) _ (ix2 a y) = _
  pointwise
  rw [bks_at (hb := hb) (hp := hp)]
  rfl

include hb hp in
theorem v763_at (a y : Fin 128) : (headRun.sl.v763 c i arg3 harg3 arg5 harg5 arg6 harg6 arg7 harg7 arg8 harg8 arg10 x0 x2 x3 x4 x5) (ix2 a y) = (((x4 (ix3 (0 : Fin 1) b (p ⟨256 + a.val, by omega⟩))).toInt : ℝ) : EReal) := by
  show shapeCast S128x128 (transpose S128x128 [1, 0] (broadcastTo S128x128 (shapeCast S1x128 (extractStridedSlice S1x128 ![2, 0] (headRun.sl.v721 c i arg3 harg3 arg5 harg5 arg6 harg6 arg7 harg7 arg8 harg8 arg10 x0 x2 x3 x4 x5) slices_S8x128_o2_0_S1x128) shapeCasts_S1x128_S1x128) broadcasts_S1x128_S128x128) _) _ (ix2 a y) = _
  pointwise
  rw [bks_at (hb := hb) (hp := hp)]
  rfl

include hb hp in
theorem v777_at (a y : Fin 128) : (headRun.sl.v777 c i arg3 harg3 arg5 harg5 arg6 harg6 arg7 harg7 arg8 harg8 arg10 x0 x2 x3 x4 x5) (ix2 a y) = (((x4 (ix3 (0 : Fin 1) b (p ⟨384 + a.val, by omega⟩))).toInt : ℝ) : EReal) := by
  show shapeCast S128x128 (transpose S128x128 [1, 0] (broadcastTo S128x128 (shapeCast S1x128 (extractStridedSlice S1x128 ![3, 0] (headRun.sl.v721 c i arg3 harg3 arg5 harg5 arg6 harg6 arg7 harg7 arg8 harg8 arg10 x0 x2 x3 x4 x5) slices_S8x128_o3_0_S1x128) shapeCasts_S1x128_S1x128) broadcasts_S1x128_S128x128) _) _ (ix2 a y) = _
  pointwise
  rw [bks_at (hb := hb) (hp := hp)]
  rfl

include hb hp in
theorem v791_at (a y : Fin 128) : (headRun.sl.v791 c i arg3 harg3 arg5 harg5 arg6 harg6 arg7 harg7 arg8 harg8 arg10 x0 x2 x3 x4 x5) (ix2 a y) = (((x4 (ix3 (0 : Fin 1) b (p ⟨512 + a.val, by omega⟩))).toInt : ℝ) : EReal) := by
  show shapeCast S128x128 (transpose S128x128 [1, 0] (broadcastTo S128x128 (shapeCast S1x128 (extractStridedSlice S1x128 ![4, 0] (headRun.sl.v721 c i arg3 harg3 arg5 harg5 arg6 harg6 arg7 harg7 arg8 harg8 arg10 x0 x2 x3 x4 x5) slices_S8x128_o4_0_S1x128) shapeCasts_S1x128_S1x128) broadcasts_S1x128_S128x128) _) _ (ix2 a y) = _
  pointwise
  rw [bks_at (hb := hb) (hp := hp)]
  rfl

include hb hp in
theorem v805_at (a y : Fin 128) : (headRun.sl.v805 c i arg3 harg3 arg5 harg5 arg6 harg6 arg7 harg7 arg8 harg8 arg10 x0 x2 x3 x4 x5) (ix2 a y) = (((x4 (ix3 (0 : Fin 1) b (p ⟨640 + a.val, by omega⟩))).toInt : ℝ) : EReal) := by
  show shapeCast S128x128 (transpose S128x128 [1, 0] (broadcastTo S128x128 (shapeCast S1x128 (extractStridedSlice S1x128 ![5, 0] (headRun.sl.v721 c i arg3 harg3 arg5 harg5 arg6 harg6 arg7 harg7 arg8 harg8 arg10 x0 x2 x3 x4 x5) slices_S8x128_o5_0_S1x128) shapeCasts_S1x128_S1x128) broadcasts_S1x128_S128x128) _) _ (ix2 a y) = _
  pointwise
  rw [bks_at (hb := hb) (hp := hp)]
  rfl

include hb hp in
theorem v819_at (a y : Fin 128) : (headRun.sl.v819 c i arg3 harg3 arg5 harg5 arg6 harg6 arg7 harg7 arg8 harg8 arg10 x0 x2 x3 x4 x5) (ix2 a y) = (((x4 (ix3 (0 : Fin 1) b (p ⟨768 + a.val, by omega⟩))).toInt : ℝ) : EReal) := by
  show shapeCast S128x128 (transpose S128x128 [1, 0] (broadcastTo S128x128 (shapeCast S1x128 (extractStridedSlice S1x128 ![6, 0] (headRun.sl.v721 c i arg3 harg3 arg5 harg5 arg6 harg6 arg7 harg7 arg8 harg8 arg10 x0 x2 x3 x4 x5) slices_S8x128_o6_0_S1x128) shapeCasts_S1x128_S1x128) broadcasts_S1x128_S128x128) _) _ (ix2 a y) = _
  pointwise
  rw [bks_at (hb := hb) (hp := hp)]
  rfl

include hb hp in
theorem v833_at (a y : Fin 128) : (headRun.sl.v833 c i arg3 harg3 arg5 harg5 arg6 harg6 arg7 harg7 arg8 harg8 arg10 x0 x2 x3 x4 x5) (ix2 a y) = (((x4 (ix3 (0 : Fin 1) b (p ⟨896 + a.val, by omega⟩))).toInt : ℝ) : EReal) := by
  show shapeCast S128x128 (transpose S128x128 [1, 0] (broadcastTo S128x128 (shapeCast S1x128 (extractStridedSlice S1x128 ![7, 0] (headRun.sl.v721 c i arg3 harg3 arg5 harg5 arg6 harg6 arg7 harg7 arg8 harg8 arg10 x0 x2 x3 x4 x5) slices_S8x128_o7_0_S1x128) shapeCasts_S1x128_S1x128) broadcasts_S1x128_S128x128) _) _ (ix2 a y) = _
  pointwise
  rw [bks_at (hb := hb) (hp := hp)]
  rfl

end Cert.KernelIdeal.Hand

end
-- ==== Proof.Tiles.lean ====
/-
  The tiled scratch arrays, read back.
-/
module

public import proofs.«01_k».proof.Proof.Vals

@[expose] public section

set_option maxRecDepth 16384

noncomputable section

namespace Cert.KernelIdeal.Hand

open Cert.KernelIdeal Cert.KernelIdeal.Gen
open Idealize.ShloMosaic Idealize.ShloMosaic.TcCoe
variable (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
  (x0 : Vec Ideal S1x1x160x1024 .fp8e4m3) (x1 : Vec Ideal S1x1x160x1024 .fp8e4m3) (x2 : Vec Ideal S1x2x1024 .f32) (x3 : Vec Ideal S1x2x1024 .f32) (x4 : Vec Ideal S1x2x1024 .i32) (x5 : Vec Ideal S1x2x1024 .i32)
variable (b : Fin 2) (hb : (i 0).val = b.val) (p : Fin 1024 → Fin 1024) (hp : ∀ r : Fin 1024, x5 (ix3 (0 : Fin 1) b r) = BitVec.ofNat 32 (p r).val)

set_option maxHeartbeats 2000000 in
include hb hp in
theorem readK {κ₁ : Kind} {sp : Space} (v : View sig κ₁ sp S1024x160 .fp8e4m3) (r : LoadRect S1024x160) (x : r.shape.Idx) : v.readCov (headRun.sl.HS1_4 c i arg3 harg3 arg8 harg8 x0 x5) r x = (fun y : S1024x160.Idx => x0 (ix4 (0 : Fin 1) (0 : Fin 1) (y 1 : Fin 160) (p (y 0)))) (r.idx x) := by
  refine tiles_read v (fun y : S1024x160.Idx => x0 (ix4 (0 : Fin 1) (0 : Fin 1) (y 1 : Fin 160) (p (y 0)))) (headRun.sl.HS1_4 c i arg3 harg3 arg8 harg8 x0 x5) ((And.intro ?_ (And.intro ?_ (And.intro ?_ (And.intro ?_ trivial))))) ?_ r x
  · intro z
    obtain ⟨a, d, rfl⟩ : ∃ (a : Fin 256) (d : Fin 160), z = ix2 a d := ⟨z 0, z 1, (ix2_eta z).symm⟩
    dsimp only
    rw [v959_at (hb := hb) (hp := hp)]
    refine congrArg₂ (fun (m : Fin 160) (n : Fin 1024) => x0 (ix4 (0 : Fin 1) (0 : Fin 1) m (p n))) (Fin.ext ?_) (Fin.ext ?_)
    · show d.val = 0 + 1 * d.val
      omega
    · show 768 + a.val = 768 + 1 * a.val
      omega
  · intro z
    obtain ⟨a, d, rfl⟩ : ∃ (a : Fin 256) (d : Fin 160), z = ix2 a d := ⟨z 0, z 1, (ix2_eta z).symm⟩
    dsimp only
    rw [v953_at (hb := hb) (hp := hp)]
    refine congrArg₂ (fun (m : Fin 160) (n : Fin 1024) => x0 (ix4 (0 : Fin 1) (0 : Fin 1) m (p n))) (Fin.ext ?_) (Fin.ext ?_)
    · show d.val = 0 + 1 * d.val
      omega
    · show 512 + a.val = 512 + 1 * a.val
      omega
  · intro z
    obtain ⟨a, d, rfl⟩ : ∃ (a : Fin 256) (d : Fin 160), z = ix2 a d := ⟨z 0, z 1, (ix2_eta z).symm⟩
    dsimp only
    rw [v947_at (hb := hb) (hp := hp)]
    refine congrArg₂ (fun (m : Fin 160) (n : Fin 1024) => x0 (ix4 (0 : Fin 1) (0 : Fin 1) m (p n))) (Fin.ext ?_) (Fin.ext ?_)
    · show d.val = 0 + 1 * d.val
      omega
    · show 256 + a.val = 256 + 1 * a.val
      omega
  · intro z
    obtain ⟨a, d, rfl⟩ : ∃ (a : Fin 256) (d : Fin 160), z = ix2 a d := ⟨z 0, z 1, (ix2_eta z).symm⟩
    dsimp only
    rw [v941_at (hb := hb) (hp := hp)]
    refine congrArg₂ (fun (m : Fin 160) (n : Fin 1024) => x0 (ix4 (0 : Fin 1) (0 : Fin 1) m (p n))) (Fin.ext ?_) (Fin.ext ?_)
    · show d.val = 0 + 1 * d.val
      omega
    · show 0 + a.val = 0 + 1 * a.val
      omega
  · intro y
    have hy0 : (y 0).val < 1024 := (y 0).isLt
    have hy1 : (y 1).val < 160 := (y 1).isLt
    have cov : ∀ (o0 o1 : ℕ) (inb : ∀ a, (![o0, o1] : Fin 2 → ℕ) a + S256x160.size a ≤ S1024x160.size a), o0 ≤ (y 0).val → (y 0).val < o0 + 256 → o1 ≤ (y 1).val → (y 1).val < o1 + 160 →
        y ∈ (Rect.unit (s := S1024x160) ![o0, o1] S256x160.size inb).set := by
      intro o0 o1 inb h1 h2 h3 h4
      refine (LoadRect.mem_set _).mpr fun a => ?_
      fin_cases a
      · exact ⟨(y 0).val - o0, by show (y 0).val - o0 < 256; omega, by show (y 0).val = o0 + 1 * ((y 0).val - o0); omega⟩
      · exact ⟨(y 1).val - o1, by show (y 1).val - o1 < 160; omega, by show (y 1).val = o1 + 1 * ((y 1).val - o1); omega⟩
    have hq : (y 0).val / 256 < 4 := by omega
    interval_cases hk : (y 0).val / 256
    · exact ⟨_, .tail _ (.tail _ (.tail _ (.head _))), cov 0 0 (by decide) (by omega) (by omega) (by omega) (by omega)⟩
    · exact ⟨_, .tail _ (.tail _ (.head _)), cov 256 0 (by decide) (by omega) (by omega) (by omega) (by omega)⟩
    · exact ⟨_, .tail _ (.head _), cov 512 0 (by decide) (by omega) (by omega) (by omega) (by omega)⟩
    · exact ⟨_, .head _, cov 768 0 (by decide) (by omega) (by omega) (by omega) (by omega)⟩

set_option maxHeartbeats 2000000 in
include hb hp in
theorem readVT {κ₁ : Kind} {sp : Space} (v : View sig κ₁ sp S160x1024 .bf16) (r : LoadRect S160x1024) (x : r.shape.Idx) : v.readCov (headRun.sl.HS2_8 c i arg4 harg4 arg5 harg5 arg6 harg6 arg8 harg8 arg10 x1 x2 x3 x5) r x = (fun y : S160x1024.Idx => x1 (ix4 (0 : Fin 1) (0 : Fin 1) (y 0 : Fin 160) (p (y 1))) * x3 (ix3 (0 : Fin 1) b (p (y 1)))) (r.idx x) := by
  refine tiles_read v (fun y : S160x1024.Idx => x1 (ix4 (0 : Fin 1) (0 : Fin 1) (y 0 : Fin 160) (p (y 1))) * x3 (ix3 (0 : Fin 1) b (p (y 1)))) (headRun.sl.HS2_8 c i arg4 harg4 arg5 harg5 arg6 harg6 arg8 harg8 arg10 x1 x2 x3 x5) ((And.intro ?_ (And.intro ?_ (And.intro ?_ (And.intro ?_ (And.intro ?_ (And.intro ?_ (And.intro ?_ (And.intro ?_ trivial))))))))) ?_ r x
  · intro z
    obtain ⟨a, d, rfl⟩ : ∃ (a : Fin 160) (d : Fin 128), z = ix2 a d := ⟨z 0, z 1, (ix2_eta z).symm⟩
    dsimp only
    rw [v918_at (hb := hb) (hp := hp)]
    refine congrArg₂ (fun (m : Fin 160) (n : Fin 1024) => x1 (ix4 (0 : Fin 1) (0 : Fin 1) m (p n)) * x3 (ix3 (0 : Fin 1) b (p n))) (Fin.ext ?_) (Fin.ext ?_)
    · show a.val = 0 + 1 * a.val
      omega
    · show 896 + d.val = 896 + 1 * d.val
      omega
  · intro z
    obtain ⟨a, d, rfl⟩ : ∃ (a : Fin 160) (d : Fin 128), z = ix2 a d := ⟨z 0, z 1, (ix2_eta z).symm⟩
    dsimp only
    rw [v910_at (hb := hb) (hp := hp)]
    refine congrArg₂ (fun (m : Fin 160) (n : Fin 1024) => x1 (ix4 (0 : Fin 1) (0 : Fin 1) m (p n)) * x3 (ix3 (0 : Fin 1) b (p n))) (Fin.ext ?_) (Fin.ext ?_)
    · show a.val = 0 + 1 * a.val
      omega
    · show 768 + d.val = 768 + 1 * d.val
      omega
  · intro z
    obtain ⟨a, d, rfl⟩ : ∃ (a : Fin 160) (d : Fin 128), z = ix2 a d := ⟨z 0, z 1, (ix2_eta z).symm⟩
    dsimp only
    rw [v902_at (hb := hb) (hp := hp)]
    refine congrArg₂ (fun (m : Fin 160) (n : Fin 1024) => x1 (ix4 (0 : Fin 1) (0 : Fin 1) m (p n)) * x3 (ix3 (0 : Fin 1) b (p n))) (Fin.ext ?_) (Fin.ext ?_)
    · show a.val = 0 + 1 * a.val
      omega
    · show 640 + d.val = 640 + 1 * d.val
      omega
  · intro z
    obtain ⟨a, d, rfl⟩ : ∃ (a : Fin 160) (d : Fin 128), z = ix2 a d := ⟨z 0, z 1, (ix2_eta z).symm⟩
    dsimp only
    rw [v894_at (hb := hb) (hp := hp)]
    refine congrArg₂ (fun (m : Fin 160) (n : Fin 1024) => x1 (ix4 (0 : Fin 1) (0 : Fin 1) m (p n)) * x3 (ix3 (0 : Fin 1) b (p n))) (Fin.ext ?_) (Fin.ext ?_)
    · show a.val = 0 + 1 * a.val
      omega
    · show 512 + d.val = 512 + 1 * d.val
      omega
  · intro z
    obtain ⟨a, d, rfl⟩ : ∃ (a : Fin 160) (d : Fin 128), z = ix2 a d := ⟨z 0, z 1, (ix2_eta z).symm⟩
    dsimp only
    rw [v886_at (hb := hb) (hp := hp)]
    refine congrArg₂ (fun (m : Fin 160) (n : Fin 1024) => x1 (ix4 (0 : Fin 1) (0 : Fin 1) m (p n)) * x3 (ix3 (0 : Fin 1) b (p n))) (Fin.ext ?_) (Fin.ext ?_)
    · show a.val = 0 + 1 * a.val
      omega
    · show 384 + d.val = 384 + 1 * d.val
      omega
  · intro z
    obtain ⟨a, d, rfl⟩ : ∃ (a : Fin 160) (d : Fin 128), z = ix2 a d := ⟨z 0, z 1, (ix2_eta z).symm⟩
    dsimp only
    rw [v878_at (hb := hb) (hp := hp)]
    refine congrArg₂ (fun (m : Fin 160) (n : Fin 1024) => x1 (ix4 (0 : Fin 1) (0 : Fin 1) m (p n)) * x3 (ix3 (0 : Fin 1) b (p n))) (Fin.ext ?_) (Fin.ext ?_)
    · show a.val = 0 + 1 * a.val
      omega
    · show 256 + d.val = 256 + 1 * d.val
      omega
  · intro z
    obtain ⟨a, d, rfl⟩ : ∃ (a : Fin 160) (d : Fin 128), z = ix2 a d := ⟨z 0, z 1, (ix2_eta z).symm⟩
    dsimp only
    rw [v870_at (hb := hb) (hp := hp)]
    refine congrArg₂ (fun (m : Fin 160) (n : Fin 1024) => x1 (ix4 (0 : Fin 1) (0 : Fin 1) m (p n)) * x3 (ix3 (0 : Fin 1) b (p n))) (Fin.ext ?_) (Fin.ext ?_)
    · show a.val = 0 + 1 * a.val
      omega
    · show 128 + d.val = 128 + 1 * d.val
      omega
  · intro z
    obtain ⟨a, d, rfl⟩ : ∃ (a : Fin 160) (d : Fin 128), z = ix2 a d := ⟨z 0, z 1, (ix2_eta z).symm⟩
    dsimp only
    rw [v862_at (hb := hb) (hp := hp)]
    refine congrArg₂ (fun (m : Fin 160) (n : Fin 1024) => x1 (ix4 (0 : Fin 1) (0 : Fin 1) m (p n)) * x3 (ix3 (0 : Fin 1) b (p n))) (Fin.ext ?_) (Fin.ext ?_)
    · show a.val = 0 + 1 * a.val
      omega
    · show 0 + d.val = 0 + 1 * d.val
      omega
  · intro y
    have hy0 : (y 0).val < 160 := (y 0).isLt
    have hy1 : (y 1).val < 1024 := (y 1).isLt
    have cov : ∀ (o0 o1 : ℕ) (inb : ∀ a, (![o0, o1] : Fin 2 → ℕ) a + S160x128.size a ≤ S160x1024.size a), o0 ≤ (y 0).val → (y 0).val < o0 + 160 → o1 ≤ (y 1).val → (y 1).val < o1 + 128 →
        y ∈ (Rect.unit (s := S160x1024) ![o0, o1] S160x128.size inb).set := by
      intro o0 o1 inb h1 h2 h3 h4
      refine (LoadRect.mem_set _).mpr fun a => ?_
      fin_cases a
      · exact ⟨(y 0).val - o0, by show (y 0).val - o0 < 160; omega, by show (y 0).val = o0 + 1 * ((y 0).val - o0); omega⟩
      · exact ⟨(y 1).val - o1, by show (y 1).val - o1 < 128; omega, by show (y 1).val = o1 + 1 * ((y 1).val - o1); omega⟩
    have hq : (y 1).val / 128 < 8 := by omega
    interval_cases hk : (y 1).val / 128
    · exact ⟨_, .tail _ (.tail _ (.tail _ (.tail _ (.tail _ (.tail _ (.tail _ (.head _))))))), cov 0 0 (by decide) (by omega) (by omega) (by omega) (by omega)⟩
    · exact ⟨_, .tail _ (.tail _ (.tail _ (.tail _ (.tail _ (.tail _ (.head _)))))), cov 0 128 (by decide) (by omega) (by omega) (by omega) (by omega)⟩
    · exact ⟨_, .tail _ (.tail _ (.tail _ (.tail _ (.tail _ (.head _))))), cov 0 256 (by decide) (by omega) (by omega) (by omega) (by omega)⟩
    · exact ⟨_, .tail _ (.tail _ (.tail _ (.tail _ (.head _)))), cov 0 384 (by decide) (by omega) (by omega) (by omega) (by omega)⟩
    · exact ⟨_, .tail _ (.tail _ (.tail _ (.head _))), cov 0 512 (by decide) (by omega) (by omega) (by omega) (by omega)⟩
    · exact ⟨_, .tail _ (.tail _ (.head _)), cov 0 640 (by decide) (by omega) (by omega) (by omega) (by omega)⟩
    · exact ⟨_, .tail _ (.head _), cov 0 768 (by decide) (by omega) (by omega) (by omega) (by omega)⟩
    · exact ⟨_, .head _, cov 0 896 (by decide) (by omega) (by omega) (by omega) (by omega)⟩

set_option maxHeartbeats 2000000 in
include hb hp in
theorem readKF {κ₁ : Kind} {sp : Space} (v : View sig κ₁ sp S1024x128 .f32) (r : LoadRect S1024x128) (x : r.shape.Idx) : v.readCov (headRun.sl.HS3_8 c i arg3 harg3 arg5 harg5 arg6 harg6 arg8 harg8 arg10 x0 x2 x3 x5) r x = (fun y : S1024x128.Idx => keyFactor (fun d s => x0 (ix4 (0 : Fin 1) (0 : Fin 1) d s)) (fun s => x2 (ix3 (0 : Fin 1) b s)) (p (y 0))) (r.idx x) := by
  refine tiles_read v (fun y : S1024x128.Idx => keyFactor (fun d s => x0 (ix4 (0 : Fin 1) (0 : Fin 1) d s)) (fun s => x2 (ix3 (0 : Fin 1) b s)) (p (y 0))) (headRun.sl.HS3_8 c i arg3 harg3 arg5 harg5 arg6 harg6 arg8 harg8 arg10 x0 x2 x3 x5) ((And.intro ?_ (And.intro ?_ (And.intro ?_ (And.intro ?_ (And.intro ?_ (And.intro ?_ (And.intro ?_ (And.intro ?_ trivial))))))))) ?_ r x
  · intro z
    obtain ⟨a, d, rfl⟩ : ∃ (a : Fin 128) (d : Fin 128), z = ix2 a d := ⟨z 0, z 1, (ix2_eta z).symm⟩
    dsimp only
    rw [v826_at (hb := hb) (hp := hp)]
    refine congrArg (fun n : Fin 1024 => keyFactor (fun d s => x0 (ix4 (0 : Fin 1) (0 : Fin 1) d s)) (fun s => x2 (ix3 (0 : Fin 1) b s)) (p n)) (Fin.ext ?_)
    show 896 + a.val = 896 + 1 * a.val
    omega
  · intro z
    obtain ⟨a, d, rfl⟩ : ∃ (a : Fin 128) (d : Fin 128), z = ix2 a d := ⟨z 0, z 1, (ix2_eta z).symm⟩
    dsimp only
    rw [v812_at (hb := hb) (hp := hp)]
    refine congrArg (fun n : Fin 1024 => keyFactor (fun d s => x0 (ix4 (0 : Fin 1) (0 : Fin 1) d s)) (fun s => x2 (ix3 (0 : Fin 1) b s)) (p n)) (Fin.ext ?_)
    show 768 + a.val = 768 + 1 * a.val
    omega
  · intro z
    obtain ⟨a, d, rfl⟩ : ∃ (a : Fin 128) (d : Fin 128), z = ix2 a d := ⟨z 0, z 1, (ix2_eta z).symm⟩
    dsimp only
    rw [v798_at (hb := hb) (hp := hp)]
    refine congrArg (fun n : Fin 1024 => keyFactor (fun d s => x0 (ix4 (0 : Fin 1) (0 : Fin 1) d s)) (fun s => x2 (ix3 (0 : Fin 1) b s)) (p n)) (Fin.ext ?_)
    show 640 + a.val = 640 + 1 * a.val
    omega
  · intro z
    obtain ⟨a, d, rfl⟩ : ∃ (a : Fin 128) (d : Fin 128), z = ix2 a d := ⟨z 0, z 1, (ix2_eta z).symm⟩
    dsimp only
    rw [v784_at (hb := hb) (hp := hp)]
    refine congrArg (fun n : Fin 1024 => keyFactor (fun d s => x0 (ix4 (0 : Fin 1) (0 : Fin 1) d s)) (fun s => x2 (ix3 (0 : Fin 1) b s)) (p n)) (Fin.ext ?_)
    show 512 + a.val = 512 + 1 * a.val
    omega
  · intro z
    obtain ⟨a, d, rfl⟩ : ∃ (a : Fin 128) (d : Fin 128), z = ix2 a d := ⟨z 0, z 1, (ix2_eta z).symm⟩
    dsimp only
    rw [v770_at (hb := hb) (hp := hp)]
    refine congrArg (fun n : Fin 1024 => keyFactor (fun d s => x0 (ix4 (0 : Fin 1) (0 : Fin 1) d s)) (fun s => x2 (ix3 (0 : Fin 1) b s)) (p n)) (Fin.ext ?_)
    show 384 + a.val = 384 + 1 * a.val
    omega
  · intro z
    obtain ⟨a, d, rfl⟩ : ∃ (a : Fin 128) (d : Fin 128), z = ix2 a d := ⟨z 0, z 1, (ix2_eta z).symm⟩
    dsimp only
    rw [v756_at (hb := hb) (hp := hp)]
    refine congrArg (fun n : Fin 1024 => keyFactor (fun d s => x0 (ix4 (0 : Fin 1) (0 : Fin 1) d s)) (fun s => x2 (ix3 (0 : Fin 1) b s)) (p n)) (Fin.ext ?_)
    show 256 + a.val = 256 + 1 * a.val
    omega
  · intro z
    obtain ⟨a, d, rfl⟩ : ∃ (a : Fin 128) (d : Fin 128), z = ix2 a d := ⟨z 0, z 1, (ix2_eta z).symm⟩
    dsimp only
    rw [v742_at (hb := hb) (hp := hp)]
    refine congrArg (fun n : Fin 1024 => keyFactor (fun d s => x0 (ix4 (0 : Fin 1) (0 : Fin 1) d s)) (fun s => x2 (ix3 (0 : Fin 1) b s)) (p n)) (Fin.ext ?_)
    show 128 + a.val = 128 + 1 * a.val
    omega
  · intro z
    obtain ⟨a, d, rfl⟩ : ∃ (a : Fin 128) (d : Fin 128), z = ix2 a d := ⟨z 0, z 1, (ix2_eta z).symm⟩
    dsimp only
    rw [v728_at (hb := hb) (hp := hp)]
    refine congrArg (fun n : Fin 1024 => keyFactor (fun d s => x0 (ix4 (0 : Fin 1) (0 : Fin 1) d s)) (fun s => x2 (ix3 (0 : Fin 1) b s)) (p n)) (Fin.ext ?_)
    show 0 + a.val = 0 + 1 * a.val
    omega
  · intro y
    have hy0 : (y 0).val < 1024 := (y 0).isLt
    have hy1 : (y 1).val < 128 := (y 1).isLt
    have cov : ∀ (o0 o1 : ℕ) (inb : ∀ a, (![o0, o1] : Fin 2 → ℕ) a + S128x128.size a ≤ S1024x128.size a), o0 ≤ (y 0).val → (y 0).val < o0 + 128 → o1 ≤ (y 1).val → (y 1).val < o1 + 128 →
        y ∈ (Rect.unit (s := S1024x128) ![o0, o1] S128x128.size inb).set := by
      intro o0 o1 inb h1 h2 h3 h4
      refine (LoadRect.mem_set _).mpr fun a => ?_
      fin_cases a
      · exact ⟨(y 0).val - o0, by show (y 0).val - o0 < 128; omega, by show (y 0).val = o0 + 1 * ((y 0).val - o0); omega⟩
      · exact ⟨(y 1).val - o1, by show (y 1).val - o1 < 128; omega, by show (y 1).val = o1 + 1 * ((y 1).val - o1); omega⟩
    have hq : (y 0).val / 128 < 8 := by omega
    interval_cases hk : (y 0).val / 128
    · exact ⟨_, .tail _ (.tail _ (.tail _ (.tail _ (.tail _ (.tail _ (.tail _ (.head _))))))), cov 0 0 (by decide) (by omega) (by omega) (by omega) (by omega)⟩
    · exact ⟨_, .tail _ (.tail _ (.tail _ (.tail _ (.tail _ (.tail _ (.head _)))))), cov 128 0 (by decide) (by omega) (by omega) (by omega) (by omega)⟩
    · exact ⟨_, .tail _ (.tail _ (.tail _ (.tail _ (.tail _ (.head _))))), cov 256 0 (by decide) (by omega) (by omega) (by omega) (by omega)⟩
    · exact ⟨_, .tail _ (.tail _ (.tail _ (.tail _ (.head _)))), cov 384 0 (by decide) (by omega) (by omega) (by omega) (by omega)⟩
    · exact ⟨_, .tail _ (.tail _ (.tail _ (.head _))), cov 512 0 (by decide) (by omega) (by omega) (by omega) (by omega)⟩
    · exact ⟨_, .tail _ (.tail _ (.head _)), cov 640 0 (by decide) (by omega) (by omega) (by omega) (by omega)⟩
    · exact ⟨_, .tail _ (.head _), cov 768 0 (by decide) (by omega) (by omega) (by omega) (by omega)⟩
    · exact ⟨_, .head _, cov 896 0 (by decide) (by omega) (by omega) (by omega) (by omega)⟩

set_option maxHeartbeats 2000000 in
include hb hp in
theorem readBK {κ₁ : Kind} {sp : Space} (v : View sig κ₁ sp S1024x128 .f32) (r : LoadRect S1024x128) (x : r.shape.Idx) : v.readCov (headRun.sl.HS4_8 c i arg3 harg3 arg5 harg5 arg6 harg6 arg7 harg7 arg8 harg8 arg10 x0 x2 x3 x4 x5) r x = (fun y : S1024x128.Idx => (((x4 (ix3 (0 : Fin 1) b (p (y 0)))).toInt : ℝ) : EReal)) (r.idx x) := by
  refine tiles_read v (fun y : S1024x128.Idx => (((x4 (ix3 (0 : Fin 1) b (p (y 0)))).toInt : ℝ) : EReal)) (headRun.sl.HS4_8 c i arg3 harg3 arg5 harg5 arg6 harg6 arg7 harg7 arg8 harg8 arg10 x0 x2 x3 x4 x5) ((And.intro ?_ (And.intro ?_ (And.intro ?_ (And.intro ?_ (And.intro ?_ (And.intro ?_ (And.intro ?_ (And.intro ?_ trivial))))))))) ?_ r x
  · intro z
    obtain ⟨a, d, rfl⟩ : ∃ (a : Fin 128) (d : Fin 128), z = ix2 a d := ⟨z 0, z 1, (ix2_eta z).symm⟩
    dsimp only
    rw [v833_at (hb := hb) (hp := hp)]
    refine congrArg (fun n : Fin 1024 => (((x4 (ix3 (0 : Fin 1) b (p n))).toInt : ℝ) : EReal)) (Fin.ext ?_)
    show 896 + a.val = 896 + 1 * a.val
    omega
  · intro z
    obtain ⟨a, d, rfl⟩ : ∃ (a : Fin 128) (d : Fin 128), z = ix2 a d := ⟨z 0, z 1, (ix2_eta z).symm⟩
    dsimp only
    rw [v819_at (hb := hb) (hp := hp)]
    refine congrArg (fun n : Fin 1024 => (((x4 (ix3 (0 : Fin 1) b (p n))).toInt : ℝ) : EReal)) (Fin.ext ?_)
    show 768 + a.val = 768 + 1 * a.val
    omega
  · intro z
    obtain ⟨a, d, rfl⟩ : ∃ (a : Fin 128) (d : Fin 128), z = ix2 a d := ⟨z 0, z 1, (ix2_eta z).symm⟩
    dsimp only
    rw [v805_at (hb := hb) (hp := hp)]
    refine congrArg (fun n : Fin 1024 => (((x4 (ix3 (0 : Fin 1) b (p n))).toInt : ℝ) : EReal)) (Fin.ext ?_)
    show 640 + a.val = 640 + 1 * a.val
    omega
  · intro z
    obtain ⟨a, d, rfl⟩ : ∃ (a : Fin 128) (d : Fin 128), z = ix2 a d := ⟨z 0, z 1, (ix2_eta z).symm⟩
    dsimp only
    rw [v791_at (hb := hb) (hp := hp)]
    refine congrArg (fun n : Fin 1024 => (((x4 (ix3 (0 : Fin 1) b (p n))).toInt : ℝ) : EReal)) (Fin.ext ?_)
    show 512 + a.val = 512 + 1 * a.val
    omega
  · intro z
    obtain ⟨a, d, rfl⟩ : ∃ (a : Fin 128) (d : Fin 128), z = ix2 a d := ⟨z 0, z 1, (ix2_eta z).symm⟩
    dsimp only
    rw [v777_at (hb := hb) (hp := hp)]
    refine congrArg (fun n : Fin 1024 => (((x4 (ix3 (0 : Fin 1) b (p n))).toInt : ℝ) : EReal)) (Fin.ext ?_)
    show 384 + a.val = 384 + 1 * a.val
    omega
  · intro z
    obtain ⟨a, d, rfl⟩ : ∃ (a : Fin 128) (d : Fin 128), z = ix2 a d := ⟨z 0, z 1, (ix2_eta z).symm⟩
    dsimp only
    rw [v763_at (hb := hb) (hp := hp)]
    refine congrArg (fun n : Fin 1024 => (((x4 (ix3 (0 : Fin 1) b (p n))).toInt : ℝ) : EReal)) (Fin.ext ?_)
    show 256 + a.val = 256 + 1 * a.val
    omega
  · intro z
    obtain ⟨a, d, rfl⟩ : ∃ (a : Fin 128) (d : Fin 128), z = ix2 a d := ⟨z 0, z 1, (ix2_eta z).symm⟩
    dsimp only
    rw [v749_at (hb := hb) (hp := hp)]
    refine congrArg (fun n : Fin 1024 => (((x4 (ix3 (0 : Fin 1) b (p n))).toInt : ℝ) : EReal)) (Fin.ext ?_)
    show 128 + a.val = 128 + 1 * a.val
    omega
  · intro z
    obtain ⟨a, d, rfl⟩ : ∃ (a : Fin 128) (d : Fin 128), z = ix2 a d := ⟨z 0, z 1, (ix2_eta z).symm⟩
    dsimp only
    rw [v735_at (hb := hb) (hp := hp)]
    refine congrArg (fun n : Fin 1024 => (((x4 (ix3 (0 : Fin 1) b (p n))).toInt : ℝ) : EReal)) (Fin.ext ?_)
    show 0 + a.val = 0 + 1 * a.val
    omega
  · intro y
    have hy0 : (y 0).val < 1024 := (y 0).isLt
    have hy1 : (y 1).val < 128 := (y 1).isLt
    have cov : ∀ (o0 o1 : ℕ) (inb : ∀ a, (![o0, o1] : Fin 2 → ℕ) a + S128x128.size a ≤ S1024x128.size a), o0 ≤ (y 0).val → (y 0).val < o0 + 128 → o1 ≤ (y 1).val → (y 1).val < o1 + 128 →
        y ∈ (Rect.unit (s := S1024x128) ![o0, o1] S128x128.size inb).set := by
      intro o0 o1 inb h1 h2 h3 h4
      refine (LoadRect.mem_set _).mpr fun a => ?_
      fin_cases a
      · exact ⟨(y 0).val - o0, by show (y 0).val - o0 < 128; omega, by show (y 0).val = o0 + 1 * ((y 0).val - o0); omega⟩
      · exact ⟨(y 1).val - o1, by show (y 1).val - o1 < 128; omega, by show (y 1).val = o1 + 1 * ((y 1).val - o1); omega⟩
    have hq : (y 0).val / 128 < 8 := by omega
    interval_cases hk : (y 0).val / 128
    · exact ⟨_, .tail _ (.tail _ (.tail _ (.tail _ (.tail _ (.tail _ (.tail _ (.head _))))))), cov 0 0 (by decide) (by omega) (by omega) (by omega) (by omega)⟩
    · exact ⟨_, .tail _ (.tail _ (.tail _ (.tail _ (.tail _ (.tail _ (.head _)))))), cov 128 0 (by decide) (by omega) (by omega) (by omega) (by omega)⟩
    · exact ⟨_, .tail _ (.tail _ (.tail _ (.tail _ (.tail _ (.head _))))), cov 256 0 (by decide) (by omega) (by omega) (by omega) (by omega)⟩
    · exact ⟨_, .tail _ (.tail _ (.tail _ (.tail _ (.head _)))), cov 384 0 (by decide) (by omega) (by omega) (by omega) (by omega)⟩
    · exact ⟨_, .tail _ (.tail _ (.tail _ (.head _))), cov 512 0 (by decide) (by omega) (by omega) (by omega) (by omega)⟩
    · exact ⟨_, .tail _ (.tail _ (.head _)), cov 640 0 (by decide) (by omega) (by omega) (by omega) (by omega)⟩
    · exact ⟨_, .tail _ (.head _), cov 768 0 (by decide) (by omega) (by omega) (by omega) (by omega)⟩
    · exact ⟨_, .head _, cov 896 0 (by decide) (by omega) (by omega) (by omega) (by omega)⟩

end Cert.KernelIdeal.Hand

end
-- ==== Proof.Points.lean ====
/-
  One grid point of the kernel, run in both of its cases: the head's rows go into the group's scratch, and the last
  head of a group writes the group out.
-/
module

public import proofs.«01_k».proof.Proof.Gen.KernelIdeal.Frame
public import proofs.«01_k».proof.Proof.Gen.KernelIdeal.Skeleton
public import Idealize.ShloMosaic.Lib.Tactic
public import Idealize.ShloMosaic.Lib.WritesUnit
public import Idealize.ShloMosaic.Lib.WordCmp
public import Idealize.ShloMosaic.Lib.VecWindow
public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 3 (mod 4) — by arithmetic of the point. -/
theorem hcond0_0 : ∀ t : Fin cfg0.N, cond0_0 (grid0.coords t) ↔ t.val % 4 = 3 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 4 % 7 := Pipeline.Grid.coords_val t 1 (by decide) rfl
    have e2 : (grid0.coords t 2).val = t.val / 1 % 4 := Pipeline.Grid.coords_val t 2 (by decide) rfl
    simp only [cond0_0, k0_cond1, e0, e1, e2]
    word_cmp
   : ∀ t : Fin grid0.N, cond0_0 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1x160x1024 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x160x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x640 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S5x8x128 .f32 := Memref.whole cc0_scratch0
abbrev scM0_1 : Memref sig .tc .vmem S1024x160 .fp8e4m3 := Memref.whole cc0_scratch1
abbrev scM0_2 : Memref sig .tc .vmem S160x1024 .bf16 := Memref.whole cc0_scratch2
abbrev scM0_3 : Memref sig .tc .vmem S1024x128 .f32 := Memref.whole cc0_scratch3
abbrev scM0_4 : Memref sig .tc .vmem S1024x128 .f32 := Memref.whole cc0_scratch4
abbrev scM0_5 : Memref sig .tc .vmem S160x1024 .bf16 := Memref.whole cc0_scratch5
abbrev scM0_6 : Memref sig .tc .vmem S640x1024 .bf16 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The head's rows, as the body stores them: the sorted output un-sorted by the one-hot matrix. -/
def headRows (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
    (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32) : FVec F S160x1024 .bf16 :=
  k0_pay1 (headRun c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).1 (headRun c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5).2.1

/-- The group's scratch once the head's rows are in: those rows new, the others as they were. -/
def newRows (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
    (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32) (d16 : Vec F S640x1024 .bf16) : Vec F S640x1024 .bf16 :=
  arg16.view.read (Elt F) (arg16.view.writes (Elt F) (harg16.unread d16)
    [⟨Rect.unit (s := S640x1024) (k0_off2 i) S160x1024.size (k0_off2_inb i), headRows c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5⟩])

set_option maxHeartbeats 2000000 in set_option sl_exec.squeezeSlice true in
/-- A head that is not the last of its group: its rows go into the scratch, the result block is not touched. -/
theorem runA (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole) (hc0 : ¬cond0_0 i)
    (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32) (d9 : Vec F S1x1024x640 .bf16) (d16 : Vec F S640x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (newRows c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d16)) -∗ K ⟨⟩))
          ⊢ wp frame (wpE (defs₀ (F := F)) Variants.none c none) E (cc0_lsh_attention i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_lsh_attention_eq_skeleton]; unfold cc0_lsh_attention_skel
    rw [wp_bind]
    unfold newRows headRows
    generalize (headRun c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) = W
    obtain ⟨w1, w2, hw⟩ := W
    dsimp only
    iintro ⟨H0, H1, H2, H3, H4, H5, H6, HS0, HS1, HS2, HS3, HS4, HS5, HS6, Hk⟩
    iapply (hw E _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, HS0, HS1, HS2, HS3, HS4, HS5⟩
    dsimp only
    unfold owns
    icases H6 with ⟨%f6, %hf6, H6⟩
    icases HS6 with ⟨%fs6, %hfs6, HS6⟩
    obtain rfl := harg9.eq_unread hf6; obtain rfl := harg16.eq_unread hfs6
    sl_exec (disch := first | sl_exact hc0)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact harg9.read_unread _
    isplitl [HS0]; · iexact HS0
    isplitl [HS1]; · iexact HS1
    isplitl [HS2]; · iexact HS2
    isplitl [HS3]; · iexact HS3
    isplitl [HS4]; · iexact HS4
    isplitl [HS5]; · iexact HS5
    iexists _; isplitr; swap; · iexact HS6
    ipureintro; rfl

set_option maxHeartbeats 2000000 in set_option sl_exec.squeezeSlice true in
/-- The last head of a group: its rows go into the scratch, and the scratch is written out, transposed. -/
theorem runB (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole) (hc0 : cond0_0 i)
    (x0 : Vec F S1x1x160x1024 .fp8e4m3) (x1 : Vec F S1x1x160x1024 .fp8e4m3) (x2 : Vec F S1x2x1024 .f32) (x3 : Vec F S1x2x1024 .f32) (x4 : Vec F S1x2x1024 .i32) (x5 : Vec F S1x2x1024 .i32) (d9 : Vec F S1x1024x640 .bf16) (d16 : Vec F S640x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay2 (newRows c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d16)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (newRows c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 d16)) -∗ K ⟨⟩))
          ⊢ wp frame (wpE (defs₀ (F := F)) Variants.none c none) E (cc0_lsh_attention i arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_lsh_attention_eq_skeleton]; unfold cc0_lsh_attention_skel
    rw [wp_bind]
    unfold newRows headRows
    generalize (headRun c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5) = W
    obtain ⟨w1, w2, hw⟩ := W
    dsimp only
    iintro ⟨H0, H1, H2, H3, H4, H5, H6, HS0, HS1, HS2, HS3, HS4, HS5, HS6, Hk⟩
    iapply (hw E _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, HS0, HS1, HS2, HS3, HS4, HS5⟩
    dsimp only
    unfold owns
    icases H6 with ⟨%f6, %hf6, H6⟩
    icases HS6 with ⟨%fs6, %hfs6, HS6⟩
    obtain rfl := harg9.eq_unread hf6; obtain rfl := harg16.eq_unread hfs6
    sl_exec (disch := first | sl_exact hc0)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; refine (View.read_writes_full (s := S1x1024x640) _ _ _ _ _).trans ?_
      refine congrArg k0_pay2 ?_
      unfold runB.sl.v1522
      exact View.readAt_full (s := S640x1024) _ _ _
    isplitl [HS0]; · iexact HS0
    isplitl [HS1]; · iexact HS1
    isplitl [HS2]; · iexact HS2
    isplitl [HS3]; · iexact HS3
    isplitl [HS4]; · iexact HS4
    isplitl [HS5]; · iexact HS5
    iexists _; isplitr; swap; · iexact HS6
    ipureintro; rfl

end Cert.KernelIdeal.Hand

end
-- ==== Proof.Head.lean ====
/-
  One head: the sorted output, and the rows as they are stored.
-/
module

public import proofs.«01_k».proof.Proof.Tiles
public import proofs.«01_k».proof.Proof.Points

@[expose] public section

set_option maxRecDepth 16384

noncomputable section

namespace Cert.KernelIdeal.Hand

open Cert.KernelIdeal Cert.KernelIdeal.Gen
open Idealize.ShloMosaic Idealize.ShloMosaic.TcCoe

open Idealize.ShloMosaic.View (readCov_eq_canon' canon_append_of_piecesOf)

variable (c : Dev nD) (i : grid0.Coords) (arg3 : Memref sig .tc .vmem S1x1x160x1024 .fp8e4m3) (harg3 : arg3.IsWhole) (arg4 : Memref sig .tc .vmem S1x1x160x1024 .fp8e4m3) (harg4 : arg4.IsWhole) (arg5 : Memref sig .tc .vmem S1x2x1024 .f32) (harg5 : arg5.IsWhole) (arg6 : Memref sig .tc .vmem S1x2x1024 .f32) (harg6 : arg6.IsWhole) (arg7 : Memref sig .tc .vmem S1x2x1024 .i32) (harg7 : arg7.IsWhole) (arg8 : Memref sig .tc .vmem S1x2x1024 .i32) (harg8 : arg8.IsWhole) (arg9 : Memref sig .tc .vmem S1x1024x640 .bf16) (harg9 : arg9.IsWhole) (arg10 : Memref sig .tc .vmem S5x8x128 .f32) (harg10 : arg10.IsWhole) (arg11 : Memref sig .tc .vmem S1024x160 .fp8e4m3) (harg11 : arg11.IsWhole) (arg12 : Memref sig .tc .vmem S160x1024 .bf16) (harg12 : arg12.IsWhole) (arg13 : Memref sig .tc .vmem S1024x128 .f32) (harg13 : arg13.IsWhole) (arg14 : Memref sig .tc .vmem S1024x128 .f32) (harg14 : arg14.IsWhole) (arg15 : Memref sig .tc .vmem S160x1024 .bf16) (harg15 : arg15.IsWhole) (arg16 : Memref sig .tc .vmem S640x1024 .bf16) (harg16 : arg16.IsWhole)
  (x0 : Vec Ideal S1x1x160x1024 .fp8e4m3) (x1 : Vec Ideal S1x1x160x1024 .fp8e4m3) (x2 : Vec Ideal S1x2x1024 .f32) (x3 : Vec Ideal S1x2x1024 .f32) (x4 : Vec Ideal S1x2x1024 .i32) (x5 : Vec Ideal S1x2x1024 .i32)
variable (b : Fin 2) (hb : (i 0).val = b.val) (p : Fin 1024 → Fin 1024) (hp : ∀ r : Fin 1024, x5 (ix3 (0 : Fin 1) b r) = BitVec.ofNat 32 (p r).val)

/-- A head's sorted keys, key factors, buckets, query factors and scaled values. -/
def hK (x0 : Vec Ideal S1x1x160x1024 .fp8e4m3) (p : Fin 1024 → Fin 1024) (r : Fin 1024) (d : Fin 160) : EReal := x0 (ix4 (0 : Fin 1) (0 : Fin 1) d (p r))
def hKf (x0 : Vec Ideal S1x1x160x1024 .fp8e4m3) (x2 : Vec Ideal S1x2x1024 .f32) (b : Fin 2) (p : Fin 1024 → Fin 1024) (r : Fin 1024) : EReal :=
  keyFactor (fun d s => x0 (ix4 (0 : Fin 1) (0 : Fin 1) d s)) (fun s => x2 (ix3 (0 : Fin 1) b s)) (p r)
def hBk (x4 : Vec Ideal S1x2x1024 .i32) (b : Fin 2) (p : Fin 1024 → Fin 1024) (r : Fin 1024) : EReal := (((x4 (ix3 (0 : Fin 1) b (p r))).toInt : ℝ) : EReal)
def hQf (x2 : Vec Ideal S1x2x1024 .f32) (b : Fin 2) (p : Fin 1024 → Fin 1024) (r : Fin 1024) : EReal := x2 (ix3 (0 : Fin 1) b (p r))
def hVt (x1 : Vec Ideal S1x1x160x1024 .fp8e4m3) (x3 : Vec Ideal S1x2x1024 .f32) (b : Fin 2) (p : Fin 1024 → Fin 1024) (d : Fin 160) (r : Fin 1024) : EReal :=
  x1 (ix4 (0 : Fin 1) (0 : Fin 1) d (p r)) * x3 (ix3 (0 : Fin 1) b (p r))

include hb hp in
theorem rd_v966_0 (a : Fin 256) (d : Fin 160) : (headRun.sl.v966 c i arg3 harg3 arg8 harg8 arg11 x0 x5) (ix2 a d) = hK x0 p (ring (0 + a.val)) d := by
  unfold headRun.sl.v966
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 0 + 1 * a.val = (0 + a.val) % 1024
    omega

include hb hp in
theorem rd_v968_0_960 (a : Fin 64) (d : Fin 160) : (headRun.sl.v968 c i arg3 harg3 arg8 harg8 arg11 x0 x5) (ix2 a d) = hK x0 p (ring (0 + 960 + a.val)) d := by
  unfold headRun.sl.v968
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 960 + 1 * a.val = (0 + 960 + a.val) % 1024
    omega

include hb hp in
theorem rd_v969_0_256 (a : Fin 64) (d : Fin 160) : (headRun.sl.v969 c i arg3 harg3 arg8 harg8 arg11 x0 x5) (ix2 a d) = hK x0 p (ring (0 + 256 + a.val)) d := by
  unfold headRun.sl.v969
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 256 + 1 * a.val = (0 + 256 + a.val) % 1024
    omega

include hb hp in
theorem rd_v984_0 (a : Fin 128) (y : Fin 128) : (headRun.sl.v984 c i arg3 harg3 arg5 harg5 arg6 harg6 arg8 harg8 arg10 arg13 x0 x2 x3 x5) (ix2 a y) = hKf x0 x2 b p (ring (0 + a.val)) := by
  unfold headRun.sl.v984
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 0 + 1 * a.val = (0 + a.val) % 1024
  omega

include hb hp in
theorem rd_v991_0 (a : Fin 128) (y : Fin 128) : (headRun.sl.v991 c i arg3 harg3 arg5 harg5 arg6 harg6 arg7 harg7 arg8 harg8 arg10 arg14 x0 x2 x3 x4 x5) (ix2 a y) = hBk x4 b p (ring (0 + a.val)) := by
  unfold headRun.sl.v991
  rw [readBK (hb := hb) (hp := hp)]
  refine congrArg (fun n : Fin 1024 => (((x4 (ix3 (0 : Fin 1) b (p n))).toInt : ℝ) : EReal)) (Fin.ext ?_)
  show 0 + 1 * a.val = (0 + a.val) % 1024
  omega

include hb hp in
theorem rd_v978_0_960 (a : Fin 64) (y : Fin 128) : (headRun.sl.v978 c i arg3 harg3 arg5 harg5 arg6 harg6 arg8 harg8 arg10 arg13 x0 x2 x3 x5) (ix2 a y) = hKf x0 x2 b p (ring (0 + 960 + a.val)) := by
  unfold headRun.sl.v978
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 960 + 1 * a.val = (0 + 960 + a.val) % 1024
  omega

include hb hp in
theorem rd_v979_0_128 (a : Fin 64) (y : Fin 128) : (headRun.sl.v979 c i arg3 harg3 arg5 harg5 arg6 harg6 arg8 harg8 arg10 arg13 x0 x2 x3 x5) (ix2 a y) = hKf x0 x2 b p (ring (0 + 128 + a.val)) := by
  unfold headRun.sl.v979
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 128 + 1 * a.val = (0 + 128 + a.val) % 1024
  omega

include hb hp in
theorem rd_v981_0_960 (a : Fin 64) (y : Fin 128) : (headRun.sl.v981 c i arg3 harg3 arg5 harg5 arg6 harg6 arg7 harg7 arg8 harg8 arg10 arg14 x0 x2 x3 x4 x5) (ix2 a y) = hBk x4 b p (ring (0 + 960 + a.val)) := by
  unfold headRun.sl.v981
  rw [readBK (hb := hb) (hp := hp)]
  refine congrArg (fun n : Fin 1024 => (((x4 (ix3 (0 : Fin 1) b (p n))).toInt : ℝ) : EReal)) (Fin.ext ?_)
  show 960 + 1 * a.val = (0 + 960 + a.val) % 1024
  omega

include hb hp in
theorem rd_v982_0_128 (a : Fin 64) (y : Fin 128) : (headRun.sl.v982 c i arg3 harg3 arg5 harg5 arg6 harg6 arg7 harg7 arg8 harg8 arg10 arg14 x0 x2 x3 x4 x5) (ix2 a y) = hBk x4 b p (ring (0 + 128 + a.val)) := by
  unfold headRun.sl.v982
  rw [readBK (hb := hb) (hp := hp)]
  refine congrArg (fun n : Fin 1024 => (((x4 (ix3 (0 : Fin 1) b (p n))).toInt : ℝ) : EReal)) (Fin.ext ?_)
  show 128 + 1 * a.val = (0 + 128 + a.val) % 1024
  omega

include hb hp in
theorem row_v244_0 (y : Fin 128) : extractStridedSlice S1x128 ![0, 0] (headRun.sl.v244 c i arg5 harg5 arg8 harg8 arg10 x2 x5) slices_S8x128_o0_0_S1x128 (ix2 (0 : Fin 1) y) = hQf x2 b p (ring (0 + y.val)) := by
  pointwise
  rw [qs_at (hb := hb) (hp := hp)]
  refine congrArg (fun n : Fin 1024 => x2 (ix3 (0 : Fin 1) b (p n))) (Fin.ext ?_)
  show 128 * 0 + y.val = y.val % 1024
  omega

include hb hp in
theorem row_v721_0 (y : Fin 128) : extractStridedSlice S1x128 ![0, 0] (headRun.sl.v721 c i arg3 harg3 arg5 harg5 arg6 harg6 arg7 harg7 arg8 harg8 arg10 x0 x2 x3 x4 x5) slices_S8x128_o0_0_S1x128 (ix2 (0 : Fin 1) y) = hBk x4 b p (ring (0 + y.val)) := by
  pointwise
  rw [bks_at (hb := hb) (hp := hp)]
  refine congrArg (fun n : Fin 1024 => (((x4 (ix3 (0 : Fin 1) b (p n))).toInt : ℝ) : EReal)) (Fin.ext ?_)
  show 128 * 0 + y.val = y.val % 1024
  omega

include hb hp in
theorem rd_v1040_0_128 (a : Fin 128) (y : Fin 128) : (headRun.sl.v1040 c i arg3 harg3 arg5 harg5 arg6 harg6 arg8 harg8 arg10 arg13 x0 x2 x3 x5) (ix2 a y) = hKf x0 x2 b p (ring (0 + 128 + a.val)) := by
  unfold headRun.sl.v1040
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 128 + 1 * a.val = (0 + 128 + a.val) % 1024
  omega

include hb hp in
theorem rd_v1047_0_128 (a : Fin 128) (y : Fin 128) : (headRun.sl.v1047 c i arg3 harg3 arg5 harg5 arg6 harg6 arg7 harg7 arg8 harg8 arg10 arg14 x0 x2 x3 x4 x5) (ix2 a y) = hBk x4 b p (ring (0 + 128 + a.val)) := by
  unfold headRun.sl.v1047
  rw [readBK (hb := hb) (hp := hp)]
  refine congrArg (fun n : Fin 1024 => (((x4 (ix3 (0 : Fin 1) b (p n))).toInt : ℝ) : EReal)) (Fin.ext ?_)
  show 128 + 1 * a.val = (0 + 128 + a.val) % 1024
  omega

include hb hp in
theorem rd_v1034_0_64 (a : Fin 64) (y : Fin 128) : (headRun.sl.v1034 c i arg3 harg3 arg5 harg5 arg6 harg6 arg8 harg8 arg10 arg13 x0 x2 x3 x5) (ix2 a y) = hKf x0 x2 b p (ring (0 + 64 + a.val)) := by
  unfold headRun.sl.v1034
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 64 + 1 * a.val = (0 + 64 + a.val) % 1024
  omega

include hb hp in
theorem rd_v1035_0_256 (a : Fin 64) (y : Fin 128) : (headRun.sl.v1035 c i arg3 harg3 arg5 harg5 arg6 harg6 arg8 harg8 arg10 arg13 x0 x2 x3 x5) (ix2 a y) = hKf x0 x2 b p (ring (0 + 256 + a.val)) := by
  unfold headRun.sl.v1035
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 256 + 1 * a.val = (0 + 256 + a.val) % 1024
  omega

include hb hp in
theorem rd_v1037_0_64 (a : Fin 64) (y : Fin 128) : (headRun.sl.v1037 c i arg3 harg3 arg5 harg5 arg6 harg6 arg7 harg7 arg8 harg8 arg10 arg14 x0 x2 x3 x4 x5) (ix2 a y) = hBk x4 b p (ring (0 + 64 + a.val)) := by
  unfold headRun.sl.v1037
  rw [readBK (hb := hb) (hp := hp)]
  refine congrArg (fun n : Fin 1024 => (((x4 (ix3 (0 : Fin 1) b (p n))).toInt : ℝ) : EReal)) (Fin.ext ?_)
  show 64 + 1 * a.val = (0 + 64 + a.val) % 1024
  omega

include hb hp in
theorem rd_v1038_0_256 (a : Fin 64) (y : Fin 128) : (headRun.sl.v1038 c i arg3 harg3 arg5 harg5 arg6 harg6 arg7 harg7 arg8 harg8 arg10 arg14 x0 x2 x3 x4 x5) (ix2 a y) = hBk x4 b p (ring (0 + 256 + a.val)) := by
  unfold headRun.sl.v1038
  rw [readBK (hb := hb) (hp := hp)]
  refine congrArg (fun n : Fin 1024 => (((x4 (ix3 (0 : Fin 1) b (p n))).toInt : ℝ) : EReal)) (Fin.ext ?_)
  show 256 + 1 * a.val = (0 + 256 + a.val) % 1024
  omega

include hb hp in
theorem row_v244_1 (y : Fin 128) : extractStridedSlice S1x128 ![1, 0] (headRun.sl.v244 c i arg5 harg5 arg8 harg8 arg10 x2 x5) slices_S8x128_o1_0_S1x128 (ix2 (0 : Fin 1) y) = hQf x2 b p (ring (0 + 128 + y.val)) := by
  pointwise
  rw [qs_at (hb := hb) (hp := hp)]
  refine congrArg (fun n : Fin 1024 => x2 (ix3 (0 : Fin 1) b (p n))) (Fin.ext ?_)
  show 128 * 1 + y.val = (0 + 128 + y.val) % 1024
  omega

include hb hp in
theorem row_v721_1 (y : Fin 128) : extractStridedSlice S1x128 ![1, 0] (headRun.sl.v721 c i arg3 harg3 arg5 harg5 arg6 harg6 arg7 harg7 arg8 harg8 arg10 x0 x2 x3 x4 x5) slices_S8x128_o1_0_S1x128 (ix2 (0 : Fin 1) y) = hBk x4 b p (ring (0 + 128 + y.val)) := by
  pointwise
  rw [bks_at (hb := hb) (hp := hp)]
  refine congrArg (fun n : Fin 1024 => (((x4 (ix3 (0 : Fin 1) b (p n))).toInt : ℝ) : EReal)) (Fin.ext ?_)
  show 128 * 1 + y.val = (0 + 128 + y.val) % 1024
  omega

include hb hp in
theorem rd_v1089_0 (d : Fin 160) (a : Fin 256) : (headRun.sl.v1089 c i arg4 harg4 arg5 harg5 arg6 harg6 arg8 harg8 arg10 arg12 x1 x2 x3 x5) (ix2 d a) = hVt x1 x3 b p d (ring (0 + a.val)) := by
  unfold headRun.sl.v1089
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 0 + 1 * a.val = (0 + a.val) % 1024
    omega

include hb hp in
theorem rd_v1086_0_960 (d : Fin 160) (a : Fin 64) : (headRun.sl.v1086 c i arg4 harg4 arg5 harg5 arg6 harg6 arg8 harg8 arg10 arg12 x1 x2 x3 x5) (ix2 d a) = hVt x1 x3 b p d (ring (0 + 960 + a.val)) := by
  unfold headRun.sl.v1086
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 960 + 1 * a.val = (0 + 960 + a.val) % 1024
    omega

include hb hp in
theorem rd_v1087_0_256 (d : Fin 160) (a : Fin 64) : (headRun.sl.v1087 c i arg4 harg4 arg5 harg5 arg6 harg6 arg8 harg8 arg10 arg12 x1 x2 x3 x5) (ix2 d a) = hVt x1 x3 b p d (ring (0 + 256 + a.val)) := by
  unfold headRun.sl.v1087
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 256 + 1 * a.val = (0 + 256 + a.val) % 1024
    omega

include hb hp in
/-- Block 0. -/
theorem ot0_at (d : Fin 160) (y : Fin 256) : (headRun.sl.v1101 c i arg3 harg3 arg4 harg4 arg5 harg5 arg6 harg6 arg7 harg7 arg8 harg8 arg10 arg11 arg12 arg13 arg14 x0 x1 x2 x3 x4 x5) (ix2 d y) = wOut (hK x0 p) (hKf x0 x2 b p) (hBk x4 b p) (hQf x2 b p) (hVt x1 x3 b p) d (ring (0 + y.val)) := by
  rw [blk0_eq]
  exact mBlk_apply (hK x0 p) (hKf x0 x2 b p) (hBk x4 b p) (hQf x2 b p) (hVt x1 x3 b p) 0 (by decide) (by decide) _ _ _ _ _ _ _ _ _ _ _ _ _ _ _ _ _ _ _ _ _ _
    (fun a d => rd_v966_0 (hb := hb) (hp := hp) ..)
    (fun a d => rd_v968_0_960 (hb := hb) (hp := hp) ..)
    (fun a d => rd_v969_0_256 (hb := hb) (hp := hp) ..)
    (fun a y => rd_v984_0 (hb := hb) (hp := hp) ..)
    (fun a y => rd_v991_0 (hb := hb) (hp := hp) ..)
    (fun a y => rd_v978_0_960 (hb := hb) (hp := hp) ..)
    (fun a y => rd_v979_0_128 (hb := hb) (hp := hp) ..)
    (fun a y => rd_v981_0_960 (hb := hb) (hp := hp) ..)
    (fun a y => rd_v982_0_128 (hb := hb) (hp := hp) ..)
    (fun y => row_v244_0 (hb := hb) (hp := hp) ..)
    (fun y => row_v721_0 (hb := hb) (hp := hp) ..)
    (fun a y => rd_v1040_0_128 (hb := hb) (hp := hp) ..)
    (fun a y => rd_v1047_0_128 (hb := hb) (hp := hp) ..)
    (fun a y => rd_v1034_0_64 (hb := hb) (hp := hp) ..)
    (fun a y => rd_v1035_0_256 (hb := hb) (hp := hp) ..)
    (fun a y => rd_v1037_0_64 (hb := hb) (hp := hp) ..)
    (fun a y => rd_v1038_0_256 (hb := hb) (hp := hp) ..)
    (fun y => row_v244_1 (hb := hb) (hp := hp) ..)
    (fun y => row_v721_1 (hb := hb) (hp := hp) ..)
    (fun d a => rd_v1089_0 (hb := hb) (hp := hp) ..)
    (fun d a => rd_v1086_0_960 (hb := hb) (hp := hp) ..)
    (fun d a => rd_v1087_0_256 (hb := hb) (hp := hp) ..)
    d y

include hb hp in
theorem rd_v1102_256 (a : Fin 256) (d : Fin 160) : (headRun.sl.v1102 c i arg3 harg3 arg8 harg8 arg11 x0 x5) (ix2 a d) = hK x0 p (ring (256 + a.val)) d := by
  unfold headRun.sl.v1102
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 256 + 1 * a.val = (256 + a.val) % 1024
    omega

include hb hp in
theorem rd_v1104_256_960 (a : Fin 64) (d : Fin 160) : (headRun.sl.v1104 c i arg3 harg3 arg8 harg8 arg11 x0 x5) (ix2 a d) = hK x0 p (ring (256 + 960 + a.val)) d := by
  unfold headRun.sl.v1104
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 192 + 1 * a.val = (256 + 960 + a.val) % 1024
    omega

include hb hp in
theorem rd_v1105_256_256 (a : Fin 64) (d : Fin 160) : (headRun.sl.v1105 c i arg3 harg3 arg8 harg8 arg11 x0 x5) (ix2 a d) = hK x0 p (ring (256 + 256 + a.val)) d := by
  unfold headRun.sl.v1105
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 512 + 1 * a.val = (256 + 256 + a.val) % 1024
    omega

include hb hp in
theorem rd_v1120_256 (a : Fin 128) (y : Fin 128) : (headRun.sl.v1120 c i arg3 harg3 arg5 harg5 arg6 harg6 arg8 harg8 arg10 arg13 x0 x2 x3 x5) (ix2 a y) = hKf x0 x2 b p (ring (256 + a.val)) := by
  unfold headRun.sl.v1120
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 256 + 1 * a.val = (256 + a.val) % 1024
  omega

include hb hp in
theorem rd_v1127_256 (a : Fin 128) (y : Fin 128) : (headRun.sl.v1127 c i arg3 harg3 arg5 harg5 arg6 harg6 arg7 harg7 arg8 harg8 arg10 arg14 x0 x2 x3 x4 x5) (ix2 a y) = hBk x4 b p (ring (256 + a.val)) := by
  unfold headRun.sl.v1127
  rw [readBK (hb := hb) (hp := hp)]
  refine congrArg (fun n : Fin 1024 => (((x4 (ix3 (0 : Fin 1) b (p n))).toInt : ℝ) : EReal)) (Fin.ext ?_)
  show 256 + 1 * a.val = (256 + a.val) % 1024
  omega

include hb hp in
theorem rd_v1114_256_960 (a : Fin 64) (y : Fin 128) : (headRun.sl.v1114 c i arg3 harg3 arg5 harg5 arg6 harg6 arg8 harg8 arg10 arg13 x0 x2 x3 x5) (ix2 a y) = hKf x0 x2 b p (ring (256 + 960 + a.val)) := by
  unfold headRun.sl.v1114
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 192 + 1 * a.val = (256 + 960 + a.val) % 1024
  omega

include hb hp in
theorem rd_v1115_256_128 (a : Fin 64) (y : Fin 128) : (headRun.sl.v1115 c i arg3 harg3 arg5 harg5 arg6 harg6 arg8 harg8 arg10 arg13 x0 x2 x3 x5) (ix2 a y) = hKf x0 x2 b p (ring (256 + 128 + a.val)) := by
  unfold headRun.sl.v1115
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 384 + 1 * a.val = (256 + 128 + a.val) % 1024
  omega

include hb hp in
theorem rd_v1117_256_960 (a : Fin 64) (y : Fin 128) : (headRun.sl.v1117 c i arg3 harg3 arg5 harg5 arg6 harg6 arg7 harg7 arg8 harg8 arg10 arg14 x0 x2 x3 x4 x5) (ix2 a y) = hBk x4 b p (ring (256 + 960 + a.val)) := by
  unfold headRun.sl.v1117
  rw [readBK (hb := hb) (hp := hp)]
  refine congrArg (fun n : Fin 1024 => (((x4 (ix3 (0 : Fin 1) b (p n))).toInt : ℝ) : EReal)) (Fin.ext ?_)
  show 192 + 1 * a.val = (256 + 960 + a.val) % 1024
  omega

include hb hp in
theorem rd_v1118_256_128 (a : Fin 64) (y : Fin 128) : (headRun.sl.v1118 c i arg3 harg3 arg5 harg5 arg6 harg6 arg7 harg7 arg8 harg8 arg10 arg14 x0 x2 x3 x4 x5) (ix2 a y) = hBk x4 b p (ring (256 + 128 + a.val)) := by
  unfold headRun.sl.v1118
  rw [readBK (hb := hb) (hp := hp)]
  refine congrArg (fun n : Fin 1024 => (((x4 (ix3 (0 : Fin 1) b (p n))).toInt : ℝ) : EReal)) (Fin.ext ?_)
  show 384 + 1 * a.val = (256 + 128 + a.val) % 1024
  omega

include hb hp in
theorem row_v244_2 (y : Fin 128) : extractStridedSlice S1x128 ![2, 0] (headRun.sl.v244 c i arg5 harg5 arg8 harg8 arg10 x2 x5) slices_S8x128_o2_0_S1x128 (ix2 (0 : Fin 1) y) = hQf x2 b p (ring (256 + y.val)) := by
  pointwise
  rw [qs_at (hb := hb) (hp := hp)]
  refine congrArg (fun n : Fin 1024 => x2 (ix3 (0 : Fin 1) b (p n))) (Fin.ext ?_)
  show 128 * 2 + y.val = (256 + y.val) % 1024
  omega

include hb hp in
theorem row_v721_2 (y : Fin 128) : extractStridedSlice S1x128 ![2, 0] (headRun.sl.v721 c i arg3 harg3 arg5 harg5 arg6 harg6 arg7 harg7 arg8 harg8 arg10 x0 x2 x3 x4 x5) slices_S8x128_o2_0_S1x128 (ix2 (0 : Fin 1) y) = hBk x4 b p (ring (256 + y.val)) := by
  pointwise
  rw [bks_at (hb := hb) (hp := hp)]
  refine congrArg (fun n : Fin 1024 => (((x4 (ix3 (0 : Fin 1) b (p n))).toInt : ℝ) : EReal)) (Fin.ext ?_)
  show 128 * 2 + y.val = (256 + y.val) % 1024
  omega

include hb hp in
theorem rd_v1176_256_128 (a : Fin 128) (y : Fin 128) : (headRun.sl.v1176 c i arg3 harg3 arg5 harg5 arg6 harg6 arg8 harg8 arg10 arg13 x0 x2 x3 x5) (ix2 a y) = hKf x0 x2 b p (ring (256 + 128 + a.val)) := by
  unfold headRun.sl.v1176
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 384 + 1 * a.val = (256 + 128 + a.val) % 1024
  omega

include hb hp in
theorem rd_v1183_256_128 (a : Fin 128) (y : Fin 128) : (headRun.sl.v1183 c i arg3 harg3 arg5 harg5 arg6 harg6 arg7 harg7 arg8 harg8 arg10 arg14 x0 x2 x3 x4 x5) (ix2 a y) = hBk x4 b p (ring (256 + 128 + a.val)) := by
  unfold headRun.sl.v1183
  rw [readBK (hb := hb) (hp := hp)]
  refine congrArg (fun n : Fin 1024 => (((x4 (ix3 (0 : Fin 1) b (p n))).toInt : ℝ) : EReal)) (Fin.ext ?_)
  show 384 + 1 * a.val = (256 + 128 + a.val) % 1024
  omega

include hb hp in
theorem rd_v1170_256_64 (a : Fin 64) (y : Fin 128) : (headRun.sl.v1170 c i arg3 harg3 arg5 harg5 arg6 harg6 arg8 harg8 arg10 arg13 x0 x2 x3 x5) (ix2 a y) = hKf x0 x2 b p (ring (256 + 64 + a.val)) := by
  unfold headRun.sl.v1170
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 320 + 1 * a.val = (256 + 64 + a.val) % 1024
  omega

include hb hp in
theorem rd_v1171_256_256 (a : Fin 64) (y : Fin 128) : (headRun.sl.v1171 c i arg3 harg3 arg5 harg5 arg6 harg6 arg8 harg8 arg10 arg13 x0 x2 x3 x5) (ix2 a y) = hKf x0 x2 b p (ring (256 + 256 + a.val)) := by
  unfold headRun.sl.v1171
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 512 + 1 * a.val = (256 + 256 + a.val) % 1024
  omega

include hb hp in
theorem rd_v1173_256_64 (a : Fin 64) (y : Fin 128) : (headRun.sl.v1173 c i arg3 harg3 arg5 harg5 arg6 harg6 arg7 harg7 arg8 harg8 arg10 arg14 x0 x2 x3 x4 x5) (ix2 a y) = hBk x4 b p (ring (256 + 64 + a.val)) := by
  unfold headRun.sl.v1173
  rw [readBK (hb := hb) (hp := hp)]
  refine congrArg (fun n : Fin 1024 => (((x4 (ix3 (0 : Fin 1) b (p n))).toInt : ℝ) : EReal)) (Fin.ext ?_)
  show 320 + 1 * a.val = (256 + 64 + a.val) % 1024
  omega

include hb hp in
theorem rd_v1174_256_256 (a : Fin 64) (y : Fin 128) : (headRun.sl.v1174 c i arg3 harg3 arg5 harg5 arg6 harg6 arg7 harg7 arg8 harg8 arg10 arg14 x0 x2 x3 x4 x5) (ix2 a y) = hBk x4 b p (ring (256 + 256 + a.val)) := by
  unfold headRun.sl.v1174
  rw [readBK (hb := hb) (hp := hp)]
  refine congrArg (fun n : Fin 1024 => (((x4 (ix3 (0 : Fin 1) b (p n))).toInt : ℝ) : EReal)) (Fin.ext ?_)
  show 512 + 1 * a.val = (256 + 256 + a.val) % 1024
  omega

include hb hp in
theorem row_v244_3 (y : Fin 128) : extractStridedSlice S1x128 ![3, 0] (headRun.sl.v244 c i arg5 harg5 arg8 harg8 arg10 x2 x5) slices_S8x128_o3_0_S1x128 (ix2 (0 : Fin 1) y) = hQf x2 b p (ring (256 + 128 + y.val)) := by
  pointwise
  rw [qs_at (hb := hb) (hp := hp)]
  refine congrArg (fun n : Fin 1024 => x2 (ix3 (0 : Fin 1) b (p n))) (Fin.ext ?_)
  show 128 * 3 + y.val = (256 + 128 + y.val) % 1024
  omega

include hb hp in
theorem row_v721_3 (y : Fin 128) : extractStridedSlice S1x128 ![3, 0] (headRun.sl.v721 c i arg3 harg3 arg5 harg5 arg6 harg6 arg7 harg7 arg8 harg8 arg10 x0 x2 x3 x4 x5) slices_S8x128_o3_0_S1x128 (ix2 (0 : Fin 1) y) = hBk x4 b p (ring (256 + 128 + y.val)) := by
  pointwise
  rw [bks_at (hb := hb) (hp := hp)]
  refine congrArg (fun n : Fin 1024 => (((x4 (ix3 (0 : Fin 1) b (p n))).toInt : ℝ) : EReal)) (Fin.ext ?_)
  show 128 * 3 + y.val = (256 + 128 + y.val) % 1024
  omega

include hb hp in
theorem rd_v1225_256 (d : Fin 160) (a : Fin 256) : (headRun.sl.v1225 c i arg4 harg4 arg5 harg5 arg6 harg6 arg8 harg8 arg10 arg12 x1 x2 x3 x5) (ix2 d a) = hVt x1 x3 b p d (ring (256 + a.val)) := by
  unfold headRun.sl.v1225
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 256 + 1 * a.val = (256 + a.val) % 1024
    omega

include hb hp in
theorem rd_v1222_256_960 (d : Fin 160) (a : Fin 64) : (headRun.sl.v1222 c i arg4 harg4 arg5 harg5 arg6 harg6 arg8 harg8 arg10 arg12 x1 x2 x3 x5) (ix2 d a) = hVt x1 x3 b p d (ring (256 + 960 + a.val)) := by
  unfold headRun.sl.v1222
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 192 + 1 * a.val = (256 + 960 + a.val) % 1024
    omega

include hb hp in
theorem rd_v1223_256_256 (d : Fin 160) (a : Fin 64) : (headRun.sl.v1223 c i arg4 harg4 arg5 harg5 arg6 harg6 arg8 harg8 arg10 arg12 x1 x2 x3 x5) (ix2 d a) = hVt x1 x3 b p d (ring (256 + 256 + a.val)) := by
  unfold headRun.sl.v1223
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 512 + 1 * a.val = (256 + 256 + a.val) % 1024
    omega

include hb hp in
/-- Block 1. -/
theorem ot1_at (d : Fin 160) (y : Fin 256) : (headRun.sl.v1237 c i arg3 harg3 arg4 harg4 arg5 harg5 arg6 harg6 arg7 harg7 arg8 harg8 arg10 arg11 arg12 arg13 arg14 x0 x1 x2 x3 x4 x5) (ix2 d y) = wOut (hK x0 p) (hKf x0 x2 b p) (hBk x4 b p) (hQf x2 b p) (hVt x1 x3 b p) d (ring (256 + y.val)) := by
  rw [blk1_eq]
  exact mBlk_apply (hK x0 p) (hKf x0 x2 b p) (hBk x4 b p) (hQf x2 b p) (hVt x1 x3 b p) 256 (by decide) (by decide) _ _ _ _ _ _ _ _ _ _ _ _ _ _ _ _ _ _ _ _ _ _
    (fun a d => rd_v1102_256 (hb := hb) (hp := hp) ..)
    (fun a d => rd_v1104_256_960 (hb := hb) (hp := hp) ..)
    (fun a d => rd_v1105_256_256 (hb := hb) (hp := hp) ..)
    (fun a y => rd_v1120_256 (hb := hb) (hp := hp) ..)
    (fun a y => rd_v1127_256 (hb := hb) (hp := hp) ..)
    (fun a y => rd_v1114_256_960 (hb := hb) (hp := hp) ..)
    (fun a y => rd_v1115_256_128 (hb := hb) (hp := hp) ..)
    (fun a y => rd_v1117_256_960 (hb := hb) (hp := hp) ..)
    (fun a y => rd_v1118_256_128 (hb := hb) (hp := hp) ..)
    (fun y => row_v244_2 (hb := hb) (hp := hp) ..)
    (fun y => row_v721_2 (hb := hb) (hp := hp) ..)
    (fun a y => rd_v1176_256_128 (hb := hb) (hp := hp) ..)
    (fun a y => rd_v1183_256_128 (hb := hb) (hp := hp) ..)
    (fun a y => rd_v1170_256_64 (hb := hb) (hp := hp) ..)
    (fun a y => rd_v1171_256_256 (hb := hb) (hp := hp) ..)
    (fun a y => rd_v1173_256_64 (hb := hb) (hp := hp) ..)
    (fun a y => rd_v1174_256_256 (hb := hb) (hp := hp) ..)
    (fun y => row_v244_3 (hb := hb) (hp := hp) ..)
    (fun y => row_v721_3 (hb := hb) (hp := hp) ..)
    (fun d a => rd_v1225_256 (hb := hb) (hp := hp) ..)
    (fun d a => rd_v1222_256_960 (hb := hb) (hp := hp) ..)
    (fun d a => rd_v1223_256_256 (hb := hb) (hp := hp) ..)
    d y

include hb hp in
theorem rd_v1238_512 (a : Fin 256) (d : Fin 160) : (headRun.sl.v1238 c i arg3 harg3 arg8 harg8 arg11 x0 x5) (ix2 a d) = hK x0 p (ring (512 + a.val)) d := by
  unfold headRun.sl.v1238
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 512 + 1 * a.val = (512 + a.val) % 1024
    omega

include hb hp in
theorem rd_v1240_512_960 (a : Fin 64) (d : Fin 160) : (headRun.sl.v1240 c i arg3 harg3 arg8 harg8 arg11 x0 x5) (ix2 a d) = hK x0 p (ring (512 + 960 + a.val)) d := by
  unfold headRun.sl.v1240
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 448 + 1 * a.val = (512 + 960 + a.val) % 1024
    omega

include hb hp in
theorem rd_v1241_512_256 (a : Fin 64) (d : Fin 160) : (headRun.sl.v1241 c i arg3 harg3 arg8 harg8 arg11 x0 x5) (ix2 a d) = hK x0 p (ring (512 + 256 + a.val)) d := by
  unfold headRun.sl.v1241
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 768 + 1 * a.val = (512 + 256 + a.val) % 1024
    omega

include hb hp in
theorem rd_v1256_512 (a : Fin 128) (y : Fin 128) : (headRun.sl.v1256 c i arg3 harg3 arg5 harg5 arg6 harg6 arg8 harg8 arg10 arg13 x0 x2 x3 x5) (ix2 a y) = hKf x0 x2 b p (ring (512 + a.val)) := by
  unfold headRun.sl.v1256
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 512 + 1 * a.val = (512 + a.val) % 1024
  omega

include hb hp in
theorem rd_v1263_512 (a : Fin 128) (y : Fin 128) : (headRun.sl.v1263 c i arg3 harg3 arg5 harg5 arg6 harg6 arg7 harg7 arg8 harg8 arg10 arg14 x0 x2 x3 x4 x5) (ix2 a y) = hBk x4 b p (ring (512 + a.val)) := by
  unfold headRun.sl.v1263
  rw [readBK (hb := hb) (hp := hp)]
  refine congrArg (fun n : Fin 1024 => (((x4 (ix3 (0 : Fin 1) b (p n))).toInt : ℝ) : EReal)) (Fin.ext ?_)
  show 512 + 1 * a.val = (512 + a.val) % 1024
  omega

include hb hp in
theorem rd_v1250_512_960 (a : Fin 64) (y : Fin 128) : (headRun.sl.v1250 c i arg3 harg3 arg5 harg5 arg6 harg6 arg8 harg8 arg10 arg13 x0 x2 x3 x5) (ix2 a y) = hKf x0 x2 b p (ring (512 + 960 + a.val)) := by
  unfold headRun.sl.v1250
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 448 + 1 * a.val = (512 + 960 + a.val) % 1024
  omega

include hb hp in
theorem rd_v1251_512_128 (a : Fin 64) (y : Fin 128) : (headRun.sl.v1251 c i arg3 harg3 arg5 harg5 arg6 harg6 arg8 harg8 arg10 arg13 x0 x2 x3 x5) (ix2 a y) = hKf x0 x2 b p (ring (512 + 128 + a.val)) := by
  unfold headRun.sl.v1251
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 640 + 1 * a.val = (512 + 128 + a.val) % 1024
  omega

include hb hp in
theorem rd_v1253_512_960 (a : Fin 64) (y : Fin 128) : (headRun.sl.v1253 c i arg3 harg3 arg5 harg5 arg6 harg6 arg7 harg7 arg8 harg8 arg10 arg14 x0 x2 x3 x4 x5) (ix2 a y) = hBk x4 b p (ring (512 + 960 + a.val)) := by
  unfold headRun.sl.v1253
  rw [readBK (hb := hb) (hp := hp)]
  refine congrArg (fun n : Fin 1024 => (((x4 (ix3 (0 : Fin 1) b (p n))).toInt : ℝ) : EReal)) (Fin.ext ?_)
  show 448 + 1 * a.val = (512 + 960 + a.val) % 1024
  omega

include hb hp in
theorem rd_v1254_512_128 (a : Fin 64) (y : Fin 128) : (headRun.sl.v1254 c i arg3 harg3 arg5 harg5 arg6 harg6 arg7 harg7 arg8 harg8 arg10 arg14 x0 x2 x3 x4 x5) (ix2 a y) = hBk x4 b p (ring (512 + 128 + a.val)) := by
  unfold headRun.sl.v1254
  rw [readBK (hb := hb) (hp := hp)]
  refine congrArg (fun n : Fin 1024 => (((x4 (ix3 (0 : Fin 1) b (p n))).toInt : ℝ) : EReal)) (Fin.ext ?_)
  show 640 + 1 * a.val = (512 + 128 + a.val) % 1024
  omega

include hb hp in
theorem row_v244_4 (y : Fin 128) : extractStridedSlice S1x128 ![4, 0] (headRun.sl.v244 c i arg5 harg5 arg8 harg8 arg10 x2 x5) slices_S8x128_o4_0_S1x128 (ix2 (0 : Fin 1) y) = hQf x2 b p (ring (512 + y.val)) := by
  pointwise
  rw [qs_at (hb := hb) (hp := hp)]
  refine congrArg (fun n : Fin 1024 => x2 (ix3 (0 : Fin 1) b (p n))) (Fin.ext ?_)
  show 128 * 4 + y.val = (512 + y.val) % 1024
  omega

include hb hp in
theorem row_v721_4 (y : Fin 128) : extractStridedSlice S1x128 ![4, 0] (headRun.sl.v721 c i arg3 harg3 arg5 harg5 arg6 harg6 arg7 harg7 arg8 harg8 arg10 x0 x2 x3 x4 x5) slices_S8x128_o4_0_S1x128 (ix2 (0 : Fin 1) y) = hBk x4 b p (ring (512 + y.val)) := by
  pointwise
  rw [bks_at (hb := hb) (hp := hp)]
  refine congrArg (fun n : Fin 1024 => (((x4 (ix3 (0 : Fin 1) b (p n))).toInt : ℝ) : EReal)) (Fin.ext ?_)
  show 128 * 4 + y.val = (512 + y.val) % 1024
  omega

include hb hp in
theorem rd_v1312_512_128 (a : Fin 128) (y : Fin 128) : (headRun.sl.v1312 c i arg3 harg3 arg5 harg5 arg6 harg6 arg8 harg8 arg10 arg13 x0 x2 x3 x5) (ix2 a y) = hKf x0 x2 b p (ring (512 + 128 + a.val)) := by
  unfold headRun.sl.v1312
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 640 + 1 * a.val = (512 + 128 + a.val) % 1024
  omega

include hb hp in
theorem rd_v1319_512_128 (a : Fin 128) (y : Fin 128) : (headRun.sl.v1319 c i arg3 harg3 arg5 harg5 arg6 harg6 arg7 harg7 arg8 harg8 arg10 arg14 x0 x2 x3 x4 x5) (ix2 a y) = hBk x4 b p (ring (512 + 128 + a.val)) := by
  unfold headRun.sl.v1319
  rw [readBK (hb := hb) (hp := hp)]
  refine congrArg (fun n : Fin 1024 => (((x4 (ix3 (0 : Fin 1) b (p n))).toInt : ℝ) : EReal)) (Fin.ext ?_)
  show 640 + 1 * a.val = (512 + 128 + a.val) % 1024
  omega

include hb hp in
theorem rd_v1306_512_64 (a : Fin 64) (y : Fin 128) : (headRun.sl.v1306 c i arg3 harg3 arg5 harg5 arg6 harg6 arg8 harg8 arg10 arg13 x0 x2 x3 x5) (ix2 a y) = hKf x0 x2 b p (ring (512 + 64 + a.val)) := by
  unfold headRun.sl.v1306
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 576 + 1 * a.val = (512 + 64 + a.val) % 1024
  omega

include hb hp in
theorem rd_v1307_512_256 (a : Fin 64) (y : Fin 128) : (headRun.sl.v1307 c i arg3 harg3 arg5 harg5 arg6 harg6 arg8 harg8 arg10 arg13 x0 x2 x3 x5) (ix2 a y) = hKf x0 x2 b p (ring (512 + 256 + a.val)) := by
  unfold headRun.sl.v1307
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 768 + 1 * a.val = (512 + 256 + a.val) % 1024
  omega

include hb hp in
theorem rd_v1309_512_64 (a : Fin 64) (y : Fin 128) : (headRun.sl.v1309 c i arg3 harg3 arg5 harg5 arg6 harg6 arg7 harg7 arg8 harg8 arg10 arg14 x0 x2 x3 x4 x5) (ix2 a y) = hBk x4 b p (ring (512 + 64 + a.val)) := by
  unfold headRun.sl.v1309
  rw [readBK (hb := hb) (hp := hp)]
  refine congrArg (fun n : Fin 1024 => (((x4 (ix3 (0 : Fin 1) b (p n))).toInt : ℝ) : EReal)) (Fin.ext ?_)
  show 576 + 1 * a.val = (512 + 64 + a.val) % 1024
  omega

include hb hp in
theorem rd_v1310_512_256 (a : Fin 64) (y : Fin 128) : (headRun.sl.v1310 c i arg3 harg3 arg5 harg5 arg6 harg6 arg7 harg7 arg8 harg8 arg10 arg14 x0 x2 x3 x4 x5) (ix2 a y) = hBk x4 b p (ring (512 + 256 + a.val)) := by
  unfold headRun.sl.v1310
  rw [readBK (hb := hb) (hp := hp)]
  refine congrArg (fun n : Fin 1024 => (((x4 (ix3 (0 : Fin 1) b (p n))).toInt : ℝ) : EReal)) (Fin.ext ?_)
  show 768 + 1 * a.val = (512 + 256 + a.val) % 1024
  omega

include hb hp in
theorem row_v244_5 (y : Fin 128) : extractStridedSlice S1x128 ![5, 0] (headRun.sl.v244 c i arg5 harg5 arg8 harg8 arg10 x2 x5) slices_S8x128_o5_0_S1x128 (ix2 (0 : Fin 1) y) = hQf x2 b p (ring (512 + 128 + y.val)) := by
  pointwise
  rw [qs_at (hb := hb) (hp := hp)]
  refine congrArg (fun n : Fin 1024 => x2 (ix3 (0 : Fin 1) b (p n))) (Fin.ext ?_)
  show 128 * 5 + y.val = (512 + 128 + y.val) % 1024
  omega

include hb hp in
theorem row_v721_5 (y : Fin 128) : extractStridedSlice S1x128 ![5, 0] (headRun.sl.v721 c i arg3 harg3 arg5 harg5 arg6 harg6 arg7 harg7 arg8 harg8 arg10 x0 x2 x3 x4 x5) slices_S8x128_o5_0_S1x128 (ix2 (0 : Fin 1) y) = hBk x4 b p (ring (512 + 128 + y.val)) := by
  pointwise
  rw [bks_at (hb := hb) (hp := hp)]
  refine congrArg (fun n : Fin 1024 => (((x4 (ix3 (0 : Fin 1) b (p n))).toInt : ℝ) : EReal)) (Fin.ext ?_)
  show 128 * 5 + y.val = (512 + 128 + y.val) % 1024
  omega

include hb hp in
theorem rd_v1361_512 (d : Fin 160) (a : Fin 256) : (headRun.sl.v1361 c i arg4 harg4 arg5 harg5 arg6 harg6 arg8 harg8 arg10 arg12 x1 x2 x3 x5) (ix2 d a) = hVt x1 x3 b p d (ring (512 + a.val)) := by
  unfold headRun.sl.v1361
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 512 + 1 * a.val = (512 + a.val) % 1024
    omega

include hb hp in
theorem rd_v1358_512_960 (d : Fin 160) (a : Fin 64) : (headRun.sl.v1358 c i arg4 harg4 arg5 harg5 arg6 harg6 arg8 harg8 arg10 arg12 x1 x2 x3 x5) (ix2 d a) = hVt x1 x3 b p d (ring (512 + 960 + a.val)) := by
  unfold headRun.sl.v1358
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 448 + 1 * a.val = (512 + 960 + a.val) % 1024
    omega

include hb hp in
theorem rd_v1359_512_256 (d : Fin 160) (a : Fin 64) : (headRun.sl.v1359 c i arg4 harg4 arg5 harg5 arg6 harg6 arg8 harg8 arg10 arg12 x1 x2 x3 x5) (ix2 d a) = hVt x1 x3 b p d (ring (512 + 256 + a.val)) := by
  unfold headRun.sl.v1359
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 768 + 1 * a.val = (512 + 256 + a.val) % 1024
    omega

include hb hp in
/-- Block 2. -/
theorem ot2_at (d : Fin 160) (y : Fin 256) : (headRun.sl.v1373 c i arg3 harg3 arg4 harg4 arg5 harg5 arg6 harg6 arg7 harg7 arg8 harg8 arg10 arg11 arg12 arg13 arg14 x0 x1 x2 x3 x4 x5) (ix2 d y) = wOut (hK x0 p) (hKf x0 x2 b p) (hBk x4 b p) (hQf x2 b p) (hVt x1 x3 b p) d (ring (512 + y.val)) := by
  rw [blk2_eq]
  exact mBlk_apply (hK x0 p) (hKf x0 x2 b p) (hBk x4 b p) (hQf x2 b p) (hVt x1 x3 b p) 512 (by decide) (by decide) _ _ _ _ _ _ _ _ _ _ _ _ _ _ _ _ _ _ _ _ _ _
    (fun a d => rd_v1238_512 (hb := hb) (hp := hp) ..)
    (fun a d => rd_v1240_512_960 (hb := hb) (hp := hp) ..)
    (fun a d => rd_v1241_512_256 (hb := hb) (hp := hp) ..)
    (fun a y => rd_v1256_512 (hb := hb) (hp := hp) ..)
    (fun a y => rd_v1263_512 (hb := hb) (hp := hp) ..)
    (fun a y => rd_v1250_512_960 (hb := hb) (hp := hp) ..)
    (fun a y => rd_v1251_512_128 (hb := hb) (hp := hp) ..)
    (fun a y => rd_v1253_512_960 (hb := hb) (hp := hp) ..)
    (fun a y => rd_v1254_512_128 (hb := hb) (hp := hp) ..)
    (fun y => row_v244_4 (hb := hb) (hp := hp) ..)
    (fun y => row_v721_4 (hb := hb) (hp := hp) ..)
    (fun a y => rd_v1312_512_128 (hb := hb) (hp := hp) ..)
    (fun a y => rd_v1319_512_128 (hb := hb) (hp := hp) ..)
    (fun a y => rd_v1306_512_64 (hb := hb) (hp := hp) ..)
    (fun a y => rd_v1307_512_256 (hb := hb) (hp := hp) ..)
    (fun a y => rd_v1309_512_64 (hb := hb) (hp := hp) ..)
    (fun a y => rd_v1310_512_256 (hb := hb) (hp := hp) ..)
    (fun y => row_v244_5 (hb := hb) (hp := hp) ..)
    (fun y => row_v721_5 (hb := hb) (hp := hp) ..)
    (fun d a => rd_v1361_512 (hb := hb) (hp := hp) ..)
    (fun d a => rd_v1358_512_960 (hb := hb) (hp := hp) ..)
    (fun d a => rd_v1359_512_256 (hb := hb) (hp := hp) ..)
    d y

include hb hp in
theorem rd_v1374_768 (a : Fin 256) (d : Fin 160) : (headRun.sl.v1374 c i arg3 harg3 arg8 harg8 arg11 x0 x5) (ix2 a d) = hK x0 p (ring (768 + a.val)) d := by
  unfold headRun.sl.v1374
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 768 + 1 * a.val = (768 + a.val) % 1024
    omega

include hb hp in
theorem rd_v1376_768_960 (a : Fin 64) (d : Fin 160) : (headRun.sl.v1376 c i arg3 harg3 arg8 harg8 arg11 x0 x5) (ix2 a d) = hK x0 p (ring (768 + 960 + a.val)) d := by
  unfold headRun.sl.v1376
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 704 + 1 * a.val = (768 + 960 + a.val) % 1024
    omega

include hb hp in
theorem rd_v1377_768_256 (a : Fin 64) (d : Fin 160) : (headRun.sl.v1377 c i arg3 harg3 arg8 harg8 arg11 x0 x5) (ix2 a d) = hK x0 p (ring (768 + 256 + a.val)) d := by
  unfold headRun.sl.v1377
  rw [readK (hb := hb) (hp := hp)]
  refine congrArg₂ (fun (m : Fin 160) (n : Fin 1024) => x0 (ix4 (0 : Fin 1) (0 : Fin 1) m (p n))) (Fin.ext ?_) (Fin.ext ?_)
  · show 0 + 1 * d.val = d.val
    omega
  · show 0 + 1 * a.val = (768 + 256 + a.val) % 1024
    omega

include hb hp in
theorem rd_v1392_768 (a : Fin 128) (y : Fin 128) : (headRun.sl.v1392 c i arg3 harg3 arg5 harg5 arg6 harg6 arg8 harg8 arg10 arg13 x0 x2 x3 x5) (ix2 a y) = hKf x0 x2 b p (ring (768 + a.val)) := by
  unfold headRun.sl.v1392
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 768 + 1 * a.val = (768 + a.val) % 1024
  omega

include hb hp in
theorem rd_v1399_768 (a : Fin 128) (y : Fin 128) : (headRun.sl.v1399 c i arg3 harg3 arg5 harg5 arg6 harg6 arg7 harg7 arg8 harg8 arg10 arg14 x0 x2 x3 x4 x5) (ix2 a y) = hBk x4 b p (ring (768 + a.val)) := by
  unfold headRun.sl.v1399
  rw [readBK (hb := hb) (hp := hp)]
  refine congrArg (fun n : Fin 1024 => (((x4 (ix3 (0 : Fin 1) b (p n))).toInt : ℝ) : EReal)) (Fin.ext ?_)
  show 768 + 1 * a.val = (768 + a.val) % 1024
  omega

include hb hp in
theorem rd_v1386_768_960 (a : Fin 64) (y : Fin 128) : (headRun.sl.v1386 c i arg3 harg3 arg5 harg5 arg6 harg6 arg8 harg8 arg10 arg13 x0 x2 x3 x5) (ix2 a y) = hKf x0 x2 b p (ring (768 + 960 + a.val)) := by
  unfold headRun.sl.v1386
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 704 + 1 * a.val = (768 + 960 + a.val) % 1024
  omega

include hb hp in
theorem rd_v1387_768_128 (a : Fin 64) (y : Fin 128) : (headRun.sl.v1387 c i arg3 harg3 arg5 harg5 arg6 harg6 arg8 harg8 arg10 arg13 x0 x2 x3 x5) (ix2 a y) = hKf x0 x2 b p (ring (768 + 128 + a.val)) := by
  unfold headRun.sl.v1387
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 896 + 1 * a.val = (768 + 128 + a.val) % 1024
  omega

include hb hp in
theorem rd_v1389_768_960 (a : Fin 64) (y : Fin 128) : (headRun.sl.v1389 c i arg3 harg3 arg5 harg5 arg6 harg6 arg7 harg7 arg8 harg8 arg10 arg14 x0 x2 x3 x4 x5) (ix2 a y) = hBk x4 b p (ring (768 + 960 + a.val)) := by
  unfold headRun.sl.v1389
  rw [readBK (hb := hb) (hp := hp)]
  refine congrArg (fun n : Fin 1024 => (((x4 (ix3 (0 : Fin 1) b (p n))).toInt : ℝ) : EReal)) (Fin.ext ?_)
  show 704 + 1 * a.val = (768 + 960 + a.val) % 1024
  omega

include hb hp in
theorem rd_v1390_768_128 (a : Fin 64) (y : Fin 128) : (headRun.sl.v1390 c i arg3 harg3 arg5 harg5 arg6 harg6 arg7 harg7 arg8 harg8 arg10 arg14 x0 x2 x3 x4 x5) (ix2 a y) = hBk x4 b p (ring (768 + 128 + a.val)) := by
  unfold headRun.sl.v1390
  rw [readBK (hb := hb) (hp := hp)]
  refine congrArg (fun n : Fin 1024 => (((x4 (ix3 (0 : Fin 1) b (p n))).toInt : ℝ) : EReal)) (Fin.ext ?_)
  show 896 + 1 * a.val = (768 + 128 + a.val) % 1024
  omega

include hb hp in
theorem row_v244_6 (y : Fin 128) : extractStridedSlice S1x128 ![6, 0] (headRun.sl.v244 c i arg5 harg5 arg8 harg8 arg10 x2 x5) slices_S8x128_o6_0_S1x128 (ix2 (0 : Fin 1) y) = hQf x2 b p (ring (768 + y.val)) := by
  pointwise
  rw [qs_at (hb := hb) (hp := hp)]
  refine congrArg (fun n : Fin 1024 => x2 (ix3 (0 : Fin 1) b (p n))) (Fin.ext ?_)
  show 128 * 6 + y.val = (768 + y.val) % 1024
  omega

include hb hp in
theorem row_v721_6 (y : Fin 128) : extractStridedSlice S1x128 ![6, 0] (headRun.sl.v721 c i arg3 harg3 arg5 harg5 arg6 harg6 arg7 harg7 arg8 harg8 arg10 x0 x2 x3 x4 x5) slices_S8x128_o6_0_S1x128 (ix2 (0 : Fin 1) y) = hBk x4 b p (ring (768 + y.val)) := by
  pointwise
  rw [bks_at (hb := hb) (hp := hp)]
  refine congrArg (fun n : Fin 1024 => (((x4 (ix3 (0 : Fin 1) b (p n))).toInt : ℝ) : EReal)) (Fin.ext ?_)
  show 128 * 6 + y.val = (768 + y.val) % 1024
  omega

include hb hp in
theorem rd_v1448_768_128 (a : Fin 128) (y : Fin 128) : (headRun.sl.v1448 c i arg3 harg3 arg5 harg5 arg6 harg6 arg8 harg8 arg10 arg13 x0 x2 x3 x5) (ix2 a y) = hKf x0 x2 b p (ring (768 + 128 + a.val)) := by
  unfold headRun.sl.v1448
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 896 + 1 * a.val = (768 + 128 + a.val) % 1024
  omega

include hb hp in
theorem rd_v1455_768_128 (a : Fin 128) (y : Fin 128) : (headRun.sl.v1455 c i arg3 harg3 arg5 harg5 arg6 harg6 arg7 harg7 arg8 harg8 arg10 arg14 x0 x2 x3 x4 x5) (ix2 a y) = hBk x4 b p (ring (768 + 128 + a.val)) := by
  unfold headRun.sl.v1455
  rw [readBK (hb := hb) (hp := hp)]
  refine congrArg (fun n : Fin 1024 => (((x4 (ix3 (0 : Fin 1) b (p n))).toInt : ℝ) : EReal)) (Fin.ext ?_)
  show 896 + 1 * a.val = (768 + 128 + a.val) % 1024
  omega

include hb hp in
theorem rd_v1442_768_64 (a : Fin 64) (y : Fin 128) : (headRun.sl.v1442 c i arg3 harg3 arg5 harg5 arg6 harg6 arg8 harg8 arg10 arg13 x0 x2 x3 x5) (ix2 a y) = hKf x0 x2 b p (ring (768 + 64 + a.val)) := by
  unfold headRun.sl.v1442
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 832 + 1 * a.val = (768 + 64 + a.val) % 1024
  omega

include hb hp in
theorem rd_v1443_768_256 (a : Fin 64) (y : Fin 128) : (headRun.sl.v1443 c i arg3 harg3 arg5 harg5 arg6 harg6 arg8 harg8 arg10 arg13 x0 x2 x3 x5) (ix2 a y) = hKf x0 x2 b p (ring (768 + 256 + a.val)) := by
  unfold headRun.sl.v1443
  rw [readKF (hb := hb) (hp := hp)]
  refine congrArg (fun n : Fin 1024 => keyFactor (fun d s => x0 (ix4 (0 : Fin 1) (0 : Fin 1) d s)) (fun s => x2 (ix3 (0 : Fin 1) b s)) (p n)) (Fin.ext ?_)
  show 0 + 1 * a.val = (768 + 256 + a.val) % 1024
  omega

include hb hp in
theorem rd_v1445_768_64 (a : Fin 64) (y : Fin 128) : (headRun.sl.v1445 c i arg3 harg3 arg5 harg5 arg6 harg6 arg7 harg7 arg8 harg8 arg10 arg14 x0 x2 x3 x4 x5) (ix2 a y) = hBk x4 b p (ring (768 + 64 + a.val)) := by
  unfold headRun.sl.v1445
  rw [readBK (hb := hb) (hp := hp)]
  refine congrArg (fun n : Fin 1024 => (((x4 (ix3 (0 : Fin 1) b (p n))).toInt : ℝ) : EReal)) (Fin.ext ?_)
  show 832 + 1 * a.val = (768 + 64 + a.val) % 1024
  omega

include hb hp in
theorem rd_v1446_768_256 (a : Fin 64) (y : Fin 128) : (headRun.sl.v1446 c i arg3 harg3 arg5 harg5 arg6 harg6 arg7 harg7 arg8 harg8 arg10 arg14 x0 x2 x3 x4 x5) (ix2 a y) = hBk x4 b p (ring (768 + 256 + a.val)) := by
  unfold headRun.sl.v1446
  rw [readBK (hb := hb) (hp := hp)]
  refine congrArg (fun n : Fin 1024 => (((x4 (ix3 (0 : Fin 1) b (p n))).toInt : ℝ) : EReal)) (Fin.ext ?_)
  show 0 + 1 * a.val = (768 + 256 + a.val) % 1024
  omega

include hb hp in
theorem row_v244_7 (y : Fin 128) : extractStridedSlice S1x128 ![7, 0] (headRun.sl.v244 c i arg5 harg5 arg8 harg8 arg10 x2 x5) slices_S8x128_o7_0_S1x128 (ix2 (0 : Fin 1) y) = hQf x2 b p (ring (768 + 128 + y.val)) := by
  pointwise
  rw [qs_at (hb := hb) (hp := hp)]
  refine congrArg (fun n : Fin 1024 => x2 (ix3 (0 : Fin 1) b (p n))) (Fin.ext ?_)
  show 128 * 7 + y.val = (768 + 128 + y.val) % 1024
  omega

include hb hp in
theorem row_v721_7 (y : Fin 128) : extractStridedSlice S1x128 ![7, 0] (headRun.sl.v721 c i arg3 harg3 arg5 harg5 arg6 harg6 arg7 harg7 arg8 harg8 arg10 x0 x2 x3 x4 x5) slices_S8x128_o7_0_S1x128 (ix2 (0 : Fin 1) y) = hBk x4 b p (ring (768 + 128 + y.val)) := by
  pointwise
  rw [bks_at (hb := hb) (hp := hp)]
  refine congrArg (fun n : Fin 1024 => (((x4 (ix3 (0 : Fin 1) b (p n))).toInt : ℝ) : EReal)) (Fin.ext ?_)
  show 128 * 7 + y.val = (768 + 128 + y.val) % 1024
  omega

include hb hp in
theorem rd_v1497_768 (d : Fin 160) (a : Fin 256) : (headRun.sl.v1497 c i arg4 harg4 arg5 harg5 arg6 harg6 arg8 harg8 arg10 arg12 x1 x2 x3 x5) (ix2 d a) = hVt x1 x3 b p d (ring (768 + a.val)) := by
  unfold headRun.sl.v1497
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 768 + 1 * a.val = (768 + a.val) % 1024
    omega

include hb hp in
theorem rd_v1494_768_960 (d : Fin 160) (a : Fin 64) : (headRun.sl.v1494 c i arg4 harg4 arg5 harg5 arg6 harg6 arg8 harg8 arg10 arg12 x1 x2 x3 x5) (ix2 d a) = hVt x1 x3 b p d (ring (768 + 960 + a.val)) := by
  unfold headRun.sl.v1494
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 704 + 1 * a.val = (768 + 960 + a.val) % 1024
    omega

include hb hp in
theorem rd_v1495_768_256 (d : Fin 160) (a : Fin 64) : (headRun.sl.v1495 c i arg4 harg4 arg5 harg5 arg6 harg6 arg8 harg8 arg10 arg12 x1 x2 x3 x5) (ix2 d a) = hVt x1 x3 b p d (ring (768 + 256 + a.val)) := by
  unfold headRun.sl.v1495
  rw [readVT (hb := hb) (hp := hp)]
  refine congrArg₂ (fun (m : Fin 160) (n : Fin 1024) => x1 (ix4 (0 : Fin 1) (0 : Fin 1) m (p n)) * x3 (ix3 (0 : Fin 1) b (p n))) (Fin.ext ?_) (Fin.ext ?_)
  · show 0 + 1 * d.val = d.val
    omega
  · show 0 + 1 * a.val = (768 + 256 + a.val) % 1024
    omega

include hb hp in
/-- Block 3. -/
theorem ot3_at (d : Fin 160) (y : Fin 256) : (k0_pay239 (headRun.sl.v1425 c i arg3 harg3 arg5 harg5 arg6 harg6 arg7 harg7 arg8 harg8 arg10 arg11 arg13 arg14 x0 x2 x3 x4 x5) (headRun.sl.v1481 c i arg3 harg3 arg5 harg5 arg6 harg6 arg7 harg7 arg8 harg8 arg10 arg11 arg13 arg14 x0 x2 x3 x4 x5) (headRun.sl.v1492 c i arg3 harg3 arg5 harg5 arg6 harg6 arg7 harg7 arg8 harg8 arg10 arg11 arg13 arg14 x0 x2 x3 x4 x5) (headRun.sl.v1493 c i arg3 harg3 arg5 harg5 arg6 harg6 arg7 harg7 arg8 harg8 arg10 arg11 arg13 arg14 x0 x2 x3 x4 x5) (headRun.sl.v1496 c i arg4 harg4 arg5 harg5 arg6 harg6 arg8 harg8 arg10 arg12 x1 x2 x3 x5) (headRun.sl.v1497 c i arg4 harg4 arg5 harg5 arg6 harg6 arg8 harg8 arg10 arg12 x1 x2 x3 x5)) (ix2 d y) = wOut (hK x0 p) (hKf x0 x2 b p) (hBk x4 b p) (hQf x2 b p) (hVt x1 x3 b p) d (ring (768 + y.val)) := by
  rw [blk3_eq]
  exact mBlk_apply (hK x0 p) (hKf x0 x2 b p) (hBk x4 b p) (hQf x2 b p) (hVt x1 x3 b p) 768 (by decide) (by decide) _ _ _ _ _ _ _ _ _ _ _ _ _ _ _ _ _ _ _ _ _ _
    (fun a d => rd_v1374_768 (hb := hb) (hp := hp) ..)
    (fun a d => rd_v1376_768_960 (hb := hb) (hp := hp) ..)
    (fun a d => rd_v1377_768_256 (hb := hb) (hp := hp) ..)
    (fun a y => rd_v1392_768 (hb := hb) (hp := hp) ..)
    (fun a y => rd_v1399_768 (hb := hb) (hp := hp) ..)
    (fun a y => rd_v1386_768_960 (hb := hb) (hp := hp) ..)
    (fun a y => rd_v1387_768_128 (hb := hb) (hp := hp) ..)
    (fun a y => rd_v1389_768_960 (hb := hb) (hp := hp) ..)
    (fun a y => rd_v1390_768_128 (hb := hb) (hp := hp) ..)
    (fun y => row_v244_6 (hb := hb) (hp := hp) ..)
    (fun y => row_v721_6 (hb := hb) (hp := hp) ..)
    (fun a y => rd_v1448_768_128 (hb := hb) (hp := hp) ..)
    (fun a y => rd_v1455_768_128 (hb := hb) (hp := hp) ..)
    (fun a y => rd_v1442_768_64 (hb := hb) (hp := hp) ..)
    (fun a y => rd_v1443_768_256 (hb := hb) (hp := hp) ..)
    (fun a y => rd_v1445_768_64 (hb := hb) (hp := hp) ..)
    (fun a y => rd_v1446_768_256 (hb := hb) (hp := hp) ..)
    (fun y => row_v244_7 (hb := hb) (hp := hp) ..)
    (fun y => row_v721_7 (hb := hb) (hp := hp) ..)
    (fun d a => rd_v1497_768 (hb := hb) (hp := hp) ..)
    (fun d a => rd_v1494_768_960 (hb := hb) (hp := hp) ..)
    (fun d a => rd_v1495_768_256 (hb := hb) (hp := hp) ..)
    d y

set_option maxHeartbeats 2000000 in
include hb hp in
theorem readOT {κ₁ : Kind} {sp : Space} (v : View sig κ₁ sp S160x1024 .bf16) (r : LoadRect S160x1024) (x : r.shape.Idx) : v.readCov (headRun.sl.HS5_4 c i arg3 harg3 arg4 harg4 arg5 harg5 arg6 harg6 arg7 harg7 arg8 harg8 arg10 arg11 arg12 arg13 arg14 x0 x1 x2 x3 x4 x5) r x = (fun y : S160x1024.Idx => wOut (hK x0 p) (hKf x0 x2 b p) (hBk x4 b p) (hQf x2 b p) (hVt x1 x3 b p) (y 0) (y 1)) (r.idx x) := by
  refine tiles_read v (fun y : S160x1024.Idx => wOut (hK x0 p) (hKf x0 x2 b p) (hBk x4 b p) (hQf x2 b p) (hVt x1 x3 b p) (y 0) (y 1)) (headRun.sl.HS5_4 c i arg3 harg3 arg4 harg4 arg5 harg5 arg6 harg6 arg7 harg7 arg8 harg8 arg10 arg11 arg12 arg13 arg14 x0 x1 x2 x3 x4 x5) ((And.intro ?_ (And.intro ?_ (And.intro ?_ (And.intro ?_ trivial))))) ?_ r x
  · intro z
    obtain ⟨a, d, rfl⟩ : ∃ (a : Fin 160) (d : Fin 256), z = ix2 a d := ⟨z 0, z 1, (ix2_eta z).symm⟩
    dsimp only
    rw [ot3_at (hb := hb) (hp := hp)]
    refine congrArg₂ (fun (m : Fin 160) (n : Fin 1024) => wOut (hK x0 p) (hKf x0 x2 b p) (hBk x4 b p) (hQf x2 b p) (hVt x1 x3 b p) m n) (Fin.ext ?_) (Fin.ext ?_)
    · show a.val = 0 + 1 * a.val
      omega
    · show (768 + d.val) % 1024 = 768 + 1 * d.val
      omega
  · intro z
    obtain ⟨a, d, rfl⟩ : ∃ (a : Fin 160) (d : Fin 256), z = ix2 a d := ⟨z 0, z 1, (ix2_eta z).symm⟩
    dsimp only
    rw [ot2_at (hb := hb) (hp := hp)]
    refine congrArg₂ (fun (m : Fin 160) (n : Fin 1024) => wOut (hK x0 p) (hKf x0 x2 b p) (hBk x4 b p) (hQf x2 b p) (hVt x1 x3 b p) m n) (Fin.ext ?_) (Fin.ext ?_)
    · show a.val = 0 + 1 * a.val
      omega
    · show (512 + d.val) % 1024 = 512 + 1 * d.val
      omega
  · intro z
    obtain ⟨a, d, rfl⟩ : ∃ (a : Fin 160) (d : Fin 256), z = ix2 a d := ⟨z 0, z 1, (ix2_eta z).symm⟩
    dsimp only
    rw [ot1_at (hb := hb) (hp := hp)]
    refine congrArg₂ (fun (m : Fin 160) (n : Fin 1024) => wOut (hK x0 p) (hKf x0 x2 b p) (hBk x4 b p) (hQf x2 b p) (hVt x1 x3 b p) m n) (Fin.ext ?_) (Fin.ext ?_)
    · show a.val = 0 + 1 * a.val
      omega
    · show (256 + d.val) % 1024 = 256 + 1 * d.val
      omega
  · intro z
    obtain ⟨a, d, rfl⟩ : ∃ (a : Fin 160) (d : Fin 256), z = ix2 a d := ⟨z 0, z 1, (ix2_eta z).symm⟩
    dsimp only
    rw [ot0_at (hb := hb) (hp := hp)]
    refine congrArg₂ (fun (m : Fin 160) (n : Fin 1024) => wOut (hK x0 p) (hKf x0 x2 b p) (hBk x4 b p) (hQf x2 b p) (hVt x1 x3 b p) m n) (Fin.ext ?_) (Fin.ext ?_)
    · show a.val = 0 + 1 * a.val
      omega
    · show (0 + d.val) % 1024 = 0 + 1 * d.val
      omega
  · intro y
    have hy0 : (y 0).val < 160 := (y 0).isLt
    have hy1 : (y 1).val < 1024 := (y 1).isLt
    have cov : ∀ (o0 o1 : ℕ) (inb : ∀ a, (![o0, o1] : Fin 2 → ℕ) a + S160x256.size a ≤ S160x1024.size a), o0 ≤ (y 0).val → (y 0).val < o0 + 160 → o1 ≤ (y 1).val → (y 1).val < o1 + 256 →
        y ∈ (Rect.unit (s := S160x1024) ![o0, o1] S160x256.size inb).set := by
      intro o0 o1 inb h1 h2 h3 h4
      refine (LoadRect.mem_set _).mpr fun a => ?_
      fin_cases a
      · exact ⟨(y 0).val - o0, by show (y 0).val - o0 < 160; omega, by show (y 0).val = o0 + 1 * ((y 0).val - o0); omega⟩
      · exact ⟨(y 1).val - o1, by show (y 1).val - o1 < 256; omega, by show (y 1).val = o1 + 1 * ((y 1).val - o1); omega⟩
    have hq : (y 1).val / 256 < 4 := by omega
    interval_cases hk : (y 1).val / 256
    · exact ⟨_, .tail _ (.tail _ (.tail _ (.head _))), cov 0 0 (by decide) (by omega) (by omega) (by omega) (by omega)⟩
    · exact ⟨_, .tail _ (.tail _ (.head _)), cov 0 256 (by decide) (by omega) (by omega) (by omega) (by omega)⟩
    · exact ⟨_, .tail _ (.head _), cov 0 512 (by decide) (by omega) (by omega) (by omega) (by omega)⟩
    · exact ⟨_, .head _, cov 0 768 (by decide) (by omega) (by omega) (by omega) (by omega)⟩

include hb hp in
theorem ot_at (d : Fin 160) (r : Fin 1024) : (headRun.sl.v1510 c i arg3 harg3 arg4 harg4 arg5 harg5 arg6 harg6 arg7 harg7 arg8 harg8 arg10 arg11 arg12 arg13 arg14 arg15 x0 x1 x2 x3 x4 x5) (ix2 d r) = wOut (hK x0 p) (hKf x0 x2 b p) (hBk x4 b p) (hQf x2 b p) (hVt x1 x3 b p) d r := by
  unfold headRun.sl.v1510
  rw [readOT (hb := hb) (hp := hp)]
  refine congrArg₂ (fun (m : Fin 160) (n : Fin 1024) => wOut (hK x0 p) (hKf x0 x2 b p) (hBk x4 b p) (hQf x2 b p) (hVt x1 x3 b p) m n) (Fin.ext ?_) (Fin.ext ?_)
  · show 0 + 1 * d.val = d.val
    omega
  · show 0 + 1 * r.val = r.val
    omega

include hb hp in
/-- The head's rows: row `d` at the original position of sorted position `r`. -/
theorem headRows_apply (hinj : Function.Injective p) (d : Fin 160) (r : Fin 1024) :
    headRows (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 (ix2 d (p r)) = wOut (hK x0 p) (hKf x0 x2 b p) (hBk x4 b p) (hQf x2 b p) (hVt x1 x3 b p) d r := by
  have h : headRows (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5
      = k0_pay1 (headRun.sl.v849 c i arg8 harg8 x5) (headRun.sl.v1510 c i arg3 harg3 arg4 harg4 arg5 harg5 arg6 harg6 arg7 harg7 arg8 harg8 arg10 arg11 arg12 arg13 arg14 arg15 x0 x1 x2 x3 x4 x5) := rfl
  rw [h]
  unfold k0_pay1
  pointwise
  simp only [oh_at (hb := hb) (hp := hp), ot_at (hb := hb) (hp := hp)]
  rw [Finset.sum_eq_single r]
  · rw [if_pos rfl, mul_one]
  · intro r' _ hr
    rw [if_neg fun e => hr (hinj (Fin.ext e)).symm, mul_zero]
  · intro h
    exact absurd (Finset.mem_univ _) h

end Cert.KernelIdeal.Hand

end
-- ==== Proof.Launch.lean ====
/-
  The kernel's run: what the group's scratch holds before every grid point, the body at every point, and the launch.
-/
module

public import proofs.«01_k».proof.Proof.Gen.KernelIdeal.Frame
public import proofs.«01_k».proof.Proof.Gen.KernelIdeal.Skeleton
public import Idealize.ShloMosaic.Lib.Tactic
public import Idealize.ShloMosaic.Lib.WritesUnit
public import Idealize.ShloMosaic.Lib.WordCmp
public import Idealize.ShloMosaic.Lib.VecWindow
public import Idealize.ShloMosaic.Lib.Claim
public import proofs.«01_k».proof.Proof.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

/-- The head's rows at grid point `t`, from the blocks the point fetches. -/
def outAt (c : Dev nD) (t : Fin cfg0.N) : FVec F S160x1024 .bf16 :=
  headRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t)

/-- The grid point numbered `n`. -/
def pt (n : ℕ) : Fin cfg0.N := ⟨n % 56, lt_of_lt_of_eq (Nat.mod_lt n (by norm_num)) N_0.symm⟩

theorem pt_val (t : Fin cfg0.N) : pt t.val = t :=
  Fin.ext (Nat.mod_eq_of_lt (lt_of_lt_of_eq t.isLt N_0))

/-- A group's scratch once all of its four heads are in. -/
def assembled (c : Dev nD) (n : ℕ) : Vec F S640x1024 .bf16 := fun ix =>
  outAt m c (pt (n - n % 4 + (ix 0).val / 160))
    (fun a => match a with
      | 0 => ⟨(ix 0).val % 160, Nat.mod_lt _ (by norm_num)⟩
      | 1 => ⟨(ix 1).val, (ix 1).isLt⟩)

/-- What holds before point `n`: the scratches hold anything, but the rows of the group's heads done so far. -/
def inv (c : Dev nD) (n : ℕ) : sProp 𝕄 :=
  iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d : Vec F S640x1024 .bf16, ⌜∀ ix : S640x1024.Idx, (ix 0).val < 160 * (n % 4) → d ix = assembled m c n ix⌝ ∗ owns (c : Thread nD τ) scM0_6 fullShare d)) ∗ (∃ r, prngReg c r))

theorem off2_at (t : Fin cfg0.N) : k0_off2 (grid0.coords t) = ![160 * (t.val % 4), 0] := by
  rw [k0_off2_eq]
  have e2 : (grid0.coords t 2).val = t.val / 1 % 4 := Pipeline.Grid.coords_val t 2 (by decide) rfl
  rw [e2, Nat.div_one]

/-- Rows just written read as written. -/
theorem put_mem (a16 : Memref sig .tc .vmem S640x1024 .bf16) (h16 : a16.IsWhole) (off : Fin 2 → ℕ) (inb : ∀ a, off a + S160x1024.size a ≤ S640x1024.size a)
    (o : ℕ) (hoff : off = ![o, 0]) (w : Vec F S160x1024 .bf16) (d : Vec F S640x1024 .bf16) (ix : S640x1024.Idx) (x : S160x1024.Idx)
    (h0 : (ix 0).val = o + (x 0).val) (h1 : (ix 1).val = (x 1).val) :
    a16.view.read (Elt F) (a16.view.writes (Elt F) (h16.unread d) [⟨Rect.unit (s := S640x1024) off S160x1024.size inb, w⟩]) ix = w x :=
  View.read_writes_cons_rows_of_mem a16.view (h16.unread d) inb w [] ix x hoff h0 h1

/-- Rows elsewhere stay. -/
theorem put_not_mem (a16 : Memref sig .tc .vmem S640x1024 .bf16) (h16 : a16.IsWhole) (off : Fin 2 → ℕ) (inb : ∀ a, off a + S160x1024.size a ≤ S640x1024.size a)
    (o : ℕ) (hoff : off = ![o, 0]) (w : Vec F S160x1024 .bf16) (d : Vec F S640x1024 .bf16) (ix : S640x1024.Idx)
    (h : (ix 0).val < o ∨ o + 160 ≤ (ix 0).val) :
    a16.view.read (Elt F) (a16.view.writes (Elt F) (h16.unread d) [⟨Rect.unit (s := S640x1024) off S160x1024.size inb, w⟩]) ix = d ix :=
  (View.read_writes_cons_rows_of_not_mem a16.view (h16.unread d) (W := 160) inb w [] ix hoff rfl h).trans (congrFun (h16.read_unread d) ix)

/-- Once head `t` is in, the scratch holds the group's rows up to and with it. -/
theorem newRows_rows (c : Dev nD) (t : Fin cfg0.N) (d : Vec F S640x1024 .bf16)
    (hd : ∀ ix : S640x1024.Idx, (ix 0).val < 160 * (t.val % 4) → d ix = assembled m c t.val ix)
    (ix : S640x1024.Idx) (hix : (ix 0).val < 160 * (t.val % 4 + 1)) :
    newRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) d ix = assembled m c t.val ix := by
  have hn : newRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) d = scM0_6.view.read (Elt F) (scM0_6.view.writes (Elt F) ((Memref.isWhole_whole cc0_scratch6).unread d)
      [⟨Rect.unit (s := S640x1024) (k0_off2 (grid0.coords t)) S160x1024.size (k0_off2_inb (grid0.coords t)), outAt m c t⟩]) := by
    unfold newRows outAt; rfl
  rw [hn]
  by_cases h : (ix 0).val < 160 * (t.val % 4)
  · rw [put_not_mem scM0_6 (Memref.isWhole_whole _) _ _ (160 * (t.val % 4)) (off2_at t) _ _ ix (Or.inl h)]
    exact hd ix h
  · have e : (ix 0).val / 160 = t.val % 4 := by omega
    refine (put_mem scM0_6 (Memref.isWhole_whole _) _ _ (160 * (t.val % 4)) (off2_at t) _ _ ix
      (fun a => match a with
        | 0 => ⟨(ix 0).val % 160, Nat.mod_lt _ (by norm_num)⟩
        | 1 => ⟨(ix 1).val, (ix 1).isLt⟩) (by show (ix 0).val = 160 * (t.val % 4) + (ix 0).val % 160; omega) rfl).trans ?_
    unfold assembled
    rw [e, show t.val - t.val % 4 + t.val % 4 = t.val by omega, pt_val]

/-- After the last head of a group the scratch is the assembled group. -/
theorem newRows_all (c : Dev nD) (t : Fin cfg0.N) (ht : t.val % 4 = 3) (d : Vec F S640x1024 .bf16)
    (hd : ∀ ix : S640x1024.Idx, (ix 0).val < 160 * (t.val % 4) → d ix = assembled m c t.val ix) :
    newRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) d = assembled m c t.val :=
  funext fun ix => newRows_rows m c t d hd ix (by have : (ix 0).val < 640 := (ix 0).isLt; omega)

/-- Moving to the next point keeps what is known of the scratch. -/
theorem rows_step (c : Dev nD) (n : ℕ) (d : Vec F S640x1024 .bf16)
    (hd : ∀ ix : S640x1024.Idx, (ix 0).val < 160 * (n % 4 + 1) → d ix = assembled m c n ix)
    (ix : S640x1024.Idx) (hix : (ix 0).val < 160 * ((n + 1) % 4)) : d ix = assembled m c (n + 1) ix := by
  have h3 : (n + 1) % 4 = n % 4 + 1 := by omega
  rw [hd ix (by omega)]
  unfold assembled
  rw [show n + 1 - (n + 1) % 4 = n - n % 4 by omega]

/-- The proof data. -/
def dats : (p : Fin 1) → (c : Dev nD) → Dat τ (Elt F) Unit ℕ (UR sig nD τ) ℕ (cfgs p) c := fun _ c => show Dat τ (Elt F) Unit ℕ (UR sig nD τ) ℕ cfg0 c from {
  A := fun w => V m c (Pipeline.arrRef spec0 w)
  after := fun w t => match w with
    | 0 => iblk m c 0 t
    | 1 => iblk m c 1 t
    | 2 => iblk m c 2 t
    | 3 => iblk m c 3 t
    | 4 => iblk m c 4 t
    | 5 => iblk m c 5 t
    | 6 => k0_pay2 (assembled m c t.val)
  Φ := fun t => inv m c t.val
  q := fun _ => fullShare
  owed := fun _ => 0 }

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay2 (assembled m c t.val) := by dsimp only [dats]
theorem Phi_castSucc (c : Dev nD) (t : Fin cfg0.N) : (dats m 0 c).Φ t.castSucc = inv m c t.val := by dsimp only [dats]; rw [Fin.val_castSucc]
theorem Phi_succ (c : Dev nD) (t : Fin cfg0.N) : (dats m 0 c).Φ t.succ = inv m c (t.val + 1) := by dsimp only [dats]; rw [Fin.val_succ]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [Phi_castSucc, Phi_succ]
  rw [show (dats m 0 c).leavesExact 0 t = owns (c : Thread nD τ) (ms0_0 t) fullShare (iblk m c 0 t) from by
      unfold Dat.leavesExact; rw [liveAt0_0 t, after0_0]]
  rw [show (dats m 0 c).leavesExact 1 t = owns (c : Thread nD τ) (ms0_1 t) fullShare (iblk m c 1 t) from by
      unfold Dat.leavesExact; rw [liveAt0_1 t, after0_1]]
  rw [show (dats m 0 c).leavesExact 2 t = owns (c : Thread nD τ) (ms0_2 t) fullShare (iblk m c 2 t) from by
      unfold Dat.leavesExact; rw [liveAt0_2 t, after0_2]]
  rw [show (dats m 0 c).leavesExact 3 t = owns (c : Thread nD τ) (ms0_3 t) fullShare (iblk m c 3 t) from by
      unfold Dat.leavesExact; rw [liveAt0_3 t, after0_3]]
  rw [show (dats m 0 c).leavesExact 4 t = owns (c : Thread nD τ) (ms0_4 t) fullShare (iblk m c 4 t) from by
      unfold Dat.leavesExact; rw [liveAt0_4 t, after0_4]]
  rw [show (dats m 0 c).leavesExact 5 t = owns (c : Thread nD τ) (ms0_5 t) fullShare (iblk m c 5 t) from by
      unfold Dat.leavesExact; rw [liveAt0_5 t, after0_5]]
  by_cases h0 : t.val % 4 = 3
  · have hi : cfg0.idle 6 (cfg0.grid.coords t) = false := by
      show (!(k0_cond1 (grid0.coords t) == 1#1)) = false
      rw [(hcond0_0 t).mpr h0]; rfl
    rw [show (dats m 0 c).leavesExact 6 t = owns (c : Thread nD τ) (ms0_6 t) fullShare (k0_pay2 (assembled m c t.val)) from by
      unfold Dat.leavesExact; rw [hi, after0_6]]
    unfold inv
    iintro ⟨⟨⟨HS0, HS1, HS2, HS3, HS4, HS5, ⟨%d16, %hd16, HS6⟩⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) _ d16 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    rw [newRows_all m c t h0 d16 hd16]
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexists _; isplitr; swap; · iexact HS6
        ipureintro
        exact fun ix hix => absurd hix (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hi : cfg0.idle 6 (cfg0.grid.coords t) = true := by
      show (!(k0_cond1 (grid0.coords t) == 1#1)) = true
      have h : ¬ k0_cond1 (grid0.coords t) = 1#1 := fun h => h0 ((hcond0_0 t).mp h)
      simp [h]
    have hf : (cfg0.win 6).flush t = false := by
      rcases hb : (cfg0.win 6).flush t with _ | _
      · rfl
      · exact absurd ((flush0_6 t).mp hb) h0
    rw [Dat.leavesExact_idle _ 6 t hi hf]
    unfold inv
    iintro ⟨⟨⟨HS0, HS1, HS2, HS3, HS4, HS5, ⟨%d16, %hd16, HS6⟩⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) _ d16 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexists _; isplitr; swap; · iexact HS6
        ipureintro
        exact fun ix hix => rows_step m c t.val _ (newRows_rows m c t d16 hd16) ix hix
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_zero (c : Dev nD) : (Pipeline.ΦA spec0 c : sProp 𝕄) ⊢ (dats m 0 c).Φ 0 := by
  dsimp only [dats]
  rw [PhiA0_eq]
  unfold inv
  iintro ⟨⟨HS0, HS1, HS2, HS3, HS4, HS5, ⟨%d, HS6⟩⟩, Hg⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexists d; isplitr; swap; · iexact HS6
    ipureintro
    exact fun ix hix => absurd hix (Nat.not_lt_zero _)
  iexact Hg

theorem inv_last (c : Dev nD) : (dats m 0 c).Φ (Fin.last cfg0.N) ⊢ (Pipeline.ΦA spec0 c : sProp 𝕄) := by
  dsimp only [dats]
  rw [PhiA0_eq]
  unfold inv
  iintro ⟨⟨HS0, HS1, HS2, HS3, HS4, HS5, ⟨%d, %hd, HS6⟩⟩, Hg⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexists d; iexact HS6
  iexact Hg

set_option backward.isDefEq.respectTransparency.types false in
/-- The launch: every array ends as the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_zero m) (hout := inv_last m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Idealize.ShloMosaic.θ_run_and (frame_of m ρ (dats m) (A_eq m) (run_main m ρ)) ((θ_run defs _ _).mono (fun _ h => h.2) (run_main_quiescent m ρ))

end Cert.KernelIdeal.Hand

end
-- ==== Proof.ArrayVal.lean ====
/-
  The kernel's result array: the element at batch `b`, position `p r`, column `160 h + d` is head `h`'s attention row
  of sorted position `r`, in terms of the arguments.
-/
module

public import proofs.«01_k».proof.Proof.Head
public import proofs.«01_k».proof.Proof.Launch
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-! ## The arrays the call reads: the arguments with the head axis brought forward -/

theorem V_v0 (b : Fin 2) (h : Fin 28) (d : Fin 160) (s : Fin 1024) :
    (V m c main_v0 : Vec Ideal S2x28x160x1024 .fp8e4m3) (ix4 b h d s) = (m ((c.tc : Thread nD τ).loc main_arg0) : Vec Ideal S2x1024x28x160 .fp8e4m3) (ix4 b s h d) := by
  have e : (V m c main_v0 : Vec Ideal S2x28x160x1024 .fp8e4m3) = transpose S2x28x160x1024 [0, 2, 3, 1] (m ((c.tc : Thread nD τ).loc main_arg0) : Vec Ideal S2x1024x28x160 .fp8e4m3) transposes_S2x1024x28x160_S2x28x160x1024_0_2_3_1 := by
    show StableHlo.after hostOps0 _ (Proc.devRef .tc main_v0) = _
    after_results
  rw [e]
  pointwise

theorem V_v1 (b : Fin 2) (h : Fin 28) (d : Fin 160) (s : Fin 1024) :
    (V m c main_v1 : Vec Ideal S2x28x160x1024 .fp8e4m3) (ix4 b h d s) = (m ((c.tc : Thread nD τ).loc main_arg2) : Vec Ideal S2x1024x28x160 .fp8e4m3) (ix4 b s h d) := by
  have e : (V m c main_v1 : Vec Ideal S2x28x160x1024 .fp8e4m3) = transpose S2x28x160x1024 [0, 2, 3, 1] (m ((c.tc : Thread nD τ).loc main_arg2) : Vec Ideal S2x1024x28x160 .fp8e4m3) transposes_S2x1024x28x160_S2x28x160x1024_0_2_3_1 := by
    show StableHlo.after hostOps0 _ (Proc.devRef .tc main_v1) = _
    after_results
  rw [e]
  pointwise

theorem V_v2 (h : Fin 28) (b : Fin 2) (s : Fin 1024) :
    (V m c main_v2 : Vec Ideal S28x2x1024 .f32) (ix3 h b s) = (m ((c.tc : Thread nD τ).loc main_arg1) : Vec Ideal S2x1024x28 .f32) (ix3 b s h) := by
  have e : (V m c main_v2 : Vec Ideal S28x2x1024 .f32) = transpose S28x2x1024 [2, 0, 1] (m ((c.tc : Thread nD τ).loc main_arg1) : Vec Ideal S2x1024x28 .f32) transposes_S2x1024x28_S28x2x1024_2_0_1 := by
    show StableHlo.after hostOps0 _ (Proc.devRef .tc main_v2) = _
    after_results
  rw [e]
  pointwise

theorem V_v3 (h : Fin 28) (b : Fin 2) (s : Fin 1024) :
    (V m c main_v3 : Vec Ideal S28x2x1024 .f32) (ix3 h b s) = (m ((c.tc : Thread nD τ).loc main_arg3) : Vec Ideal S2x1024x28 .f32) (ix3 b s h) := by
  have e : (V m c main_v3 : Vec Ideal S28x2x1024 .f32) = transpose S28x2x1024 [2, 0, 1] (m ((c.tc : Thread nD τ).loc main_arg3) : Vec Ideal S2x1024x28 .f32) transposes_S2x1024x28_S28x2x1024_2_0_1 := by
    show StableHlo.after hostOps0 _ (Proc.devRef .tc main_v3) = _
    after_results
  rw [e]
  pointwise

theorem V_v4 (h : Fin 28) (b : Fin 2) (s : Fin 1024) :
    (V m c main_v4 : Vec Ideal S28x2x1024 .i32) (ix3 h b s) = (m ((c.tc : Thread nD τ).loc main_arg4) : Vec Ideal S2x28x1024 .i32) (ix3 b h s) := by
  have e : (V m c main_v4 : Vec Ideal S28x2x1024 .i32) = transpose S28x2x1024 [1, 0, 2] (m ((c.tc : Thread nD τ).loc main_arg4) : Vec Ideal S2x28x1024 .i32) transposes_S2x28x1024_S28x2x1024_1_0_2 := by
    show StableHlo.after hostOps0 _ (Proc.devRef .tc main_v4) = _
    after_results
  rw [e]
  pointwise

theorem V_v5 (h : Fin 28) (b : Fin 2) (s : Fin 1024) :
    (V m c main_v5 : Vec Ideal S28x2x1024 .i32) (ix3 h b s) = (m ((c.tc : Thread nD τ).loc main_arg5) : Vec Ideal S2x28x1024 .i32) (ix3 b h s) := by
  have e : (V m c main_v5 : Vec Ideal S28x2x1024 .i32) = transpose S28x2x1024 [1, 0, 2] (m ((c.tc : Thread nD τ).loc main_arg5) : Vec Ideal S2x28x1024 .i32) transposes_S2x28x1024_S28x2x1024_1_0_2 := by
    show StableHlo.after hostOps0 _ (Proc.devRef .tc main_v5) = _
    after_results
  rw [e]
  pointwise

/-! ## The blocks a grid point fetches -/

theorem idx_0 : ∀ t : Fin cfg0.N, win0_0.index t = ![t.val / 28, t.val % 28, 0, 0] := (by decide +kernel : ∀ t : Fin grid0.N, _)
theorem idx_1 : ∀ t : Fin cfg0.N, win0_1.index t = ![t.val / 28, t.val % 28, 0, 0] := (by decide +kernel : ∀ t : Fin grid0.N, _)
theorem idx_2 : ∀ t : Fin cfg0.N, win0_2.index t = ![t.val % 28, 0, 0] := (by decide +kernel : ∀ t : Fin grid0.N, _)
theorem idx_3 : ∀ t : Fin cfg0.N, win0_3.index t = ![t.val % 28, 0, 0] := (by decide +kernel : ∀ t : Fin grid0.N, _)
theorem idx_4 : ∀ t : Fin cfg0.N, win0_4.index t = ![t.val % 28, 0, 0] := (by decide +kernel : ∀ t : Fin grid0.N, _)
theorem idx_5 : ∀ t : Fin cfg0.N, win0_5.index t = ![t.val % 28, 0, 0] := (by decide +kernel : ∀ t : Fin grid0.N, _)
theorem idx_6 : ∀ t : Fin cfg0.N, win0_6.index t = ![t.val / 28, 0, t.val % 28 / 4] := (by decide +kernel : ∀ t : Fin grid0.N, _)

section

variable (t : Fin cfg0.N) (b : Fin 2) (h : Fin 28) (ht : t.val = 28 * b.val + h.val)

include ht in
theorem blk0 (d : Fin 160) (s : Fin 1024) : (iblk m c 0 t : Vec Ideal S1x1x160x1024 .fp8e4m3) (ix4 (0 : Fin 1) (0 : Fin 1) d s) = (m ((c.tc : Thread nD τ).loc main_arg0) : Vec Ideal S2x1024x28x160 .fp8e4m3) (ix4 b s h d) := by
  refine Eq.trans ?_ (V_v0 m c b h d s)
  have e0 := idx_0 t
  have q1 : t.val / 28 = b.val := by omega
  have q2 : t.val % 28 = h.val := by omega
  rw [q1, q2] at e0
  blk_ext [iblk, e0]

include ht in
theorem blk1 (d : Fin 160) (s : Fin 1024) : (iblk m c 1 t : Vec Ideal S1x1x160x1024 .fp8e4m3) (ix4 (0 : Fin 1) (0 : Fin 1) d s) = (m ((c.tc : Thread nD τ).loc main_arg2) : Vec Ideal S2x1024x28x160 .fp8e4m3) (ix4 b s h d) := by
  refine Eq.trans ?_ (V_v1 m c b h d s)
  have e0 := idx_1 t
  have q1 : t.val / 28 = b.val := by omega
  have q2 : t.val % 28 = h.val := by omega
  rw [q1, q2] at e0
  blk_ext [iblk, e0]

include ht in
theorem blk2 (s : Fin 1024) : (iblk m c 2 t : Vec Ideal S1x2x1024 .f32) (ix3 (0 : Fin 1) b s) = (m ((c.tc : Thread nD τ).loc main_arg1) : Vec Ideal S2x1024x28 .f32) (ix3 b s h) := by
  refine Eq.trans ?_ (V_v2 m c h b s)
  have e0 := idx_2 t
  have q2 : t.val % 28 = h.val := by omega
  rw [q2] at e0
  blk_ext [iblk, e0]

include ht in
theorem blk3 (s : Fin 1024) : (iblk m c 3 t : Vec Ideal S1x2x1024 .f32) (ix3 (0 : Fin 1) b s) = (m ((c.tc : Thread nD τ).loc main_arg3) : Vec Ideal S2x1024x28 .f32) (ix3 b s h) := by
  refine Eq.trans ?_ (V_v3 m c h b s)
  have e0 := idx_3 t
  have q2 : t.val % 28 = h.val := by omega
  rw [q2] at e0
  blk_ext [iblk, e0]

include ht in
theorem blk4 (s : Fin 1024) : (iblk m c 4 t : Vec Ideal S1x2x1024 .i32) (ix3 (0 : Fin 1) b s) = (m ((c.tc : Thread nD τ).loc main_arg4) : Vec Ideal S2x28x1024 .i32) (ix3 b h s) := by
  refine Eq.trans ?_ (V_v4 m c h b s)
  have e0 := idx_4 t
  have q2 : t.val % 28 = h.val := by omega
  rw [q2] at e0
  blk_ext [iblk, e0]

include ht in
theorem blk5 (s : Fin 1024) : (iblk m c 5 t : Vec Ideal S1x2x1024 .i32) (ix3 (0 : Fin 1) b s) = (m ((c.tc : Thread nD τ).loc main_arg5) : Vec Ideal S2x28x1024 .i32) (ix3 b h s) := by
  refine Eq.trans ?_ (V_v5 m c h b s)
  have e0 := idx_5 t
  have q2 : t.val % 28 = h.val := by omega
  rw [q2] at e0
  blk_ext [iblk, e0]

/-! ## One head, from the arguments -/

/-- Head `h` of batch `b`, sorted position `r`, feature `d`: attention over the window of `r`, from the arguments. -/
def headVal (a0 : Vec Ideal S2x1024x28x160 .fp8e4m3) (a1 : Vec Ideal S2x1024x28 .f32) (a2 : Vec Ideal S2x1024x28x160 .fp8e4m3)
    (a3 : Vec Ideal S2x1024x28 .f32) (a4 : Vec Ideal S2x28x1024 .i32) (b : Fin 2) (h : Fin 28) (p : Fin 1024 → Fin 1024)
    (d : Fin 160) (r : Fin 1024) : EReal :=
  wOut (fun r d => a0 (ix4 b (p r) h d))
    (fun r => keyFactor (fun d s => a0 (ix4 b s h d)) (fun s => a1 (ix3 b s h)) (p r))
    (fun r => (((a4 (ix3 b h (p r))).toInt : ℝ) : EReal))
    (fun r => a1 (ix3 b (p r) h))
    (fun d r => a2 (ix4 b (p r) h d) * a3 (ix3 b (p r) h)) d r

include ht in
theorem outAt_apply (p : Fin 1024 → Fin 1024)
    (hp : ∀ r : Fin 1024, (m ((c.tc : Thread nD τ).loc main_arg5) : Vec Ideal S2x28x1024 .i32) (ix3 b h r) = BitVec.ofNat 32 (p r).val)
    (hinj : Function.Injective p) (d : Fin 160) (r : Fin 1024) :
    outAt m c t (ix2 d (p r)) = headVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b h p d r := by
  unfold outAt
  have hc : (grid0.coords t 0).val = b.val := by
    have e : (grid0.coords t 0).val = t.val / 28 % 2 := Pipeline.Grid.coords_val t 0 (by decide) rfl
    have := b.isLt
    omega
  rw [headRows_apply (b := b) (hb := hc) (p := p) (hp := fun r => (blk5 m c t b h ht r).trans (hp r)) (hinj := hinj)]
  unfold headVal hK hKf hBk hQf hVt
  simp only [blk0 m c t b h ht, blk1 m c t b h ht, blk2 m c t b h ht, blk3 m c t b h ht, blk4 m c t b h ht]

end

/-! ## The array after the run -/

/-- The array the call leaves, by element. -/
def outArr (ix : S2x1024x4480.Idx) : EReal :=
  outAt m c (pt (28 * (ix 0).val + (ix 2).val / 160)) (ix2 (⟨(ix 2).val % 160, Nat.mod_lt _ (by norm_num)⟩ : Fin 160) (⟨(ix 1).val, (ix 1).isLt⟩ : Fin 1024))

theorem pay2_apply (W : Vec Ideal S640x1024 .bf16) (y0 : Fin 1) (s : Fin 1024) (e : Fin 640) : k0_pay2 W (ix3 y0 s e) = W (ix2 e s) := by
  unfold k0_pay2
  pointwise

theorem asm_apply (n : ℕ) (s : Fin 1024) (e : Fin 640) : assembled m c n (ix2 e s)
    = outAt m c (pt (n - n % 4 + e.val / 160)) (ix2 (⟨e.val % 160, Nat.mod_lt _ (by norm_num)⟩ : Fin 160) s) := by
  unfold assembled
  refine congrArg _ (funext fun a => ?_)
  fin_cases a <;> rfl

theorem emb6 (t : Fin cfg0.N) (y0 : Fin 1) (y1 : Fin 1024) (y2 : Fin 640) :
    ((win0_6.blk t).view.emb (ix3 y0 y1 y2) : S2x1024x4480.Idx)
      = ix3 (⟨t.val / 28, by have := lt_of_lt_of_eq t.isLt N_0; omega⟩ : Fin 2) y1 (⟨640 * (t.val % 28 / 4) + y2.val, by have := y2.isLt; omega⟩ : Fin 4480) := by
  have e6 := idx_6 t
  blk_ext [e6]

theorem out_at (b : Fin 2) (s : Fin 1024) (e : Fin 4480) : outArr m c (ix3 b s e)
    = outAt m c (pt (28 * b.val + e.val / 160)) (ix2 (⟨e.val % 160, Nat.mod_lt _ (by norm_num)⟩ : Fin 160) s) := rfl

theorem arr_eq : (dats m 0 c).arrAt 6 cfg0.N = (outArr m c : Vec Ideal S2x1024x4480 .bf16) := by
  refine (dats m 0 c).arrAt_eq_of_covers 6 _ (by decide +kernel) fun t hf y => ?_
  have h3 : t.val % 4 = 3 := (flush0_6 t).mp hf
  have hN : t.val < 56 := lt_of_lt_of_eq t.isLt N_0
  obtain ⟨y0, y1, y2, rfl⟩ : ∃ (y0 : Fin 1) (y1 : Fin 1024) (y2 : Fin 640), y = ix3 y0 y1 y2 := ⟨y 0, y 1, y 2, (ix3_eta y).symm⟩
  have h2 : y2.val < 640 := y2.isLt
  refine Eq.trans (b := k0_pay2 (assembled m c t.val) (ix3 y0 y1 y2)) ?_ (Eq.trans ?_ (congrArg (outArr m c) (emb6 t y0 y1 y2)).symm)
  · exact congrFun (after0_6 m c t) (ix3 y0 y1 y2)
  · rw [pay2_apply, asm_apply, out_at]
    have q1 : t.val - t.val % 4 + y2.val / 160 = 28 * (t.val / 28) + (640 * (t.val % 28 / 4) + y2.val) / 160 := by omega
    have q2 : y2.val % 160 = (640 * (t.val % 28 / 4) + y2.val) % 160 := by omega
    simp only [q1, q2]

end Cert.KernelIdeal.Hand

end
-- ==== Proof.RefModel.lean ====
/-
  What the reference computes for one head, as plain formulas over the rows in sorted order.
-/
module

public import Idealize.ShloMosaic.PureOps.Ideal

@[expose] public section

set_option maxRecDepth 16384

noncomputable section

namespace Cert.ReferenceIdeal.Hand

open Idealize.ShloMosaic

/-- Position `w` of the window of sorted position `r`: the chunk before, its own, the chunk after, around the ring. -/
def win (r : Fin 1024) (w : Fin 192) : Fin 1024 := ⟨((r.val / 64 + 15) * 64 + w.val) % 1024, Nat.mod_lt _ (by decide)⟩

section
variable (P : Fin 1024 → Fin 1024) (Q V : Fin 1024 → Fin 160 → EReal) (qs vs : Fin 1024 → EReal) (bk : Fin 1024 → BitVec 32)

/-- The factor of a key: its scale over its root mean square, over √160. -/
def rF (s : Fin 1024) : EReal :=
  Ideal.div (qs s * Ideal.rsqrt (qs s * qs s * Ideal.div (∑ d, Q s d * Q s d) (Ideal.ofBits .f32 0x43200000#32) + Ideal.ofBits .f32 0x358637BD#32))
    (Ideal.sqrt (Ideal.ofBits .f32 0x43200000#32))

/-- The masked score of row `r` against key `k`. -/
def rSc (r k : Fin 1024) : EReal :=
  if P r = P k then Ideal.ofBits .f32 0xC7C35000#32
  else if bk r ≠ bk k then Ideal.ofBits .f32 0xCE6E6B28#32
  else (∑ d, Q r d * Q k d) * qs r * rF Q qs k

def rMx (r : Fin 1024) : EReal := Finset.univ.sup fun w : Fin 192 => rSc P Q qs bk r (win r w)
def rEx (r : Fin 1024) (w : Fin 192) : EReal := Ideal.exp (rSc P Q qs bk r (win r w) - rMx P Q qs bk r)

/-- The row's result: the softmax weights, each times its value's scale, against the values. -/
def rOut (r : Fin 1024) (d : Fin 160) : EReal :=
  ∑ w : Fin 192, rEx P Q qs bk r w * Ideal.div 1 (∑ w', rEx P Q qs bk r w') * vs (win r w) * V (win r w) d
end

end Cert.ReferenceIdeal.Hand

end
-- ==== Proof.SoftEq.lean ====
/-
  The kernel's form of one row's result is the reference's: base-2 exponentials of scores carried in units of ln 2, and the division by the sum
  taken after the sum over the keys.
-/
module

public import proofs.«01_k».proof.Proof.Window
public import proofs.«01_k».proof.Proof.Vals
public import proofs.«01_k».proof.Proof.RefModel

@[expose] public section

set_option maxRecDepth 16384

noncomputable section

namespace Cert.KernelIdeal.Hand

open Cert.KernelIdeal Cert.KernelIdeal.Gen
open Idealize.ShloMosaic Idealize.ShloMosaic.TcCoe
open Cert.ReferenceIdeal.Hand (win rF rSc rMx rEx rOut)

/-! ## The unit of the kernel's scores -/

/-- One over ln 2. -/
def lg : ℝ := (Real.log 2)⁻¹

theorem lg_pos : 0 < lg := inv_pos.mpr (Real.log_pos (by norm_num))

theorem mul_lg_mono : Monotone fun x : EReal => x * (lg : EReal) := fun x y hxy =>
  mul_le_mul_of_nonneg_right hxy (EReal.coe_nonneg.mpr lg_pos.le)

theorem sup_mul_lg {ι : Type} (s : Finset ι) (f : ι → EReal) : (s.sup fun i => f i * (lg : EReal)) = s.sup f * (lg : EReal) := by
  refine (Finset.comp_sup_eq_sup_comp (s := s) (f := f) (fun x : EReal => x * (lg : EReal)) (fun x y => mul_lg_mono.map_sup x y) ?_).symm
  exact EReal.bot_mul_coe_of_pos lg_pos

theorem sub_mul_lg (x y : EReal) : x * (lg : EReal) - y * (lg : EReal) = (x - y) * (lg : EReal) := by
  rw [sub_eq_add_neg, sub_eq_add_neg, ← EReal.neg_mul,
    EReal.right_distrib_of_nonneg_of_ne_top (EReal.coe_nonneg.mpr lg_pos.le) (EReal.coe_ne_top _)]

theorem exp2_mul_lg (x : EReal) : Ideal.exp2 (x * (lg : EReal)) = Ideal.exp x := by
  induction x with
  | bot => rw [EReal.bot_mul_coe_of_pos lg_pos]; rfl
  | top => rw [EReal.top_mul_coe_of_pos lg_pos]; rfl
  | coe r =>
    rw [← EReal.coe_mul]
    show ((Real.rpow 2 (r * lg) : ℝ) : EReal) = ((Real.exp r : ℝ) : EReal)
    congr 1
    show (2 : ℝ) ^ (r * lg) = _
    rw [Real.rpow_def_of_pos (by norm_num)]
    congr 1
    have : Real.log 2 ≠ 0 := (Real.log_pos (by norm_num)).ne'
    unfold lg
    field_simp

/-! ## The constants -/

theorem selfMask_eq : selfMask = Ideal.ofBits .f32 0xC7C35000#32 * (lg : EReal) := by
  have e : Ideal.ofBits .f32 0xC7C35000#32 = ((-100000 : ℝ) : EReal) := by
    simp [Ideal.ofBits, Ideal.ieee, -EReal.coe_mul]; norm_num
  rw [e, ← EReal.coe_mul]
  exact IdealRules.named_const.ideal_named_scalar _ _ _ _ rfl

theorem bucketMask_eq : bucketMask = Ideal.ofBits .f32 0xCE6E6B28#32 * (lg : EReal) := by
  have e : Ideal.ofBits .f32 0xCE6E6B28#32 = ((-1000000000 : ℝ) : EReal) := by
    simp [Ideal.ofBits, Ideal.ieee, -EReal.coe_mul]; norm_num
  rw [e, ← EReal.coe_mul]
  exact IdealRules.named_const.ideal_named_scalar _ _ _ _ rfl

theorem ofBits_160 : Ideal.ofBits .f32 0x43200000#32 = ((160 : ℝ) : EReal) := by
  simp [Ideal.ofBits, Ideal.ieee, -EReal.coe_mul]; norm_num

theorem div_coe (x : EReal) (r : ℝ) (h : r ≠ 0) : Ideal.div x (r : EReal) = x * ((r⁻¹ : ℝ) : EReal) := by
  unfold Ideal.div
  rw [if_neg (by exact_mod_cast h), EReal.coe_inv]

theorem sqrt_160 : Ideal.sqrt ((160 : ℝ) : EReal) = ((Real.sqrt 160 : ℝ) : EReal) := by
  show (if (160 : ℝ) < 0 then ⊥ else ((Real.sqrt 160 : ℝ) : EReal)) = _
  rw [if_neg (by norm_num)]

/-! ## The key's factor -/

theorem keyFactor_eq (Q : Fin 1024 → Fin 160 → EReal) (qs : Fin 1024 → EReal) (s : Fin 1024) :
    keyFactor (fun d s => Q s d) qs s = rF Q qs s * (lg : EReal) := by
  have e1 : (Named.named κ "inv_d" 0x3BCCCCCD#32 : Ideal .f32) = (((160 : ℝ)⁻¹ : ℝ) : EReal) := by
    refine (IdealRules.named_const.ideal_named_scalar _ _ _ _ rfl).trans ?_
    congr 1; norm_num
  have e2 : (Named.named κ "scale_log2e" 0x3DE995B3#32 : Ideal .f32) = (((Real.sqrt 160)⁻¹ * lg : ℝ) : EReal) :=
    IdealRules.named_const.ideal_named_scalar _ _ _ _ rfl
  have h160 : Real.sqrt 160 ≠ 0 := (Real.sqrt_pos.mpr (by norm_num)).ne'
  unfold keyFactor rF
  rw [e1, e2, ofBits_160, sqrt_160, div_coe _ _ h160, div_coe _ _ (by norm_num : (160 : ℝ) ≠ 0), EReal.coe_mul, mul_assoc (_ * _) _ (lg : EReal)]

/-! ## The scores and the weights -/

section
variable (P : Fin 1024 → Fin 1024) (hP : Function.Injective P) (Q V : Fin 1024 → Fin 160 → EReal) (qs vs : Fin 1024 → EReal) (bk : Fin 1024 → BitVec 32)

/-- The bucket's word as the number the kernel compares. -/
def bkNum (bk : Fin 1024 → BitVec 32) (r : Fin 1024) : EReal := (((bk r).toInt : ℝ) : EReal)

theorem bkNum_eq_iff (r k : Fin 1024) : bkNum bk k = bkNum bk r ↔ bk k = bk r := by
  unfold bkNum
  rw [EReal.coe_eq_coe_iff, Int.cast_inj, BitVec.toInt_inj]

include hP

theorem sc_eq (r k : Fin 1024) :
    sc Q (fun s => keyFactor (fun d s => Q s d) qs s) (bkNum bk) qs r k = rSc P Q qs bk r k * (lg : EReal) := by
  unfold sc rSc
  by_cases h1 : k = r
  · rw [if_pos h1, if_pos (by rw [h1]), selfMask_eq]
  · rw [if_neg h1, if_neg (fun e => h1 (hP e).symm)]
    by_cases h2 : bk k = bk r
    · rw [if_pos ((bkNum_eq_iff bk r k).mpr h2), if_neg (not_not.mpr h2.symm)]
      show _ * keyFactor (fun d s => Q s d) qs k * qs r = _
      rw [keyFactor_eq]
      have e : (∑ d, Q k d * Q r d) = ∑ d, Q r d * Q k d := Finset.sum_congr rfl fun d _ => mul_comm _ _
      rw [e]
      generalize (∑ d, Q r d * Q k d) = A
      generalize rF Q qs k = B
      generalize qs r = C
      generalize (lg : EReal) = D
      ac_rfl
    · rw [if_neg (fun e => h2 ((bkNum_eq_iff bk r k).mp e)), if_pos (fun e => h2 e.symm), bucketMask_eq]

theorem wEx_eq (r : Fin 1024) (w : Fin 192) :
    wEx Q (fun s => keyFactor (fun d s => Q s d) qs s) (bkNum bk) qs r w = rEx P Q qs bk r w := by
  have e : wMx Q (fun s => keyFactor (fun d s => Q s d) qs s) (bkNum bk) qs r = rMx P Q qs bk r * (lg : EReal) := by
    unfold wMx rMx
    rw [← sup_mul_lg]
    exact Finset.sup_congr rfl fun w _ => sc_eq P hP Q qs bk r (key r w)
  unfold wEx rEx
  rw [e, sc_eq P hP, sub_mul_lg, exp2_mul_lg]
  rfl

end

/-! ## The division by the sum -/

theorem exp_nonneg (x : EReal) : 0 ≤ Ideal.exp x := by
  induction x with
  | bot => exact le_rfl
  | top => exact le_top
  | coe r => exact EReal.coe_nonneg.mpr (Real.exp_pos r).le

theorem sum_mul_of_nonneg {ι : Type} (s : Finset ι) (f : ι → EReal) (g : EReal) (h0 : 0 ≤ g) (h1 : g ≠ ⊤) : (∑ i ∈ s, f i) * g = ∑ i ∈ s, f i * g := by
  classical
  induction s using Finset.induction_on with
  | empty => simp
  | insert a s ha ih => rw [Finset.sum_insert ha, Finset.sum_insert ha, EReal.right_distrib_of_nonneg_of_ne_top h0 h1, ih]

/-- Dividing after the sum over the keys is dividing each weight, for weights that are not negative. -/
theorem div_after {n : ℕ} (e v s : Fin n → EReal) (he : ∀ w, 0 ≤ e w) :
    (∑ w, v w * s w * e w) * Ideal.div 1 (∑ w, e w) = ∑ w, e w * Ideal.div 1 (∑ w', e w') * s w * v w := by
  by_cases hS : (∑ w, e w) = 0
  · have hz : ∀ w, e w = 0 := fun w => (Finset.sum_eq_zero_iff_of_nonneg fun w _ => he w).mp hS w (Finset.mem_univ w)
    simp [hz]
  · have hS0 : 0 ≤ ∑ w, e w := Finset.sum_nonneg fun w _ => he w
    have hd : Ideal.div 1 (∑ w, e w) = (∑ w, e w)⁻¹ := by
      unfold Ideal.div
      rw [if_neg hS, one_mul]
    have hg0 : 0 ≤ Ideal.div 1 (∑ w, e w) := by rw [hd]; exact EReal.inv_nonneg_of_nonneg hS0
    have hg1 : Ideal.div 1 (∑ w, e w) ≠ ⊤ := by
      rw [hd]
      generalize (∑ w, e w) = S at *
      induction S with
      | bot => simp
      | top => simp
      | coe r => rw [← EReal.coe_inv]; exact EReal.coe_ne_top _
    rw [sum_mul_of_nonneg _ _ _ hg0 hg1]
    refine Finset.sum_congr rfl fun w _ => ?_
    generalize Ideal.div 1 (∑ w, e w) = g
    generalize e w = x
    generalize v w = y
    generalize s w = z
    ac_rfl

/-- One row of the kernel's result is the reference's. -/
theorem wOut_eq (P : Fin 1024 → Fin 1024) (hP : Function.Injective P) (Q V : Fin 1024 → Fin 160 → EReal) (qs vs : Fin 1024 → EReal) (bk : Fin 1024 → BitVec 32)
    (d : Fin 160) (r : Fin 1024) :
    wOut Q (fun s => keyFactor (fun d s => Q s d) qs s) (bkNum bk) qs (fun d s => V s d * vs s) d r = rOut P Q V qs vs bk r d := by
  unfold wOut rOut
  have e : ∀ w, wEx Q (fun s => keyFactor (fun d s => Q s d) qs s) (bkNum bk) qs r w = rEx P Q qs bk r w := fun w => wEx_eq P hP Q qs bk r w
  simp only [e]
  exact div_after (fun w => rEx P Q qs bk r w) (fun w => V (key r w) d) (fun w => vs (key r w)) (fun w => exp_nonneg _)

end Cert.KernelIdeal.Hand

end
-- ==== Proof.RefRead.lean ====
/-
  How the reference moves its data: the look-ups along the sorted order, the windows of three chunks, and the writing back, each read at an index.
-/
module

public import proofs.«01_k».proof.Proof.Gen.ReferenceIdeal.Read
public import Idealize.ShloMosaic.Lib.Pointwise
public import Idealize.ShloMosaic.Lib.Routing.OpsSet

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.StableHlo

/-! ## Words that are positions -/

theorem toInt_ofNat (n : ℕ) (h : n < 1024) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem slt_ofNat (n : ℕ) (h : n < 1024) : IntOp.cmpi .slt (BitVec.ofNat 32 n) 0#32 = 0#1 := by
  have e := toInt_ofNat n h
  show BitVec.ofBool ((BitVec.ofNat 32 n).slt 0#32) = 0#1
  rw [BitVec.slt_iff_toInt_lt.not.mpr (by rw [e]; simp) |> eq_false_of_ne_true]
  rfl

/-! ## The look-ups -/

theorem gather_codes_apply {α : Type} (x : S2x28x1024x160.Idx → α) (idx : IVec S2x28x1024x1 32) (b : Fin 2) (h : Fin 28) (r : Fin 1024) (d : Fin 160) :
    Host.gather gather_S2x28x1024x160_S2x28x1024x1_S2x28x1024x160_3_2_01_01_2_3_111160 x idx (ix4 b h r d)
      = x (ix4 b h ⟨min (idx (ix4 b h r (0 : Fin 1))).toInt.toNat 1023, by omega⟩ d) := by
  unfold Host.gather
  congr 1
  funext a
  refine Fin.ext ?_
  show (GatherDims.start _ _ idx a) + GatherDims.batchCoord _ _ a + GatherDims.offCoord _ _ a = _
  have ha : a = 0 ∨ a = 1 ∨ a = 2 ∨ a = 3 := by
    match a with
    | ⟨0, _⟩ => simp
    | ⟨1, _⟩ => simp
    | ⟨2, _⟩ => simp
    | ⟨3, _⟩ => simp
  rcases ha with rfl | rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    have hsi : ∀ k, (gather_S2x28x1024x160_S2x28x1024x1_S2x28x1024x160_3_2_01_01_2_3_111160).siIdx (ix4 b h r d) k = ix4 b h r (0 : Fin 1) := by
      intro k
      have hk : k = ⟨0, by decide⟩ := Fin.ext (by have : k.val < 1 := k.isLt; show k.val = 0; omega)
      subst hk
      funext c; refine Fin.ext ?_
      match c with
      | ⟨0, _⟩ => rfl
      | ⟨1, _⟩ => rfl
      | ⟨2, _⟩ => rfl
      | ⟨3, _⟩ => rfl
    rw [hsi]
    rfl
  · rw [GatherDims.batchCoord_eq_zero _ _ _ (by decide)]
    unfold GatherDims.start
    rw [dif_neg (by decide)]
    simp only [Nat.zero_add, Nat.add_zero]
    unfold GatherDims.offCoord
    rw [dif_pos (by decide)]
    rfl

theorem gather_row_apply {α : Type} (x : S2x28x1024.Idx → α) (idx : IVec S2x28x1024x1 32) (b : Fin 2) (h : Fin 28) (r : Fin 1024) :
    Host.gather gather_S2x28x1024_S2x28x1024x1_S2x28x1024_n_2_01_01_2_3_111 x idx (ix3 b h r)
      = x (ix3 b h ⟨min (idx (ix4 b h r (0 : Fin 1))).toInt.toNat 1023, by omega⟩) := by
  unfold Host.gather
  congr 1
  funext a
  refine Fin.ext ?_
  show (GatherDims.start _ _ idx a) + GatherDims.batchCoord _ _ a + GatherDims.offCoord _ _ a = _
  have ha : a = 0 ∨ a = 1 ∨ a = 2 := by
    match a with
    | ⟨0, _⟩ => simp
    | ⟨1, _⟩ => simp
    | ⟨2, _⟩ => simp
  rcases ha with rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    have hsi : ∀ k, (gather_S2x28x1024_S2x28x1024x1_S2x28x1024_n_2_01_01_2_3_111).siIdx (ix3 b h r) k = ix4 b h r (0 : Fin 1) := by
      intro k
      have hk : k = ⟨0, by decide⟩ := Fin.ext (by have : k.val < 1 := k.isLt; show k.val = 0; omega)
      subst hk
      funext c; refine Fin.ext ?_
      match c with
      | ⟨0, _⟩ => rfl
      | ⟨1, _⟩ => rfl
      | ⟨2, _⟩ => rfl
      | ⟨3, _⟩ => rfl
    rw [hsi]
    rfl

/-! ## The sorted arrays -/

/-- Position `c` of chunk `n`, in the sorted order. -/
def cp (n : Fin 16) (c : Fin 64) : Fin 1024 := ⟨64 * n.val + c.val, by omega⟩

section
variable (x1 x3 : (⟨S2x1024x28, .f32⟩ : BufTy).Contents (Elt Ideal)) (x4 x5 : (⟨S2x28x1024, .i32⟩ : BufTy).Contents (Elt Ideal))
  (r0 r1 : (⟨S2x1024x28x160, .f32⟩ : BufTy).Contents (Elt Ideal))
  (p : Fin 2 → Fin 28 → Fin 1024 → Fin 1024) (hp : ∀ b h r, x5 (ix3 b h r) = BitVec.ofNat 32 (p b h r).val)

include hp

theorem call0_idx (b : Fin 2) (h : Fin 28) (r : Fin 1024) :
    val_main_call0_v4 (F := Ideal) x5 (ix4 b h r (0 : Fin 1)) = BitVec.ofNat 32 (p b h r).val := by
  rw [val_main_call0_v4_apply, val_main_call0_v1_apply, val_main_call0_v0_apply, val_main_call0_c_apply, val_main_v5_apply,
    show idx_main_v5 (ix4 b h r (0 : Fin 1)) = ix3 b h r from by
      funext a; match a with | ⟨0, _⟩ => rfl | ⟨1, _⟩ => rfl | ⟨2, _⟩ => rfl,
    hp, slt_ofNat _ (p b h r).isLt]
  rfl

theorem call1_idx (b : Fin 2) (h : Fin 28) (r : Fin 1024) :
    val_main_call1_v4 (F := Ideal) x5 (ix4 b h r (0 : Fin 1)) = BitVec.ofNat 32 (p b h r).val := by
  rw [val_main_call1_v4_apply, val_main_call1_v1_apply, val_main_call1_v0_apply, val_main_call1_c_apply, val_main_v5_apply,
    show idx_main_v5 (ix4 b h r (0 : Fin 1)) = ix3 b h r from by
      funext a; match a with | ⟨0, _⟩ => rfl | ⟨1, _⟩ => rfl | ⟨2, _⟩ => rfl,
    hp, slt_ofNat _ (p b h r).isLt]
  rfl

theorem call2_idx (b : Fin 2) (h : Fin 28) (r : Fin 1024) :
    val_main_call2_v5 (F := Ideal) x5 (ix4 b h r (0 : Fin 1)) = BitVec.ofNat 32 (p b h r).val := by
  rw [val_main_call2_v5_apply,
    show idx_main_call2_v5 (ix4 b h r (0 : Fin 1)) = ix3 b h r from by
      have hb := b.isLt; have hh := h.isLt; have hr := r.isLt
      funext a; refine Fin.ext ?_
      match a with
      | ⟨0, _⟩ => show (((b.val * 28 + h.val) * 1024 + r.val) * 1 + 0) / 28672 = b.val; omega
      | ⟨1, _⟩ => show (((b.val * 28 + h.val) * 1024 + r.val) * 1 + 0) / 1024 % 28 = h.val; omega
      | ⟨2, _⟩ => show (((b.val * 28 + h.val) * 1024 + r.val) * 1 + 0) % 1024 = r.val; omega,
    val_main_call2_v4_apply, val_main_call2_v1_apply, val_main_call2_v0_apply, val_main_call2_c_apply, hp, slt_ofNat _ (p b h r).isLt]
  rfl

theorem call3_idx (b : Fin 2) (h : Fin 28) (r : Fin 1024) :
    val_main_call3_v5 (F := Ideal) x5 (ix4 b h r (0 : Fin 1)) = BitVec.ofNat 32 (p b h r).val := by
  rw [val_main_call3_v5_apply,
    show idx_main_call3_v5 (ix4 b h r (0 : Fin 1)) = ix3 b h r from by
      have hb := b.isLt; have hh := h.isLt; have hr := r.isLt
      funext a; refine Fin.ext ?_
      match a with
      | ⟨0, _⟩ => show (((b.val * 28 + h.val) * 1024 + r.val) * 1 + 0) / 28672 = b.val; omega
      | ⟨1, _⟩ => show (((b.val * 28 + h.val) * 1024 + r.val) * 1 + 0) / 1024 % 28 = h.val; omega
      | ⟨2, _⟩ => show (((b.val * 28 + h.val) * 1024 + r.val) * 1 + 0) % 1024 = r.val; omega,
    val_main_call3_v4_apply, val_main_call3_v1_apply, val_main_call3_v0_apply, val_main_call3_c_apply, hp, slt_ofNat _ (p b h r).isLt]
  rfl

theorem call4_idx (b : Fin 2) (h : Fin 28) (r : Fin 1024) :
    val_main_call4_v5 (F := Ideal) x5 (ix4 b h r (0 : Fin 1)) = BitVec.ofNat 32 (p b h r).val := by
  rw [val_main_call4_v5_apply,
    show idx_main_call4_v5 (ix4 b h r (0 : Fin 1)) = ix3 b h r from by
      have hb := b.isLt; have hh := h.isLt; have hr := r.isLt
      funext a; refine Fin.ext ?_
      match a with
      | ⟨0, _⟩ => show (((b.val * 28 + h.val) * 1024 + r.val) * 1 + 0) / 28672 = b.val; omega
      | ⟨1, _⟩ => show (((b.val * 28 + h.val) * 1024 + r.val) * 1 + 0) / 1024 % 28 = h.val; omega
      | ⟨2, _⟩ => show (((b.val * 28 + h.val) * 1024 + r.val) * 1 + 0) % 1024 = r.val; omega,
    val_main_call4_v4_apply, val_main_call4_v1_apply, val_main_call4_v0_apply, val_main_call4_c_apply, hp, slt_ofNat _ (p b h r).isLt]
  rfl

theorem v7_at (b : Fin 2) (h : Fin 28) (n : Fin 16) (c : Fin 64) (d : Fin 160) :
    val_main_v7 (F := Ideal) x5 r0 (ix5 b h n c d) = r0 (ix4 b (p b h (cp n c)) h d) := by
  have hb := b.isLt; have hh := h.isLt; have hn := n.isLt; have hc := c.isLt; have hd := d.isLt
  rw [val_main_v7_apply, show idx_main_v7 (ix5 b h n c d) = ix4 b h (cp n c) d from by
      funext a; refine Fin.ext ?_
      match a with
      | ⟨0, _⟩ => show ((((b.val * 28 + h.val) * 16 + n.val) * 64 + c.val) * 160 + d.val) / 4587520 = b.val; omega
      | ⟨1, _⟩ => show ((((b.val * 28 + h.val) * 16 + n.val) * 64 + c.val) * 160 + d.val) / 163840 % 28 = h.val; omega
      | ⟨2, _⟩ => show ((((b.val * 28 + h.val) * 16 + n.val) * 64 + c.val) * 160 + d.val) / 160 % 1024 = 64 * n.val + c.val; omega
      | ⟨3, _⟩ => show ((((b.val * 28 + h.val) * 16 + n.val) * 64 + c.val) * 160 + d.val) % 160 = d.val; omega]
  generalize cp n c = r
  have hr := (p b h r).isLt
  unfold val_main_v6
  rw [gather_codes_apply, val_main_v1_apply]
  congr 1
  funext a; refine Fin.ext ?_
  match a with
  | ⟨0, _⟩ => rfl
  | ⟨1, _⟩ =>
    show min (val_main_call0_v4 (F := Ideal) x5 (ix4 b h r (0 : Fin 1))).toInt.toNat 1023 = (p b h r).val
    rw [call0_idx (hp := hp), toInt_ofNat _ hr, Int.toNat_natCast]; omega
  | ⟨2, _⟩ => rfl
  | ⟨3, _⟩ => rfl

theorem v9_at (b : Fin 2) (h : Fin 28) (n : Fin 16) (c : Fin 64) (d : Fin 160) :
    val_main_v9 (F := Ideal) x5 r1 (ix5 b h n c d) = r1 (ix4 b (p b h (cp n c)) h d) := by
  have hb := b.isLt; have hh := h.isLt; have hn := n.isLt; have hc := c.isLt; have hd := d.isLt
  rw [val_main_v9_apply, show idx_main_v9 (ix5 b h n c d) = ix4 b h (cp n c) d from by
      funext a; refine Fin.ext ?_
      match a with
      | ⟨0, _⟩ => show ((((b.val * 28 + h.val) * 16 + n.val) * 64 + c.val) * 160 + d.val) / 4587520 = b.val; omega
      | ⟨1, _⟩ => show ((((b.val * 28 + h.val) * 16 + n.val) * 64 + c.val) * 160 + d.val) / 163840 % 28 = h.val; omega
      | ⟨2, _⟩ => show ((((b.val * 28 + h.val) * 16 + n.val) * 64 + c.val) * 160 + d.val) / 160 % 1024 = 64 * n.val + c.val; omega
      | ⟨3, _⟩ => show ((((b.val * 28 + h.val) * 16 + n.val) * 64 + c.val) * 160 + d.val) % 160 = d.val; omega]
  generalize cp n c = r
  have hr := (p b h r).isLt
  unfold val_main_v8
  rw [gather_codes_apply, val_main_v2_apply]
  congr 1
  funext a; refine Fin.ext ?_
  match a with
  | ⟨0, _⟩ => rfl
  | ⟨1, _⟩ =>
    show min (val_main_call1_v4 (F := Ideal) x5 (ix4 b h r (0 : Fin 1))).toInt.toNat 1023 = (p b h r).val
    rw [call1_idx (hp := hp), toInt_ofNat _ hr, Int.toNat_natCast]; omega
  | ⟨2, _⟩ => rfl
  | ⟨3, _⟩ => rfl

theorem v11_at (b : Fin 2) (h : Fin 28) (n : Fin 16) (c : Fin 64) :
    val_main_v11 (F := Ideal) x1 x5 (ix4 b h n c) = x1 (ix3 b (p b h (cp n c)) h) := by
  have hb := b.isLt; have hh := h.isLt; have hn := n.isLt; have hc := c.isLt
  rw [val_main_v11_apply, show idx_main_v11 (ix4 b h n c) = ix3 b h (cp n c) from by
      funext a; refine Fin.ext ?_
      match a with
      | ⟨0, _⟩ => show (((b.val * 28 + h.val) * 16 + n.val) * 64 + c.val) / 28672 = b.val; omega
      | ⟨1, _⟩ => show (((b.val * 28 + h.val) * 16 + n.val) * 64 + c.val) / 1024 % 28 = h.val; omega
      | ⟨2, _⟩ => show (((b.val * 28 + h.val) * 16 + n.val) * 64 + c.val) % 1024 = 64 * n.val + c.val; omega]
  generalize cp n c = r
  have hr := (p b h r).isLt
  unfold val_main_v10
  rw [gather_row_apply, val_main_v3_apply]
  congr 1
  funext a; refine Fin.ext ?_
  match a with
  | ⟨0, _⟩ => rfl
  | ⟨1, _⟩ =>
    show min (val_main_call2_v5 (F := Ideal) x5 (ix4 b h r (0 : Fin 1))).toInt.toNat 1023 = (p b h r).val
    rw [call2_idx (hp := hp), toInt_ofNat _ hr, Int.toNat_natCast]; omega
  | ⟨2, _⟩ => rfl

theorem v13_at (b : Fin 2) (h : Fin 28) (n : Fin 16) (c : Fin 64) :
    val_main_v13 (F := Ideal) x3 x5 (ix4 b h n c) = x3 (ix3 b (p b h (cp n c)) h) := by
  have hb := b.isLt; have hh := h.isLt; have hn := n.isLt; have hc := c.isLt
  rw [val_main_v13_apply, show idx_main_v13 (ix4 b h n c) = ix3 b h (cp n c) from by
      funext a; refine Fin.ext ?_
      match a with
      | ⟨0, _⟩ => show (((b.val * 28 + h.val) * 16 + n.val) * 64 + c.val) / 28672 = b.val; omega
      | ⟨1, _⟩ => show (((b.val * 28 + h.val) * 16 + n.val) * 64 + c.val) / 1024 % 28 = h.val; omega
      | ⟨2, _⟩ => show (((b.val * 28 + h.val) * 16 + n.val) * 64 + c.val) % 1024 = 64 * n.val + c.val; omega]
  generalize cp n c = r
  have hr := (p b h r).isLt
  unfold val_main_v12
  rw [gather_row_apply, val_main_v4_apply]
  congr 1
  funext a; refine Fin.ext ?_
  match a with
  | ⟨0, _⟩ => rfl
  | ⟨1, _⟩ =>
    show min (val_main_call3_v5 (F := Ideal) x5 (ix4 b h r (0 : Fin 1))).toInt.toNat 1023 = (p b h r).val
    rw [call3_idx (hp := hp), toInt_ofNat _ hr, Int.toNat_natCast]; omega
  | ⟨2, _⟩ => rfl

theorem v15_at (b : Fin 2) (h : Fin 28) (n : Fin 16) (c : Fin 64) :
    val_main_v15 (F := Ideal) x4 x5 (ix4 b h n c) = x4 (ix3 b h (p b h (cp n c))) := by
  have hb := b.isLt; have hh := h.isLt; have hn := n.isLt; have hc := c.isLt
  rw [val_main_v15_apply, show idx_main_v15 (ix4 b h n c) = ix3 b h (cp n c) from by
      funext a; refine Fin.ext ?_
      match a with
      | ⟨0, _⟩ => show (((b.val * 28 + h.val) * 16 + n.val) * 64 + c.val) / 28672 = b.val; omega
      | ⟨1, _⟩ => show (((b.val * 28 + h.val) * 16 + n.val) * 64 + c.val) / 1024 % 28 = h.val; omega
      | ⟨2, _⟩ => show (((b.val * 28 + h.val) * 16 + n.val) * 64 + c.val) % 1024 = 64 * n.val + c.val; omega]
  generalize cp n c = r
  have hr := (p b h r).isLt
  unfold val_main_v14
  rw [gather_row_apply]
  congr 1
  funext a; refine Fin.ext ?_
  match a with
  | ⟨0, _⟩ => rfl
  | ⟨1, _⟩ => rfl
  | ⟨2, _⟩ =>
    show min (val_main_call4_v5 (F := Ideal) x5 (ix4 b h r (0 : Fin 1))).toInt.toNat 1023 = (p b h r).val
    rw [call4_idx (hp := hp), toInt_ofNat _ hr, Int.toNat_natCast]; omega

theorem v16_at (b : Fin 2) (h : Fin 28) (n : Fin 16) (c : Fin 64) :
    val_main_v16 (F := Ideal) x5 (ix4 b h n c) = BitVec.ofNat 32 (p b h (cp n c)).val := by
  have hb := b.isLt; have hh := h.isLt; have hn := n.isLt; have hc := c.isLt
  rw [val_main_v16_apply, show idx_main_v16 (ix4 b h n c) = ix3 b h (cp n c) from by
      funext a; refine Fin.ext ?_
      match a with
      | ⟨0, _⟩ => show (((b.val * 28 + h.val) * 16 + n.val) * 64 + c.val) / 28672 = b.val; omega
      | ⟨1, _⟩ => show (((b.val * 28 + h.val) * 16 + n.val) * 64 + c.val) / 1024 % 28 = h.val; omega
      | ⟨2, _⟩ => show (((b.val * 28 + h.val) * 16 + n.val) * 64 + c.val) % 1024 = 64 * n.val + c.val; omega, hp]

omit hp
end

/-! ## The windows -/

/-- The chunk of key `w` of chunk `n`'s window. -/
def wc (n : Fin 16) (w : Fin 192) : Fin 16 := ⟨(n.val + 15 + w.val / 64) % 16, Nat.mod_lt _ (by decide)⟩
/-- Its place in that chunk. -/
def wp (w : Fin 192) : Fin 64 := ⟨w.val % 64, Nat.mod_lt _ (by decide)⟩

theorem v32_at (x5 : (⟨S2x28x1024, .i32⟩ : BufTy).Contents (Elt Ideal)) (r0 : (⟨S2x1024x28x160, .f32⟩ : BufTy).Contents (Elt Ideal)) (b : Fin 2) (h : Fin 28) (n : Fin 16) (w : Fin 192) (d : Fin 160) :
    val_main_v32 (F := Ideal) x5 r0 (ix5 b h n w d) = val_main_v7 (F := Ideal) x5 r0 (ix5 b h (wc n w) (wp w) d) := by
  have hn := n.isLt; have hw := w.isLt
  unfold val_main_v32 val_main_v30 val_main_v31 val_main_call5_v0 val_main_call5_v1 val_main_call6_v0 val_main_call6_v1
  generalize val_main_v7 (F := Ideal) x5 r0 = y
  pointwise
  split_ifs <;> (congr 1; funext a; refine Fin.ext ?_; fin_cases a <;> simp [wc, wp] <;> omega)

theorem v35_at (x1 : (⟨S2x1024x28, .f32⟩ : BufTy).Contents (Elt Ideal)) (x5 : (⟨S2x28x1024, .i32⟩ : BufTy).Contents (Elt Ideal)) (r0 : (⟨S2x1024x28x160, .f32⟩ : BufTy).Contents (Elt Ideal)) (b : Fin 2) (h : Fin 28) (n : Fin 16) (w : Fin 192) :
    val_main_v35 (F := Ideal) x1 x5 r0 (ix4 b h n w) = val_main_v29 (F := Ideal) x1 x5 r0 (ix4 b h (wc n w) (wp w)) := by
  have hn := n.isLt; have hw := w.isLt
  unfold val_main_v35 val_main_v33 val_main_v34 val_main_call7_v0 val_main_call7_v1 val_main_call8_v0 val_main_call8_v1
  generalize val_main_v29 (F := Ideal) x1 x5 r0 = y
  pointwise
  split_ifs <;> (congr 1; funext a; refine Fin.ext ?_; fin_cases a <;> simp [wc, wp] <;> omega)

theorem v38_at (x5 : (⟨S2x28x1024, .i32⟩ : BufTy).Contents (Elt Ideal)) (r1 : (⟨S2x1024x28x160, .f32⟩ : BufTy).Contents (Elt Ideal)) (b : Fin 2) (h : Fin 28) (n : Fin 16) (w : Fin 192) (d : Fin 160) :
    val_main_v38 (F := Ideal) x5 r1 (ix5 b h n w d) = val_main_v9 (F := Ideal) x5 r1 (ix5 b h (wc n w) (wp w) d) := by
  have hn := n.isLt; have hw := w.isLt
  unfold val_main_v38 val_main_v36 val_main_v37 val_main_call9_v0 val_main_call9_v1 val_main_call10_v0 val_main_call10_v1
  generalize val_main_v9 (F := Ideal) x5 r1 = y
  pointwise
  split_ifs <;> (congr 1; funext a; refine Fin.ext ?_; fin_cases a <;> simp [wc, wp] <;> omega)

theorem v41_at (x3 : (⟨S2x1024x28, .f32⟩ : BufTy).Contents (Elt Ideal)) (x5 : (⟨S2x28x1024, .i32⟩ : BufTy).Contents (Elt Ideal)) (b : Fin 2) (h : Fin 28) (n : Fin 16) (w : Fin 192) :
    val_main_v41 (F := Ideal) x3 x5 (ix4 b h n w) = val_main_v13 (F := Ideal) x3 x5 (ix4 b h (wc n w) (wp w)) := by
  have hn := n.isLt; have hw := w.isLt
  unfold val_main_v41 val_main_v39 val_main_v40 val_main_call11_v0 val_main_call11_v1 val_main_call12_v0 val_main_call12_v1
  generalize val_main_v13 (F := Ideal) x3 x5 = y
  pointwise
  split_ifs <;> (congr 1; funext a; refine Fin.ext ?_; fin_cases a <;> simp [wc, wp] <;> omega)

theorem v44_at (x4 : (⟨S2x28x1024, .i32⟩ : BufTy).Contents (Elt Ideal)) (x5 : (⟨S2x28x1024, .i32⟩ : BufTy).Contents (Elt Ideal)) (b : Fin 2) (h : Fin 28) (n : Fin 16) (w : Fin 192) :
    val_main_v44 (F := Ideal) x4 x5 (ix4 b h n w) = val_main_v15 (F := Ideal) x4 x5 (ix4 b h (wc n w) (wp w)) := by
  have hn := n.isLt; have hw := w.isLt
  unfold val_main_v44 val_main_v42 val_main_v43 val_main_call13_v0 val_main_call13_v1 val_main_call14_v0 val_main_call14_v1
  generalize val_main_v15 (F := Ideal) x4 x5 = y
  pointwise
  split_ifs <;> (congr 1; funext a; refine Fin.ext ?_; fin_cases a <;> simp [wc, wp] <;> omega)

theorem v47_at (x5 : (⟨S2x28x1024, .i32⟩ : BufTy).Contents (Elt Ideal)) (b : Fin 2) (h : Fin 28) (n : Fin 16) (w : Fin 192) :
    val_main_v47 (F := Ideal) x5 (ix4 b h n w) = val_main_v16 (F := Ideal) x5 (ix4 b h (wc n w) (wp w)) := by
  have hn := n.isLt; have hw := w.isLt
  unfold val_main_v47 val_main_v45 val_main_v46 val_main_call15_v0 val_main_call15_v1 val_main_call16_v0 val_main_call16_v1
  generalize val_main_v16 (F := Ideal) x5 = y
  pointwise
  split_ifs <;> (congr 1; funext a; refine Fin.ext ?_; fin_cases a <;> simp [wc, wp] <;> omega)

end Cert.ReferenceIdeal.Hand

end
-- ==== Proof.RefScatter.lean ====
/-
  The reference's writing back: the sorted rows go to their original positions, each exactly once.
-/
module

public import proofs.«01_k».proof.Proof.RefRead

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.StableHlo

/-- Where an update lands: the three words it reads name the batch, the position and the head. -/
theorem resultIdx_eq (idx : IVec S2x28x1024x3 32) (b : Fin 2) (h : Fin 28) (r : Fin 1024) (d : Fin 160) (s : Fin 1024)
    (h0 : (idx (ix4 b h r (0 : Fin 3))).toInt = b.val) (h1 : (idx (ix4 b h r (1 : Fin 3))).toInt = s.val) (h2 : (idx (ix4 b h r (2 : Fin 3))).toInt = h.val) :
    ScatterDims.resultIdx? scatter_S2x1024x28x160_S2x28x1024x3_S2x28x1024x160_3_012_012_3 (ix4 b h r d) idx = some (ix4 b s h d) := by
  have hb := b.isLt; have hh := h.isLt; have hs := s.isLt; have hd := d.isLt
  have s0 : ScatterDims.start scatter_S2x1024x28x160_S2x28x1024x3_S2x28x1024x160_3_012_012_3 (ix4 b h r d) idx (0 : Fin 4) = b.val := by
    rw [← h0]
    unfold ScatterDims.start
    rw [dif_pos (by decide)]
    refine congrArg (fun k => (idx k).toInt) (funext fun a => Fin.ext ?_)
    match a with
    | ⟨0, _⟩ => rfl
    | ⟨1, _⟩ => rfl
    | ⟨2, _⟩ => rfl
    | ⟨3, _⟩ => rfl
  have s1 : ScatterDims.start scatter_S2x1024x28x160_S2x28x1024x3_S2x28x1024x160_3_012_012_3 (ix4 b h r d) idx (1 : Fin 4) = s.val := by
    rw [← h1]
    unfold ScatterDims.start
    rw [dif_pos (by decide)]
    refine congrArg (fun k => (idx k).toInt) (funext fun a => Fin.ext ?_)
    match a with
    | ⟨0, _⟩ => rfl
    | ⟨1, _⟩ => rfl
    | ⟨2, _⟩ => rfl
    | ⟨3, _⟩ => rfl
  have s2 : ScatterDims.start scatter_S2x1024x28x160_S2x28x1024x3_S2x28x1024x160_3_012_012_3 (ix4 b h r d) idx (2 : Fin 4) = h.val := by
    rw [← h2]
    unfold ScatterDims.start
    rw [dif_pos (by decide)]
    refine congrArg (fun k => (idx k).toInt) (funext fun a => Fin.ext ?_)
    match a with
    | ⟨0, _⟩ => rfl
    | ⟨1, _⟩ => rfl
    | ⟨2, _⟩ => rfl
    | ⟨3, _⟩ => rfl
  have s3 : ScatterDims.start scatter_S2x1024x28x160_S2x28x1024x3_S2x28x1024x160_3_012_012_3 (ix4 b h r d) idx (3 : Fin 4) = 0 := by
    unfold ScatterDims.start
    rw [dif_neg (by decide)]
  have w0 : ScatterDims.window scatter_S2x1024x28x160_S2x28x1024x3_S2x28x1024x160_3_012_012_3 (ix4 b h r d) (0 : Fin 4) = 0 := by
    unfold ScatterDims.window
    rw [dif_neg (by decide)]
  have w1 : ScatterDims.window scatter_S2x1024x28x160_S2x28x1024x3_S2x28x1024x160_3_012_012_3 (ix4 b h r d) (1 : Fin 4) = 0 := by
    unfold ScatterDims.window
    rw [dif_neg (by decide)]
  have w2 : ScatterDims.window scatter_S2x1024x28x160_S2x28x1024x3_S2x28x1024x160_3_012_012_3 (ix4 b h r d) (2 : Fin 4) = 0 := by
    unfold ScatterDims.window
    rw [dif_neg (by decide)]
  have w3 : ScatterDims.window scatter_S2x1024x28x160_S2x28x1024x3_S2x28x1024x160_3_012_012_3 (ix4 b h r d) (3 : Fin 4) = d.val := by
    unfold ScatterDims.window
    rw [dif_pos (by decide)]
    rfl
  have key : ∀ a : Fin 4, ScatterDims.start scatter_S2x1024x28x160_S2x28x1024x3_S2x28x1024x160_3_012_012_3 (ix4 b h r d) idx a + ScatterDims.window scatter_S2x1024x28x160_S2x28x1024x3_S2x28x1024x160_3_012_012_3 (ix4 b h r d) a = (((ix4 b s h d : S2x1024x28x160.Idx) a).val : ℤ) := by
    intro a
    have ha : a = 0 ∨ a = 1 ∨ a = 2 ∨ a = 3 := by
      match a with
      | ⟨0, _⟩ => simp
      | ⟨1, _⟩ => simp
      | ⟨2, _⟩ => simp
      | ⟨3, _⟩ => simp
    rcases ha with rfl | rfl | rfl | rfl
    · rw [s0, w0]; show (b.val : ℤ) + ((0 : ℕ) : ℤ) = b.val; omega
    · rw [s1, w1]; show (s.val : ℤ) + ((0 : ℕ) : ℤ) = s.val; omega
    · rw [s2, w2]; show (h.val : ℤ) + ((0 : ℕ) : ℤ) = h.val; omega
    · rw [s3, w3]; show (0 : ℤ) + (d.val : ℤ) = d.val; omega
  unfold ScatterDims.resultIdx?
  rw [dif_pos (fun a => by
    rw [key a]
    have := ((ix4 b s h d : S2x1024x28x160.Idx) a).isLt
    exact ⟨Int.natCast_nonneg _, by exact_mod_cast this⟩)]
  refine congrArg some (funext fun a => Fin.ext ?_)
  show (ScatterDims.start scatter_S2x1024x28x160_S2x28x1024x3_S2x28x1024x160_3_012_012_3 (ix4 b h r d) idx a + ScatterDims.window scatter_S2x1024x28x160_S2x28x1024x3_S2x28x1024x160_3_012_012_3 (ix4 b h r d) a).toNat = _
  rw [key a, Int.toNat_natCast]

section
variable (x1 x3 : (⟨S2x1024x28, .f32⟩ : BufTy).Contents (Elt Ideal)) (x4 x5 : (⟨S2x28x1024, .i32⟩ : BufTy).Contents (Elt Ideal))
  (r0 r1 : (⟨S2x1024x28x160, .f32⟩ : BufTy).Contents (Elt Ideal))
  (p : Fin 2 → Fin 28 → Fin 1024 → Fin 1024) (hp : ∀ b h r, x5 (ix3 b h r) = BitVec.ofNat 32 (p b h r).val)

theorem v107_at (b : Fin 2) (h : Fin 28) (r : Fin 1024) :
    val_main_v107 (F := Ideal) (ix4 b h r (0 : Fin 1)) = BitVec.ofNat 32 b.val := by
  rw [val_main_v107_apply, val_main_v105_apply, val_main_v94_apply, val_main_v91_apply, val_main_v90_apply, val_main_c_apply, val_main_v86_apply, val_main_v85_apply]
  rw [show idx_main_v86 (idx_main_v105 (idx_main_v107 (ix4 b h r (0 : Fin 1)))) 0 = b from rfl, show IntOp.cmpi .slt _ 0#32 = 0#1 from slt_ofNat b.val (by omega)]
  rfl

theorem v109_at (b : Fin 2) (h : Fin 28) (r : Fin 1024) :
    val_main_v109 (F := Ideal) (ix4 b h r (0 : Fin 1)) = BitVec.ofNat 32 h.val := by
  rw [val_main_v109_apply, val_main_v106_apply, val_main_v104_apply, val_main_v101_apply, val_main_v100_apply, val_main_c_12_apply, val_main_v88_apply, val_main_v87_apply]
  rw [show idx_main_v88 (idx_main_v106 (idx_main_v109 (ix4 b h r (0 : Fin 1)))) 0 = h from rfl, show IntOp.cmpi .slt _ 0#32 = 0#1 from slt_ofNat h.val (by omega)]
  rfl

include hp in
theorem v108_at (b : Fin 2) (h : Fin 28) (r : Fin 1024) :
    val_main_v108 (F := Ideal) x5 (ix4 b h r (0 : Fin 1)) = BitVec.ofNat 32 (p b h r).val := by
  rw [val_main_v108_apply, show idx_main_v108 (ix4 b h r (0 : Fin 1)) = ix3 b h r from by
      funext a; match a with | ⟨0, _⟩ => rfl | ⟨1, _⟩ => rfl | ⟨2, _⟩ => rfl,
    val_main_v99_apply, val_main_v96_apply, val_main_v95_apply, val_main_c_10_apply, hp, slt_ofNat _ (p b h r).isLt]
  rfl

include hp in
theorem v110_at (b : Fin 2) (h : Fin 28) (r : Fin 1024) :
    val_main_v110 (F := Ideal) x5 (ix4 b h r (0 : Fin 3)) = BitVec.ofNat 32 b.val
    ∧ val_main_v110 (F := Ideal) x5 (ix4 b h r (1 : Fin 3)) = BitVec.ofNat 32 (p b h r).val
    ∧ val_main_v110 (F := Ideal) x5 (ix4 b h r (2 : Fin 3)) = BitVec.ofNat 32 h.val := by
  have e0 := v107_at b h r
  have e1 := v108_at x5 p hp b h r
  have e2 := v109_at b h r
  unfold val_main_v110
  generalize val_main_v107 (F := Ideal) = y0 at *
  generalize val_main_v108 (F := Ideal) x5 = y1 at *
  generalize val_main_v109 (F := Ideal) = y2 at *
  refine ⟨?_, ?_, ?_⟩
  · rw [← e0]; pointwise
  · rw [← e1]; pointwise
  · rw [← e2]; pointwise

include hp in
theorem lands (b : Fin 2) (h : Fin 28) (r : Fin 1024) (d : Fin 160) :
    ScatterDims.resultIdx? scatter_S2x1024x28x160_S2x28x1024x3_S2x28x1024x160_3_012_012_3 (ix4 b h r d) (val_main_v110 (F := Ideal) x5) = some (ix4 b (p b h r) h d) := by
  obtain ⟨e0, e1, e2⟩ := v110_at x5 p hp b h r
  exact resultIdx_eq _ b h r d (p b h r) (by rw [e0, toInt_ofNat _ (by omega)]) (by rw [e1, toInt_ofNat _ (by omega)]) (by rw [e2, toInt_ofNat _ (by omega)])

include hp in
/-- The scattered array: sorted row `r` at its original position. -/
theorem v111_at (hinj : ∀ b h, Function.Injective (p b h)) (b : Fin 2) (h : Fin 28) (r : Fin 1024) (d : Fin 160) :
    val_main_v111 (F := Ideal) x1 x3 x4 x5 r0 r1 (ix4 b (p b h r) h d) = val_main_v84 (F := Ideal) x1 x3 x4 x5 r0 r1 (ix4 b h r d) := by
  unfold val_main_v111
  generalize val_main_v84 (F := Ideal) x1 x3 x4 x5 r0 r1 = U
  refine Routing.scatter_set_hit _ _ _ U _ _ (fun k hk => ?_) (ix4 b h r d) (lands x5 p hp b h r d)
  obtain ⟨b', h', r', d', rfl⟩ : ∃ (b' : Fin 2) (h' : Fin 28) (r' : Fin 1024) (d' : Fin 160), k = ix4 b' h' r' d' := ⟨k 0, k 1, k 2, k 3, (ix4_eta k).symm⟩
  rw [lands x5 p hp] at hk
  have e := Option.some.inj hk
  have q0 : b' = b := congrFun e 0
  have q1 : p b' h' r' = p b h r := congrFun e 1
  have q2 : h' = h := congrFun e 2
  have q3 : d' = d := congrFun e 3
  subst q0 q2 q3
  rw [hinj _ _ q1]

include hp in
/-- The result: sorted row `r` of head `h` in columns `160 h …` of the row of its original position. -/
theorem v113_at (hinj : ∀ b h, Function.Injective (p b h)) (b : Fin 2) (h : Fin 28) (r : Fin 1024) (d : Fin 160) (e : Fin 4480) (he : e.val = 160 * h.val + d.val) :
    val_main_v113 (F := Ideal) x1 x3 x4 x5 r0 r1 (ix3 b (p b h r) e) = val_main_v84 (F := Ideal) x1 x3 x4 x5 r0 r1 (ix4 b h r d) := by
  rw [val_main_v113_apply, val_main_v112_apply, ← v111_at x1 x3 x4 x5 r0 r1 p hp hinj b h r d]
  generalize p b h r = s
  have hb := b.isLt; have hh := h.isLt; have hs := s.isLt; have hd := d.isLt
  show val_main_v111 (F := Ideal) x1 x3 x4 x5 r0 r1 _ = _
  refine congrArg _ (funext fun a => Fin.ext ?_)
  match a with
  | ⟨0, _⟩ => show ((b.val * 1024 + s.val) * 4480 + e.val) / 4587520 = b.val; omega
  | ⟨1, _⟩ => show ((b.val * 1024 + s.val) * 4480 + e.val) / 4480 % 1024 = s.val; omega
  | ⟨2, _⟩ => show ((b.val * 1024 + s.val) * 4480 + e.val) / 160 % 28 = h.val; omega
  | ⟨3, _⟩ => show ((b.val * 1024 + s.val) * 4480 + e.val) % 160 = d.val; omega

end

end Cert.ReferenceIdeal.Hand

end
-- ==== Proof.RefScore.lean ====
/-
  The reference's scores, weights and sums, stage by stage at an index.
-/
module

public import proofs.«01_k».proof.Proof.RefRead
public import proofs.«01_k».proof.Proof.RefModel

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.StableHlo

theorem cp_wc (n : Fin 16) (c : Fin 64) (w : Fin 192) : cp (wc n w) (wp w) = win (cp n c) w := by
  have hn := n.isLt; have hc := c.isLt; have hw := w.isLt
  refine Fin.ext ?_
  show 64 * ((n.val + 15 + w.val / 64) % 16) + w.val % 64 = (((64 * n.val + c.val) / 64 + 15) * 64 + w.val) % 1024
  omega

theorem ofBits_zero32 : Ideal.ofBits .f32 0x00000000#32 = 0 := by simp [Ideal.ofBits, Ideal.ieee]
theorem ofBits_one32 : Ideal.ofBits .f32 0x3F800000#32 = 1 := by
  simp [Ideal.ofBits, Ideal.ieee, -EReal.coe_mul]; norm_num
theorem ofBits_negInf32 : Ideal.ofBits .f32 0xFF800000#32 = ⊥ := by simp [Ideal.ofBits, Ideal.ieee]

/-- The maximum over the last axis from −∞ is the supremum. -/
theorem reduceMax_apply (x : FVec Ideal S2x28x16x64x192 .f32) (hr : S2x28x16x64x192.ReducesTo [4] S2x28x16x64) (hu : 0 < S_.numel)
    (b : Fin 2) (h : Fin 28) (n : Fin 16) (c : Fin 64) :
    Host.reduce FloatOps.maximumf x (constant S_ .f32 0xFF800000#32) hr hu (ix4 b h n c)
      = Finset.univ.sup fun w : Fin 192 => x (ix5 b h n c w) := by
  have h' : S2x28x16x64x192.Reduces [4] S2x28x16x64 := ⟨hr.1, by decide, hr.2⟩
  rw [Host.reduce_eq_fold_single FloatOps.maximumf x _ hr h' hu]
  have hf : (x ∘ h'.lift (ix4 b h n c)) = fun w : Fin 192 => x (ix5 b h n c w) := funext fun k => congrArg x (by
    funext a; apply Fin.ext
    fin_cases a <;> rfl)
  refine (congrArg (fun f => Finset.fold max (Ideal.ofBits .f32 0xFF800000#32) f (Finset.univ : Finset (Fin 192))) hf).trans ?_
  rw [ofBits_negInf32]
  rfl

section
variable (x1 x3 : (⟨S2x1024x28, .f32⟩ : BufTy).Contents (Elt Ideal)) (x4 x5 : (⟨S2x28x1024, .i32⟩ : BufTy).Contents (Elt Ideal))
  (r0 r1 : (⟨S2x1024x28x160, .f32⟩ : BufTy).Contents (Elt Ideal))
  (p : Fin 2 → Fin 28 → Fin 1024 → Fin 1024) (hp : ∀ b h r, x5 (ix3 b h r) = BitVec.ofNat 32 (p b h r).val)

/-- The rows of the codes, scales and buckets of one head, in sorted order. -/
def rows4 (p : Fin 2 → Fin 28 → Fin 1024 → Fin 1024) (x : (⟨S2x1024x28x160, .f32⟩ : BufTy).Contents (Elt Ideal)) (b : Fin 2) (h : Fin 28) (s : Fin 1024) (d : Fin 160) : EReal := x (ix4 b (p b h s) h d)
def rows3 (p : Fin 2 → Fin 28 → Fin 1024 → Fin 1024) (x : (⟨S2x1024x28, .f32⟩ : BufTy).Contents (Elt Ideal)) (b : Fin 2) (h : Fin 28) (s : Fin 1024) : EReal := x (ix3 b (p b h s) h)
def rowsB (p : Fin 2 → Fin 28 → Fin 1024 → Fin 1024) (x : (⟨S2x28x1024, .i32⟩ : BufTy).Contents (Elt Ideal)) (b : Fin 2) (h : Fin 28) (s : Fin 1024) : BitVec 32 := x (ix3 b h (p b h s))

include hp

theorem v29_at (b : Fin 2) (h : Fin 28) (n : Fin 16) (c : Fin 64) :
    val_main_v29 (F := Ideal) x1 x5 r0 (ix4 b h n c) = rF (rows4 p r0 b h) (rows3 p x1 b h) (cp n c) := by
  rw [val_main_v29_apply, val_main_v26_apply, val_main_v25_apply, val_main_v24_apply, val_main_v22_apply, val_main_v21_apply, val_main_v20_apply, val_main_v18_apply,
    val_main_v28_apply, val_main_v27_apply, val_main_cst_2_apply, val_main_v23_apply, val_main_cst_1_apply, val_main_v19_apply, val_main_cst_0_apply, val_main_cst_apply,
    v11_at (hp := hp)]
  have e : ∀ k : Fin 160, val_main_v17 (F := Ideal) x5 r0 (idx_main_v18 (ix4 b h n c) k) = rows4 p r0 b h (cp n c) k * rows4 p r0 b h (cp n c) k := fun k => by
    rw [val_main_v17_apply, show idx_main_v18 (ix4 b h n c) k = ix5 b h n c k from by
      funext a; match a with | ⟨0, _⟩ => rfl | ⟨1, _⟩ => rfl | ⟨2, _⟩ => rfl | ⟨3, _⟩ => rfl | ⟨4, _⟩ => rfl, v7_at (hp := hp)]
    rfl
  rw [Finset.sum_congr rfl fun k _ => e k]
  unfold rF
  generalize (∑ k, rows4 p r0 b h (cp n c) k * rows4 p r0 b h (cp n c) k) = S
  show Ideal.div (x1 (ix3 b (p b h (cp n c)) h) * Ideal.rsqrt (x1 (ix3 b (p b h (cp n c)) h) * x1 (ix3 b (p b h (cp n c)) h)
      * Ideal.div (Ideal.ofBits .f32 0x00000000#32 + S) (Ideal.ofBits .f32 0x43200000#32) + Ideal.ofBits .f32 0x358637BD#32)) (Ideal.sqrt (Ideal.ofBits .f32 0x43200000#32)) = _
  rw [ofBits_zero32, zero_add]
  rfl

theorem v54_at (b : Fin 2) (h : Fin 28) (n : Fin 16) (c : Fin 64) (w : Fin 192) :
    val_main_v54 (F := Ideal) x1 x5 r0 (ix5 b h n c w)
      = (∑ d, rows4 p r0 b h (cp n c) d * rows4 p r0 b h (win (cp n c) w) d) * rows3 p x1 b h (cp n c) * rF (rows4 p r0 b h) (rows3 p x1 b h) (win (cp n c) w) := by
  rw [val_main_v54_apply, val_main_v51_apply, val_main_v48_apply, val_main_v50_apply, val_main_v49_apply, val_main_v53_apply, val_main_v52_apply,
    show idx_main_v49 (idx_main_v50 (ix5 b h n c w)) = ix4 b h n c from by
      funext a; match a with | ⟨0, _⟩ => rfl | ⟨1, _⟩ => rfl | ⟨2, _⟩ => rfl | ⟨3, _⟩ => rfl,
    show idx_main_v52 (idx_main_v53 (ix5 b h n c w)) = ix4 b h n w from by
      funext a; match a with | ⟨0, _⟩ => rfl | ⟨1, _⟩ => rfl | ⟨2, _⟩ => rfl | ⟨3, _⟩ => rfl,
    v11_at (hp := hp), v35_at, v29_at (hp := hp), cp_wc n c w]
  have e : ∀ k : Fin 160, val_main_v7 (F := Ideal) x5 r0 (lidx_main_v48 (ix5 b h n c w) k) * val_main_v32 (F := Ideal) x5 r0 (ridx_main_v48 (ix5 b h n c w) k)
      = rows4 p r0 b h (cp n c) k * rows4 p r0 b h (win (cp n c) w) k := fun k => by
    rw [show lidx_main_v48 (ix5 b h n c w) k = ix5 b h n c k from by
        funext a; match a with | ⟨0, _⟩ => rfl | ⟨1, _⟩ => rfl | ⟨2, _⟩ => rfl | ⟨3, _⟩ => rfl | ⟨4, _⟩ => rfl,
      show ridx_main_v48 (ix5 b h n c w) k = ix5 b h n w k from by
        funext a; match a with | ⟨0, _⟩ => rfl | ⟨1, _⟩ => rfl | ⟨2, _⟩ => rfl | ⟨3, _⟩ => rfl | ⟨4, _⟩ => rfl,
      v7_at (hp := hp), v32_at, v7_at (hp := hp), cp_wc n c w]
    rfl
  rw [Finset.sum_congr rfl fun k _ => e k]
  rfl

theorem v59_at (b : Fin 2) (h : Fin 28) (n : Fin 16) (c : Fin 64) (w : Fin 192) :
    val_main_v59 (F := Ideal) x5 (ix5 b h n c w) = if p b h (cp n c) = p b h (win (cp n c) w) then 1#1 else 0#1 := by
  rw [val_main_v59_apply, val_main_v57_apply, val_main_v55_apply, val_main_v58_apply, val_main_v56_apply,
    show idx_main_v55 (idx_main_v57 (ix5 b h n c w)) = ix4 b h n c from by
      funext a; match a with | ⟨0, _⟩ => rfl | ⟨1, _⟩ => rfl | ⟨2, _⟩ => rfl | ⟨3, _⟩ => rfl,
    show idx_main_v56 (idx_main_v58 (ix5 b h n c w)) = ix4 b h n w from by
      funext a; match a with | ⟨0, _⟩ => rfl | ⟨1, _⟩ => rfl | ⟨2, _⟩ => rfl | ⟨3, _⟩ => rfl,
    v16_at (hp := hp), v47_at, v16_at (hp := hp), cp_wc n c w]
  show BitVec.ofBool (BitVec.ofNat 32 _ == BitVec.ofNat 32 _) = _
  by_cases e : p b h (cp n c) = p b h (win (cp n c) w)
  · rw [if_pos e, e]; simp
  · rw [if_neg e]
    have : (BitVec.ofNat 32 (p b h (cp n c)).val == BitVec.ofNat 32 (p b h (win (cp n c) w)).val) = false := by
      rw [beq_eq_false_iff_ne]
      intro q
      have q' := congrArg BitVec.toInt q
      rw [toInt_ofNat _ (by omega), toInt_ofNat _ (by omega)] at q'
      exact e (Fin.ext (by exact_mod_cast q'))
    rw [this]; rfl

theorem v64_at (b : Fin 2) (h : Fin 28) (n : Fin 16) (c : Fin 64) (w : Fin 192) :
    val_main_v64 (F := Ideal) x4 x5 (ix5 b h n c w) = if rowsB p x4 b h (cp n c) ≠ rowsB p x4 b h (win (cp n c) w) then 1#1 else 0#1 := by
  rw [val_main_v64_apply, val_main_v62_apply, val_main_v60_apply, val_main_v63_apply, val_main_v61_apply,
    show idx_main_v60 (idx_main_v62 (ix5 b h n c w)) = ix4 b h n c from by
      funext a; match a with | ⟨0, _⟩ => rfl | ⟨1, _⟩ => rfl | ⟨2, _⟩ => rfl | ⟨3, _⟩ => rfl,
    show idx_main_v61 (idx_main_v63 (ix5 b h n c w)) = ix4 b h n w from by
      funext a; match a with | ⟨0, _⟩ => rfl | ⟨1, _⟩ => rfl | ⟨2, _⟩ => rfl | ⟨3, _⟩ => rfl,
    v15_at (hp := hp), v44_at, v15_at (hp := hp), cp_wc n c w]
  show BitVec.ofBool (x4 (ix3 b h (p b h (cp n c))) != x4 (ix3 b h (p b h (win (cp n c) w)))) = if x4 (ix3 b h (p b h (cp n c))) ≠ x4 (ix3 b h (p b h (win (cp n c) w))) then 1#1 else 0#1
  by_cases e : x4 (ix3 b h (p b h (cp n c))) = x4 (ix3 b h (p b h (win (cp n c) w)))
  · rw [if_neg (not_not.mpr e), bne_eq_false_iff_eq.mpr e]; rfl
  · rw [if_pos e, bne_iff_ne.mpr e]; rfl

theorem v66_at (b : Fin 2) (h : Fin 28) (n : Fin 16) (c : Fin 64) (w : Fin 192) :
    val_main_v66 (F := Ideal) x1 x4 x5 r0 (ix5 b h n c w)
      = rSc (p b h) (rows4 p r0 b h) (rows3 p x1 b h) (rowsB p x4 b h) (cp n c) (win (cp n c) w) := by
  rw [val_main_v66_apply, val_main_v65_apply, v59_at (hp := hp), v64_at (hp := hp), v54_at (hp := hp), val_main_call17_v1_apply, val_main_call18_v1_apply,
    val_main_call17_v0_apply, val_main_call18_v0_apply, val_main_cst_3_apply, val_main_cst_4_apply]
  unfold rSc
  split_ifs <;> rfl

theorem v67_at (b : Fin 2) (h : Fin 28) (n : Fin 16) (c : Fin 64) :
    val_main_v67 (F := Ideal) x1 x4 x5 r0 (ix4 b h n c) = rMx (p b h) (rows4 p r0 b h) (rows3 p x1 b h) (rowsB p x4 b h) (cp n c) := by
  have e : (fun w : Fin 192 => val_main_v66 (F := Ideal) x1 x4 x5 r0 (ix5 b h n c w))
      = fun w => rSc (p b h) (rows4 p r0 b h) (rows3 p x1 b h) (rowsB p x4 b h) (cp n c) (win (cp n c) w) := funext fun w => v66_at (hp := hp) ..
  unfold val_main_v67 val_main_cst_5 rMx
  rw [reduceMax_apply, e]

theorem v71_at (b : Fin 2) (h : Fin 28) (n : Fin 16) (c : Fin 64) (w : Fin 192) :
    val_main_v71 (F := Ideal) x1 x4 x5 r0 (ix5 b h n c w) = rEx (p b h) (rows4 p r0 b h) (rows3 p x1 b h) (rowsB p x4 b h) (cp n c) w := by
  rw [val_main_v71_apply, val_main_v70_apply, val_main_v69_apply, val_main_v68_apply,
    show idx_main_v68 (idx_main_v69 (ix5 b h n c w)) = ix4 b h n c from by
      funext a; match a with | ⟨0, _⟩ => rfl | ⟨1, _⟩ => rfl | ⟨2, _⟩ => rfl | ⟨3, _⟩ => rfl,
    v66_at (hp := hp), v67_at (hp := hp)]
  rfl

theorem v72_at (b : Fin 2) (h : Fin 28) (n : Fin 16) (c : Fin 64) :
    val_main_v72 (F := Ideal) x1 x4 x5 r0 (ix4 b h n c) = ∑ w, rEx (p b h) (rows4 p r0 b h) (rows3 p x1 b h) (rowsB p x4 b h) (cp n c) w := by
  rw [val_main_v72_apply, val_main_cst_6_apply]
  have e : ∀ k : Fin 192, val_main_v71 (F := Ideal) x1 x4 x5 r0 (idx_main_v72 (ix4 b h n c) k) = rEx (p b h) (rows4 p r0 b h) (rows3 p x1 b h) (rowsB p x4 b h) (cp n c) k := fun k => by
    rw [show idx_main_v72 (ix4 b h n c) k = ix5 b h n c k from by
      funext a; match a with | ⟨0, _⟩ => rfl | ⟨1, _⟩ => rfl | ⟨2, _⟩ => rfl | ⟨3, _⟩ => rfl | ⟨4, _⟩ => rfl, v71_at (hp := hp)]
  rw [Finset.sum_congr rfl fun k _ => e k]
  show Ideal.ofBits .f32 0x00000000#32 + _ = _
  rw [ofBits_zero32, zero_add]

theorem v81_at (b : Fin 2) (h : Fin 28) (n : Fin 16) (c : Fin 64) (w : Fin 192) :
    val_main_v81 (F := Ideal) x1 x3 x4 x5 r0 (ix5 b h n c w)
      = rEx (p b h) (rows4 p r0 b h) (rows3 p x1 b h) (rowsB p x4 b h) (cp n c) w
        * Ideal.div 1 (∑ w', rEx (p b h) (rows4 p r0 b h) (rows3 p x1 b h) (rowsB p x4 b h) (cp n c) w') * rows3 p x3 b h (win (cp n c) w) := by
  rw [val_main_v81_apply, val_main_v80_apply, val_main_v77_apply, val_main_v76_apply, val_main_v75_apply, val_main_v74_apply, val_main_cst_7_apply, val_main_v73_apply,
    val_main_v79_apply, val_main_v78_apply,
    show idx_main_v73 (idx_main_v76 (ix5 b h n c w)) = ix4 b h n c from by
      funext a; match a with | ⟨0, _⟩ => rfl | ⟨1, _⟩ => rfl | ⟨2, _⟩ => rfl | ⟨3, _⟩ => rfl,
    show idx_main_v78 (idx_main_v79 (ix5 b h n c w)) = ix4 b h n w from by
      funext a; match a with | ⟨0, _⟩ => rfl | ⟨1, _⟩ => rfl | ⟨2, _⟩ => rfl | ⟨3, _⟩ => rfl,
    v71_at (hp := hp), v72_at (hp := hp), v41_at, v13_at (hp := hp), cp_wc n c w]
  show _ * Ideal.div (Ideal.ofBits .f32 0x3F800000#32) _ * _ = _
  rw [ofBits_one32]
  rfl

theorem v83_at (b : Fin 2) (h : Fin 28) (n : Fin 16) (c : Fin 64) (d : Fin 160) :
    val_main_v83 (F := Ideal) x1 x3 x4 x5 r0 r1 (ix5 b h n c d)
      = rOut (p b h) (rows4 p r0 b h) (rows4 p r1 b h) (rows3 p x1 b h) (rows3 p x3 b h) (rowsB p x4 b h) (cp n c) d := by
  rw [val_main_v83_apply]
  refine Finset.sum_congr rfl fun k _ => ?_
  rw [show lidx_main_v83 (ix5 b h n c d) k = ix5 b h n c k from by
      funext a; match a with | ⟨0, _⟩ => rfl | ⟨1, _⟩ => rfl | ⟨2, _⟩ => rfl | ⟨3, _⟩ => rfl | ⟨4, _⟩ => rfl,
    show ridx_main_v83 (ix5 b h n c d) k = ix5 b h n k d from by
      funext a; match a with | ⟨0, _⟩ => rfl | ⟨1, _⟩ => rfl | ⟨2, _⟩ => rfl | ⟨3, _⟩ => rfl | ⟨4, _⟩ => rfl,
    v81_at (hp := hp), val_main_v82_apply]
  show _ * val_main_v38 (F := Ideal) x5 r1 (ix5 b h n k d) = _
  rw [v38_at, v9_at (hp := hp), cp_wc n c k]
  rfl

theorem v84_at (b : Fin 2) (h : Fin 28) (r : Fin 1024) (d : Fin 160) :
    val_main_v84 (F := Ideal) x1 x3 x4 x5 r0 r1 (ix4 b h r d)
      = rOut (p b h) (rows4 p r0 b h) (rows4 p r1 b h) (rows3 p x1 b h) (rows3 p x3 b h) (rowsB p x4 b h) r d := by
  have hb := b.isLt; have hh := h.isLt; have hr := r.isLt; have hd := d.isLt
  have e : idx_main_v84 (ix4 b h r d) = ix5 b h (⟨r.val / 64, by omega⟩ : Fin 16) (⟨r.val % 64, by omega⟩ : Fin 64) d := by
    funext a; refine Fin.ext ?_
    match a with
    | ⟨0, _⟩ => show (((b.val * 28 + h.val) * 1024 + r.val) * 160 + d.val) / 4587520 = b.val; omega
    | ⟨1, _⟩ => show (((b.val * 28 + h.val) * 1024 + r.val) * 160 + d.val) / 163840 % 28 = h.val; omega
    | ⟨2, _⟩ => show (((b.val * 28 + h.val) * 1024 + r.val) * 160 + d.val) / 10240 % 16 = r.val / 64; omega
    | ⟨3, _⟩ => show (((b.val * 28 + h.val) * 1024 + r.val) * 160 + d.val) / 160 % 64 = r.val % 64; omega
    | ⟨4, _⟩ => show (((b.val * 28 + h.val) * 1024 + r.val) * 160 + d.val) % 160 = d.val; omega
  have q : cp (⟨r.val / 64, by omega⟩ : Fin 16) (⟨r.val % 64, by omega⟩ : Fin 64) = r := Fin.ext (by show 64 * (r.val / 64) + r.val % 64 = r.val; omega)
  rw [val_main_v84_apply, e, v83_at (hp := hp), q]

end

end Cert.ReferenceIdeal.Hand

end
-- ==== Proof.Algebraic.lean ====
/-
  Kernel and reference agree: the array the call leaves is the reference's result, element by element.
-/
module

public import proofs.«01_k».proof.Proof.ArrayVal
public import proofs.«01_k».proof.Proof.SoftEq
public import proofs.«01_k».proof.Proof.RefScatter
public import proofs.«01_k».proof.Proof.RefScore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.ReferenceIdeal.Hand (rOut rows4 rows3 rowsB)

variable (m : (ℓ : Loc nD τ sig) → Buf (Elt Ideal) ℓ) (c : Dev nD)

/-- One head's row, from the arguments, is the reference's. -/
theorem headVal_eq (a0 a2 : S2x1024x28x160.Idx → EReal) (a1 a3 : S2x1024x28.Idx → EReal) (a4 : S2x28x1024.Idx → BitVec 32)
    (p : Fin 2 → Fin 28 → Fin 1024 → Fin 1024) (hinj : ∀ b h, Function.Injective (p b h)) (b : Fin 2) (h : Fin 28) (d : Fin 160) (r : Fin 1024) :
    headVal a0 a1 a2 a3 a4 b h (p b h) d r
      = rOut (p b h) (rows4 p a0 b h) (rows4 p a2 b h) (rows3 p a1 b h) (rows3 p a3 b h) (rowsB p a4 b h) r d :=
  (wOut_eq (p b h) (hinj b h) (rows4 p a0 b h) (rows4 p a2 b h) (rows3 p a1 b h) (rows3 p a3 b h) (rowsB p a4 b h) d r)

/-- The kernel's array is the reference's result. -/
theorem outArr_eq (p : Fin 2 → Fin 28 → Fin 1024 → Fin 1024)
    (hp : ∀ b h r, (m ((c.tc : Thread nD τ).loc main_arg5) : Vec Ideal S2x28x1024 .i32) (ix3 b h r) = BitVec.ofNat 32 (p b h r).val)
    (hinj : ∀ b h, Function.Injective (p b h)) :
    (outArr m c : S2x1024x4480.Idx → EReal) = Cert.ReferenceIdeal.Read.val_main_v113 (F := Ideal)
      (m ((c.tc : Thread nD τ).loc main_arg1) : S2x1024x28.Idx → EReal) (m ((c.tc : Thread nD τ).loc main_arg3) : S2x1024x28.Idx → EReal)
      (m ((c.tc : Thread nD τ).loc main_arg4) : S2x28x1024.Idx → BitVec 32) (m ((c.tc : Thread nD τ).loc main_arg5) : S2x28x1024.Idx → BitVec 32)
      (m ((c.tc : Thread nD τ).loc main_arg0) : S2x1024x28x160.Idx → EReal) (m ((c.tc : Thread nD τ).loc main_arg2) : S2x1024x28x160.Idx → EReal) := by
  funext y
  obtain ⟨b, s, e, rfl⟩ : ∃ (b : Fin 2) (s : Fin 1024) (e : Fin 4480), y = ix3 b s e := ⟨y 0, y 1, y 2, (ix3_eta y).symm⟩
  have hb := b.isLt; have he := e.isLt
  obtain ⟨h, hh⟩ : ∃ h : Fin 28, h.val = e.val / 160 := ⟨⟨e.val / 160, by omega⟩, rfl⟩
  obtain ⟨d, hd⟩ : ∃ d : Fin 160, d.val = e.val % 160 := ⟨⟨e.val % 160, by omega⟩, rfl⟩
  obtain ⟨r, rfl⟩ := Finite.injective_iff_surjective.mp (hinj b h) s
  have hn : (pt (28 * b.val + e.val / 160)).val = 28 * b.val + h.val := by
    have := h.isLt
    show (28 * b.val + e.val / 160) % 56 = 28 * b.val + h.val
    omega
  have ed : (⟨e.val % 160, Nat.mod_lt _ (by norm_num)⟩ : Fin 160) = d := Fin.ext hd.symm
  rw [out_at, ed, outAt_apply m c _ b h hn (p b h) (fun r => hp b h r) (hinj b h) d r]
  refine (headVal_eq _ _ _ _ _ p hinj b h d r).trans ?_
  refine Eq.symm ((Cert.ReferenceIdeal.Hand.v113_at _ _ _ _ _ _ p hp hinj b h r d e (by omega)).trans ?_)
  exact Cert.ReferenceIdeal.Hand.v84_at _ _ _ _ _ _ p hp b h r d

end Cert.KernelIdeal.Hand

end
-- ==== Proof.RefCodes.lean ====
/-
  The reference's first step hands on the codes as the numbers they stand for, unchanged.
-/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

theorem idx0 (t : Fin cfg0.N) (a : Fin 4) : win0_0.index t a = 0 := rfl

theorem iblk0 (t : Fin cfg0.N) : (iblk m c 0 t : Vec Ideal S2x1024x28x160 .fp8e4m3) = (m ((c.tc : Thread nD τ).loc main_arg0) : Vec Ideal S2x1024x28x160 .fp8e4m3) := by
  refine Eq.trans (b := (V m c main_arg0 : Vec Ideal S2x1024x28x160 .fp8e4m3)) ?_ (V_main_arg0 m c)
  funext y
  obtain ⟨y0, y1, y2, y3, rfl⟩ : ∃ (y0 : Fin 2) (y1 : Fin 1024) (y2 : Fin 28) (y3 : Fin 160), y = ix4 y0 y1 y2 y3 := ⟨y 0, y 1, y 2, y 3, (ix4_eta y).symm⟩
  blk_ext [iblk, idx0 t]

theorem idx1 (t : Fin cfg0.N) (a : Fin 4) : win0_1.index t a = 0 := rfl

theorem iblk1 (t : Fin cfg0.N) : (iblk m c 1 t : Vec Ideal S2x1024x28x160 .fp8e4m3) = (m ((c.tc : Thread nD τ).loc main_arg2) : Vec Ideal S2x1024x28x160 .fp8e4m3) := by
  refine Eq.trans (b := (V m c main_arg2 : Vec Ideal S2x1024x28x160 .fp8e4m3)) ?_ (V_main_arg2 m c)
  funext y
  obtain ⟨y0, y1, y2, y3, rfl⟩ : ∃ (y0 : Fin 2) (y1 : Fin 1024) (y2 : Fin 28) (y3 : Fin 160), y = ix4 y0 y1 y2 y3 := ⟨y 0, y 1, y 2, y 3, (ix4_eta y).symm⟩
  blk_ext [iblk, idx1 t]

theorem out2 (x0 x1 : Vec Ideal S2x1024x28x160 .fp8e4m3) : (out0_2 x0 x1 : S2x1024x28x160.Idx → EReal) = x0 := by
  unfold out0_2
  rw [View.canon_cons_unit_lit _ _ _ (by decide), View.ld_unit_lit _ _ (by decide)]
  rfl

theorem out3 (x0 x1 : Vec Ideal S2x1024x28x160 .fp8e4m3) : (out0_3 x0 x1 : S2x1024x28x160.Idx → EReal) = x1 := by
  unfold out0_3
  rw [View.canon_cons_unit_lit _ _ _ (by decide), View.ld_unit_lit _ _ (by decide)]
  rfl

theorem idx2 (t : Fin cfg0.N) (a : Fin 4) : win0_2.index t a = 0 := rfl

theorem emb2 (t : Fin cfg0.N) (y : S2x1024x28x160.Idx) : ((win0_2.blk t).view.emb y : S2x1024x28x160.Idx) = y := by
  obtain ⟨y0, y1, y2, y3, rfl⟩ : ∃ (y0 : Fin 2) (y1 : Fin 1024) (y2 : Fin 28) (y3 : Fin 160), y = ix4 y0 y1 y2 y3 := ⟨y 0, y 1, y 2, y 3, (ix4_eta y).symm⟩
  blk_ext [idx2 t]

theorem idx3 (t : Fin cfg0.N) (a : Fin 4) : win0_3.index t a = 0 := rfl

theorem emb3 (t : Fin cfg0.N) (y : S2x1024x28x160.Idx) : ((win0_3.blk t).view.emb y : S2x1024x28x160.Idx) = y := by
  obtain ⟨y0, y1, y2, y3, rfl⟩ : ∃ (y0 : Fin 2) (y1 : Fin 1024) (y2 : Fin 28) (y3 : Fin 160), y = ix4 y0 y1 y2 y3 := ⟨y 0, y 1, y 2, y 3, (ix4_eta y).symm⟩
  blk_ext [idx3 t]

theorem reg0 : (Value.reg_main_v0_0 m c : S2x1024x28x160.Idx → EReal) = (m ((c.tc : Thread nD τ).loc main_arg0) : S2x1024x28x160.Idx → EReal) := by
  refine (dats m 0 c).arrAt_eq_of_covers 2 _ (by decide +kernel) fun t hf y => ?_
  refine Eq.trans (b := (out0_2 (iblk m c 0 t) (iblk m c 1 t) : S2x1024x28x160.Idx → EReal) y) (congrFun (after0_2 m c t) y) ?_
  rw [out2, iblk0]
  exact congrArg _ (emb2 t y).symm

theorem reg1 : (Value.reg_main_v0_1 m c : S2x1024x28x160.Idx → EReal) = (m ((c.tc : Thread nD τ).loc main_arg2) : S2x1024x28x160.Idx → EReal) := by
  refine (dats m 0 c).arrAt_eq_of_covers 3 _ (by decide +kernel) fun t hf y => ?_
  refine Eq.trans (b := (out0_3 (iblk m c 0 t) (iblk m c 1 t) : S2x1024x28x160.Idx → EReal) y) (congrFun (after0_3 m c t) y) ?_
  rw [out3, iblk1]
  exact congrArg _ (emb3 t y).symm

end Cert.ReferenceIdeal.Hand

end
-- ==== Proof.PermPre.lean ====
/-
  What the precondition says of the sorted order: in every batch and head its words are the positions 0 … 1023, each once.
-/
module

public import proofs.«01_k».proof.Pre_perm_permutes
public import Idealize.ShloMosaic.Lib.Pointwise

@[expose] public section

set_option maxRecDepth 16384

noncomputable section

namespace Cert.Pre_perm_permutes.Hand

open Cert.Pre_perm_permutes
open Idealize.ShloMosaic

theorem facts : Cert.Pre_perm_permutes.Facts := ⟨by decide, by decide, by decide, by decide, by decide⟩

section
variable [hF : Cert.Pre_perm_permutes.Facts]
variable (a0 a2 : FVec Ideal S2x1024x28x160 .fp8e4m3) (a1 a3 : FVec Ideal S2x1024x28 .f32) (a4 a5 : IVec S2x28x1024 32)

theorem range_at (b : Fin 2) (h : Fin 28) (r : Fin 1024) :
    (fn (F := Ideal) a0 a1 a2 a3 a4 a5).1 (ix3 b h r) = IntOp.andi (IntOp.cmpi .sge (a5 (ix3 b h r)) 0#32) (IntOp.cmpi .slt (a5 (ix3 b h r)) 1024#32) := by
  unfold fn
  pointwise

theorem distinct_at (b : Fin 2) (h : Fin 28) (r k : Fin 1024) :
    (fn (F := Ideal) a0 a1 a2 a3 a4 a5).2 (ix4 b h r k)
      = IntOp.ori (IntOp.cmpi .ne (a5 (ix3 b h r)) (a5 (ix3 b h k))) (IntOp.cmpi .eq (BitVec.ofNat 32 r.val) (BitVec.ofNat 32 k.val)) := by
  unfold fn
  pointwise

theorem ofBool_one (x : Bool) : BitVec.ofBool x = 1#1 ↔ x = true := by cases x <;> decide

theorem toInt_ofNat (n : ℕ) (h : n < 1024) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- The words are positions, -/
theorem range (h1 : (fn (F := Ideal) a0 a1 a2 a3 a4 a5).1 = fun _ => 1#1) (b : Fin 2) (h : Fin 28) (r : Fin 1024) :
    0 ≤ (a5 (ix3 b h r)).toInt ∧ (a5 (ix3 b h r)).toInt < 1024 := by
  have e := (range_at a0 a2 a1 a3 a4 a5 b h r).symm.trans (congrFun h1 (ix3 b h r))
  generalize a5 (ix3 b h r) = x at e ⊢
  have e' : BitVec.ofBool ((0#32).sle x) &&& BitVec.ofBool (x.slt 1024#32) = 1#1 := e
  have hs : (0#32).sle x = true ∧ x.slt 1024#32 = true := by
    revert e'
    cases (0#32).sle x <;> cases x.slt 1024#32 <;> decide
  have h2 := BitVec.sle_iff_toInt_le.mp hs.1
  have h3 := BitVec.slt_iff_toInt_lt.mp hs.2
  simp at h2 h3
  exact ⟨h2, h3⟩

/-- no two the same. -/
theorem distinct (h2 : (fn (F := Ideal) a0 a1 a2 a3 a4 a5).2 = fun _ => 1#1) (b : Fin 2) (h : Fin 28) (r k : Fin 1024)
    (he : a5 (ix3 b h r) = a5 (ix3 b h k)) : r = k := by
  have e := (distinct_at a0 a2 a1 a3 a4 a5 b h r k).symm.trans (congrFun h2 (ix4 b h r k))
  rw [he] at e
  generalize a5 (ix3 b h k) = x at e
  have e' : BitVec.ofBool (x != x) ||| BitVec.ofBool (BitVec.ofNat 32 r.val == BitVec.ofNat 32 k.val) = 1#1 := e
  rw [bne_self_eq_false] at e'
  have q : (BitVec.ofNat 32 r.val == BitVec.ofNat 32 k.val) = true := by
    revert e'
    cases (BitVec.ofNat 32 r.val == BitVec.ofNat 32 k.val) <;> decide
  have q' := congrArg BitVec.toNat (eq_of_beq q)
  rw [BitVec.toNat_ofNat, BitVec.toNat_ofNat, Nat.mod_eq_of_lt (by omega), Nat.mod_eq_of_lt (by omega)] at q'
  exact Fin.ext q'

/-- The order as a function on positions. -/
theorem order (h1 : (fn (F := Ideal) a0 a1 a2 a3 a4 a5).1 = fun _ => 1#1) (h2 : (fn (F := Ideal) a0 a1 a2 a3 a4 a5).2 = fun _ => 1#1) :
    ∃ p : Fin 2 → Fin 28 → Fin 1024 → Fin 1024,
      (∀ b h r, a5 (ix3 b h r) = BitVec.ofNat 32 (p b h r).val) ∧ ∀ b h, Function.Injective (p b h) := by
  have hr := range a0 a2 a1 a3 a4 a5 h1
  have hp : ∀ b h r, a5 (ix3 b h r) = BitVec.ofNat 32 (a5 (ix3 b h r)).toInt.toNat := fun b h r => by
    have := hr b h r
    refine BitVec.eq_of_toInt_eq ?_
    rw [toInt_ofNat _ (by omega), Int.toNat_of_nonneg this.1]
  refine ⟨fun b h r => ⟨(a5 (ix3 b h r)).toInt.toNat, by have := hr b h r; omega⟩, hp, fun b h r k he => ?_⟩
  refine distinct a0 a2 a1 a3 a4 a5 h2 b h r k ?_
  have e : (a5 (ix3 b h r)).toInt.toNat = (a5 (ix3 b h k)).toInt.toNat := congrArg Fin.val he
  rw [hp b h r, hp b h k, e]

end

end Cert.Pre_perm_permutes.Hand

end
-- ==== Proof.lean ====
module

public import proofs.«01_k».proof.Defs
public import proofs.«01_k».proof.Proof.BitsFrame
public import proofs.«01_k».proof.Proof.Algebraic
public import proofs.«01_k».proof.Proof.RefCodes
public import proofs.«01_k».proof.Proof.PermPre
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.Gen.ReferenceIdeal.Read
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's run: the result array, and the arguments unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v6) = Cert.KernelIdeal.Hand.outArr m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun _ h c => ⟨((h.1 c).1 6).trans (Cert.KernelIdeal.Hand.arr_eq m c), h.2.1 c⟩)
    (Idealize.ShloMosaic.θ_run_and (Cert.KernelIdeal.Hand.run_main m g) (Cert.KernelIdeal.Hand.frame m g))

/-- The reference's result, from the arguments. -/
theorem reference_result (m : (ℓ : Loc Cert.ReferenceIdeal.nD Cert.ReferenceIdeal.τ Cert.ReferenceIdeal.sig) → Buf (Elt Ideal) ℓ) (c : Dev Cert.ReferenceIdeal.nD) :
    (truncf .bf16 (shapeCast _ (Cert.ReferenceIdeal.Value.res_main_v111 (Cert.ReferenceIdeal.Value.exitV m c)) Cert.ReferenceIdeal.Gen.shapeCasts_S2x1024x28x160_S2x1024x4480) Cert.ReferenceIdeal.Gen.bitsLt_bf16_f32 : FVec Ideal Cert.ReferenceIdeal.S2x1024x4480 .bf16)
      = Cert.ReferenceIdeal.Read.val_main_v113 (F := Ideal)
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg0) : Cert.ReferenceIdeal.S2x1024x28x160.Idx → EReal)
        (m ((c.tc : Thread Cert.ReferenceIdeal.nD Cert.ReferenceIdeal.τ).loc Cert.ReferenceIdeal.main_arg2) : Cert.ReferenceIdeal.S2x1024x28x160.Idx → EReal) := by
  refine (Cert.ReferenceIdeal.Read.val_main_v113_eq (F := Ideal) (Cert.ReferenceIdeal.Value.exitV m c)).trans ?_
  rw [Cert.ReferenceIdeal.Value.exit_main_arg1, Cert.ReferenceIdeal.Value.exit_main_arg3, Cert.ReferenceIdeal.Value.exit_main_arg4,
    Cert.ReferenceIdeal.Value.exit_main_arg5, Cert.ReferenceIdeal.Value.exit_main_v0_0, Cert.ReferenceIdeal.Value.exit_main_v0_1]
  exact congrArg₂ (Cert.ReferenceIdeal.Read.val_main_v113 (F := Ideal) _ _ _ _) (Cert.ReferenceIdeal.Hand.reg0 m c) (Cert.ReferenceIdeal.Hand.reg1 m c)

theorem algebraic :
    Cert.algebraic_KernelIdeal_ReferenceIdeal_pre_perm_permutes (hKernelIdeal := Cert.KernelIdeal.Gen.facts) (hReferenceIdeal := Cert.ReferenceIdeal.Gen.facts) (hPre_perm_permutes := Cert.Pre_perm_permutes.Hand.facts) := by
  intro m g m' g' hpre hargs
  refine ⟨fun c => Cert.KernelIdeal.Hand.outArr m c, kernel_run m g, ?_⟩
  refine (θ_run _ _ _).mono (fun r h c => ⟨((h c).1.trans (reference_result m' c)).trans ?_, (h c).2⟩) (Cert.ReferenceIdeal.Value.run m' g')
  haveI := Cert.Pre_perm_permutes.Hand.facts
  obtain ⟨e0, e1, e2, e3, e4, e5⟩ := hargs c
  obtain ⟨p, hp, hinj⟩ := Cert.Pre_perm_permutes.Hand.order _ _ _ _ _ _ (hpre c).1 (hpre c).2
  rw [e0, e1, e2, e3, e4, e5]
  exact (Cert.KernelIdeal.Hand.outArr_eq m c p hp hinj).symm

theorem claim : Cert.Claim :=
  ⟨Cert.Kernel.Gen.facts, Cert.KernelIdeal.Gen.facts, Cert.ReferenceIdeal.Gen.facts, Cert.Pre_perm_permutes.Hand.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ,
    ⟨IdealRules.named_const.statement Cert.KernelIdeal.κ "inv_d" .f32 0x3BCCCCCD#32 ((1 / 160 : ℝ) : EReal) rfl,
      IdealRules.named_const.statement Cert.KernelIdeal.κ "scale_log2e" .f32 0x3DE995B3#32 (((Real.sqrt 160)⁻¹ * (Real.log 2)⁻¹ : ℝ) : EReal) rfl,
      IdealRules.named_const.statement Cert.KernelIdeal.κ "bucket_mask" .f32 0xCEABFB8F#32 (((-1000000000) * (Real.log 2)⁻¹ : ℝ) : EReal) rfl,
      IdealRules.named_const.statement Cert.KernelIdeal.κ "self_mask" .f32 0xC80CE360#32 (((-100000) * (Real.log 2)⁻¹ : ℝ) : EReal) rfl⟩,
    algebraic⟩

end Cert.Proof

end
